-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)) (v4 : (c : Dev Cert.KernelIdeal.nD) → Buf (Elt Ideal) ((c.tc : Thread Cert.KernelIdeal.nD Cert.KernelIdeal.τ).loc Cert.KernelIdeal.main_v46_4)) (v5 : (c : Dev Cert.KernelIdeal.nD) → Buf (Elt Ideal) ((c.tc : Thread Cert.KernelIdeal.nD Cert.KernelIdeal.τ).loc Cert.KernelIdeal.main_v46_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_v46_4) = v4 c
          ∧ r.2.mem ((c.tc : Thread Cert.KernelIdeal.nD Cert.KernelIdeal.τ).loc Cert.KernelIdeal.main_v46_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)) (v2 : (c : Dev Cert.Kernel8Ideal.nD) → Buf (Elt Ideal) ((c.tc : Thread Cert.Kernel8Ideal.nD Cert.Kernel8Ideal.τ).loc Cert.Kernel8Ideal.main_v16_2)) (v3 : (c : Dev Cert.Kernel8Ideal.nD) → Buf (Elt Ideal) ((c.tc : Thread Cert.Kernel8Ideal.nD Cert.Kernel8Ideal.τ).loc Cert.Kernel8Ideal.main_v16_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16_0) = v0 c
          ∧ r.2.mem ((c.tc : Thread Cert.Kernel8Ideal.nD Cert.Kernel8Ideal.τ).loc Cert.Kernel8Ideal.main_v16_1) = v1 c
          ∧ r.2.mem ((c.tc : Thread Cert.Kernel8Ideal.nD Cert.Kernel8Ideal.τ).loc Cert.Kernel8Ideal.main_v16_2) = v2 c
          ∧ r.2.mem ((c.tc : Thread Cert.Kernel8Ideal.nD Cert.Kernel8Ideal.τ).loc Cert.Kernel8Ideal.main_v16_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_v59) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v31_0)) (v1 : (c : Dev Cert.Kernel10Ideal.nD) → Buf (Elt Ideal) ((c.tc : Thread Cert.Kernel10Ideal.nD Cert.Kernel10Ideal.τ).loc Cert.Kernel10Ideal.main_v31_1)) (v2 : (c : Dev Cert.Kernel10Ideal.nD) → Buf (Elt Ideal) ((c.tc : Thread Cert.Kernel10Ideal.nD Cert.Kernel10Ideal.τ).loc Cert.Kernel10Ideal.main_v31_2)) (v3 : (c : Dev Cert.Kernel10Ideal.nD) → Buf (Elt Ideal) ((c.tc : Thread Cert.Kernel10Ideal.nD Cert.Kernel10Ideal.τ).loc Cert.Kernel10Ideal.main_v31_3)) (v4 : (c : Dev Cert.Kernel10Ideal.nD) → Buf (Elt Ideal) ((c.tc : Thread Cert.Kernel10Ideal.nD Cert.Kernel10Ideal.τ).loc Cert.Kernel10Ideal.main_v31_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v31_0) = v0 c
          ∧ r.2.mem ((c.tc : Thread Cert.Kernel10Ideal.nD Cert.Kernel10Ideal.τ).loc Cert.Kernel10Ideal.main_v31_1) = v1 c
          ∧ r.2.mem ((c.tc : Thread Cert.Kernel10Ideal.nD Cert.Kernel10Ideal.τ).loc Cert.Kernel10Ideal.main_v31_2) = v2 c
          ∧ r.2.mem ((c.tc : Thread Cert.Kernel10Ideal.nD Cert.Kernel10Ideal.τ).loc Cert.Kernel10Ideal.main_v31_3) = v3 c
          ∧ r.2.mem ((c.tc : Thread Cert.Kernel10Ideal.nD Cert.Kernel10Ideal.τ).loc Cert.Kernel10Ideal.main_v31_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v68) = v0 c
          ∧ r.2.mem ((c.tc : Thread Cert.Reference10Ideal.nD Cert.Reference10Ideal.τ).loc Cert.Reference10Ideal.main_v69) = v1 c
          ∧ r.2.mem ((c.tc : Thread Cert.Reference10Ideal.nD Cert.Reference10Ideal.τ).loc Cert.Reference10Ideal.main_v72) = v2 c
          ∧ r.2.mem ((c.tc : Thread Cert.Reference10Ideal.nD Cert.Reference10Ideal.τ).loc Cert.Reference10Ideal.main_v75) = v3 c
          ∧ r.2.mem ((c.tc : Thread Cert.Reference10Ideal.nD Cert.Reference10Ideal.τ).loc Cert.Reference10Ideal.main_v77) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S4224x1024 : Shape := ⟨2, ![4224, 1024]⟩
abbrev S4224x256 : Shape := ⟨2, ![4224, 256]⟩
abbrev S4224x512 : Shape := ⟨2, ![4224, 512]⟩
abbrev S4224x7328 : Shape := ⟨2, ![4224, 7328]⟩
abbrev S4096 : Shape := ⟨1, ![4096]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S4224x1280 : Shape := ⟨2, ![4224, 1280]⟩
abbrev S1280x1024 : Shape := ⟨2, ![1280, 1024]⟩
abbrev S4224x4096 : Shape := ⟨2, ![4224, 4096]⟩
abbrev S1x4096 : Shape := ⟨2, ![1, 4096]⟩
abbrev S_ : Shape := ⟨0, ![]⟩
abbrev S4224x4x1024 : Shape := ⟨3, ![4224, 4, 1024]⟩
abbrev S4224x1x1024 : Shape := ⟨3, ![4224, 1, 1024]⟩
abbrev S4224x384 : Shape := ⟨2, ![4224, 384]⟩
abbrev S4224x64 : Shape := ⟨2, ![4224, 64]⟩
abbrev S4224x32 : Shape := ⟨2, ![4224, 32]⟩
abbrev S4224x2304 : Shape := ⟨2, ![4224, 2304]⟩
abbrev S4224x7424 : Shape := ⟨2, ![4224, 7424]⟩
abbrev S1x1024 : Shape := ⟨2, ![1, 1024]⟩
abbrev S384x1024 : Shape := ⟨2, ![384, 1024]⟩
abbrev S384x1280 : Shape := ⟨2, ![384, 1280]⟩
abbrev S384x4096 : Shape := ⟨2, ![384, 4096]⟩
abbrev S384 : Shape := ⟨1, ![384]⟩
abbrev S384x1 : Shape := ⟨2, ![384, 1]⟩
abbrev S384x256 : Shape := ⟨2, ![384, 256]⟩
abbrev S384x512 : Shape := ⟨2, ![384, 512]⟩

abbrev nBuf : Space → Nat
  | .hbm => 69
  | .vmem => 22
  | .smem => 0
  | _ => 0

abbrev bufTy : (tb : Table) → Fin (tcTables nBuf tb) → BufTy
  | .hbm, ⟨0, _⟩ => ⟨S4224x1024, .f32⟩
  | .hbm, ⟨1, _⟩ => ⟨S4224x256, .f32⟩
  | .hbm, ⟨2, _⟩ => ⟨S4224x512, .f32⟩
  | .hbm, ⟨3, _⟩ => ⟨S4224x256, .f32⟩
  | .hbm, ⟨4, _⟩ => ⟨S4224x256, .f32⟩
  | .hbm, ⟨5, _⟩ => ⟨S4224x7328, .f32⟩
  | .hbm, ⟨6, _⟩ => ⟨S4096, .f32⟩
  | .hbm, ⟨7, _⟩ => ⟨S256x1024, .f32⟩
  | .hbm, ⟨8, _⟩ => ⟨S512x1024, .f32⟩
  | .hbm, ⟨9, _⟩ => ⟨S256x1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S4224x1280, .f32⟩
  | .hbm, ⟨14, _⟩ => ⟨S4224x1280, .bf16⟩
  | .hbm, ⟨15, _⟩ => ⟨S1280x1024, .f32⟩
  | .hbm, ⟨16, _⟩ => ⟨S1280x1024, .bf16⟩
  | .hbm, ⟨17, _⟩ => ⟨S4224x4096, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S1x4096, .f32⟩
  | .hbm, ⟨23, _⟩ => ⟨S4224x4096, .f32⟩
  | .hbm, ⟨24, _⟩ => ⟨S4224x4096, .f32⟩
  | .hbm, ⟨25, _⟩ => ⟨S4224x4096, .f32⟩
  | .hbm, ⟨26, _⟩ => ⟨S4224x4096, .f32⟩
  | .hbm, ⟨27, _⟩ => ⟨S_, .f32⟩
  | .hbm, ⟨28, _⟩ => ⟨S4224x4096, .f32⟩
  | .hbm, ⟨29, _⟩ => ⟨S4224x4096, .f32⟩
  | .hbm, ⟨30, _⟩ => ⟨S_, .f32⟩
  | .hbm, ⟨31, _⟩ => ⟨S4224x4096, .f32⟩
  | .hbm, ⟨32, _⟩ => ⟨S4224x4096, .f32⟩
  | .hbm, ⟨33, _⟩ => ⟨S4224x4x1024, .f32⟩
  | .hbm, ⟨34, _⟩ => ⟨S4224x1x1024, .f32⟩
  | .hbm, ⟨35, _⟩ => ⟨S4224x1024, .f32⟩
  | .hbm, ⟨36, _⟩ => ⟨S4224x1024, .f32⟩
  | .hbm, ⟨37, _⟩ => ⟨S4224x1x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x4096, .f32⟩
  | .hbm, ⟨51, _⟩ => ⟨S4224x384, .f32⟩
  | .hbm, ⟨52, _⟩ => ⟨S_, .f32⟩
  | .hbm, ⟨53, _⟩ => ⟨S4224x64, .f32⟩
  | .hbm, ⟨54, _⟩ => ⟨S4224x32, .f32⟩
  | .hbm, ⟨55, _⟩ => ⟨S_, .f32⟩
  | .hbm, ⟨56, _⟩ => ⟨S4224x32, .f32⟩
  | .hbm, ⟨57, _⟩ => ⟨S4224x512, .f32⟩
  | .hbm, ⟨58, _⟩ => ⟨S4224x2304, .f32⟩
  | .hbm, ⟨59, _⟩ => ⟨S4224x7424, .f32⟩
  | .hbm, ⟨60, _⟩ => ⟨S1x4096, .f32⟩
  | .hbm, ⟨61, _⟩ => ⟨S1024x1024, .bf16⟩
  | .hbm, ⟨62, _⟩ => ⟨S1x1024, .f32⟩
  | .hbm, ⟨63, _⟩ => ⟨S4224x1024, .bf16⟩
  | .hbm, ⟨64, _⟩ => ⟨S4224x4096, .bf16⟩
  | .hbm, ⟨65, _⟩ => ⟨S4224x4096, .bf16⟩
  | .hbm, ⟨66, _⟩ => ⟨S4224x1280, .f32⟩
  | .hbm, ⟨67, _⟩ => ⟨S1x4096, .f32⟩
  | .hbm, ⟨68, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1280, .bf16⟩
  | .local _ .vmem, ⟨5, _⟩ => ⟨S384x1280, .bf16⟩
  | .local _ .vmem, ⟨6, _⟩ => ⟨S384x4096, .f32⟩
  | .local _ .vmem, ⟨7, _⟩ => ⟨S384x4096, .f32⟩
  | .local _ .vmem, ⟨8, _⟩ => ⟨S1x4096, .f32⟩
  | .local _ .vmem, ⟨9, _⟩ => ⟨S1280x1024, .bf16⟩
  | .local _ .vmem, ⟨10, _⟩ => ⟨S1024x1024, .bf16⟩
  | .local _ .vmem, ⟨11, _⟩ => ⟨S1x1024, .f32⟩
  | .local _ .vmem, ⟨12, _⟩ => ⟨S384x1024, .bf16⟩
  | .local _ .vmem, ⟨13, _⟩ => ⟨S384x1024, .bf16⟩
  | .local _ .vmem, ⟨14, _⟩ => ⟨S384x4096, .bf16⟩
  | .local _ .vmem, ⟨15, _⟩ => ⟨S384x4096, .bf16⟩
  | .local _ .vmem, ⟨16, _⟩ => ⟨S384x4096, .bf16⟩
  | .local _ .vmem, ⟨17, _⟩ => ⟨S384x4096, .bf16⟩
  | .local _ .vmem, ⟨18, _⟩ => ⟨S384x1280, .f32⟩
  | .local _ .vmem, ⟨19, _⟩ => ⟨S384x1280, .f32⟩
  | .local _ .vmem, ⟨20, _⟩ => ⟨S1x4096, .f32⟩
  | .local _ .vmem, ⟨21, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_1 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46_0 : Ref sig .tc := ⟨.hbm, 63, rfl⟩
abbrev main_v46_1 : Ref sig .tc := ⟨.hbm, 64, rfl⟩
abbrev main_v46_2 : Ref sig .tc := ⟨.hbm, 65, rfl⟩
abbrev main_v46_3 : Ref sig .tc := ⟨.hbm, 66, rfl⟩
abbrev main_v46_4 : Ref sig .tc := ⟨.hbm, 67, rfl⟩
abbrev main_v46_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_28 : BitVec 32 := 0#32
  let v62 : BitVec 1 := Scalar.cmpi .ne v61 c0_i32_28
  v62

def k0_cond2 (i : grid0.Coords) : BitVec 1 :=
  let arg0 : BitVec 32 := BitVec.ofNat 32 (i 0).val
  let c0_i32_29 : BitVec 32 := 0#32
  let v63 : BitVec 1 := Scalar.cmpi .sgt arg0 c0_i32_29
  let v64 : BitVec 32 := Scalar.extui v63
  let c0_i32_30 : BitVec 32 := 0#32
  let v65 : BitVec 1 := Scalar.cmpi .ne v64 c0_i32_30
  v65

def k0_cond3 (i : grid0.Coords) : BitVec 1 :=
  let arg0 : BitVec 32 := BitVec.ofNat 32 (i 0).val
  let c0_i32_49 : BitVec 32 := 0#32
  let v94 : BitVec 1 := Scalar.cmpi .eq arg0 c0_i32_49
  let v95 : BitVec 32 := Scalar.extui v94
  let c0_i32_50 : BitVec 32 := 0#32
  let v96 : BitVec 1 := Scalar.cmpi .ne v95 c0_i32_50
  v96

def k0_cond4 (i : grid0.Coords) : BitVec 1 :=
  let arg0 : BitVec 32 := BitVec.ofNat 32 (i 0).val
  let c0_i32_51 : BitVec 32 := 0#32
  let v97 : BitVec 1 := Scalar.cmpi .sgt arg0 c0_i32_51
  let v98 : BitVec 32 := Scalar.extui v97
  let c0_i32_52 : BitVec 32 := 0#32
  let v99 : BitVec 1 := Scalar.cmpi .ne v98 c0_i32_52
  v99

def k0_cond5 (i : grid0.Coords) : BitVec 1 :=
  let arg0 : BitVec 32 := BitVec.ofNat 32 (i 0).val
  let c0_i32_71 : BitVec 32 := 0#32
  let v128 : BitVec 1 := Scalar.cmpi .eq arg0 c0_i32_71
  let v129 : BitVec 32 := Scalar.extui v128
  let c0_i32_72 : BitVec 32 := 0#32
  let v130 : BitVec 1 := Scalar.cmpi .ne v129 c0_i32_72
  v130

def k0_cond6 (i : grid0.Coords) : BitVec 1 :=
  let arg0 : BitVec 32 := BitVec.ofNat 32 (i 0).val
  let c0_i32_73 : BitVec 32 := 0#32
  let v131 : BitVec 1 := Scalar.cmpi .sgt arg0 c0_i32_73
  let v132 : BitVec 32 := Scalar.extui v131
  let c0_i32_74 : BitVec 32 := 0#32
  let v133 : BitVec 1 := Scalar.cmpi .ne v132 c0_i32_74
  v133

def k0_cond7 (i : grid0.Coords) : BitVec 1 :=
  let arg0 : BitVec 32 := BitVec.ofNat 32 (i 0).val
  let c0_i32_94 : BitVec 32 := 0#32
  let v162 : BitVec 1 := Scalar.cmpi .eq arg0 c0_i32_94
  let v163 : BitVec 32 := Scalar.extui v162
  let c0_i32_95 : BitVec 32 := 0#32
  let v164 : BitVec 1 := Scalar.cmpi .ne v163 c0_i32_95
  v164

def k0_cond8 (i : grid0.Coords) : BitVec 1 :=
  let arg0 : BitVec 32 := BitVec.ofNat 32 (i 0).val
  let c0_i32_96 : BitVec 32 := 0#32
  let v165 : BitVec 1 := Scalar.cmpi .sgt arg0 c0_i32_96
  let v166 : BitVec 32 := Scalar.extui v165
  let c0_i32_97 : BitVec 32 := 0#32
  let v167 : BitVec 1 := Scalar.cmpi .ne v166 c0_i32_97
  v167

def k0_cond9 (i : grid0.Coords) : BitVec 1 :=
  let arg0 : BitVec 32 := BitVec.ofNat 32 (i 0).val
  let c0_i32_105 : BitVec 32 := 0#32
  let v175 : BitVec 1 := Scalar.cmpi .eq arg0 c0_i32_105
  let v176 : BitVec 32 := Scalar.extui v175
  let c0_i32_106 : BitVec 32 := 0#32
  let v177 : BitVec 1 := Scalar.cmpi .ne v176 c0_i32_106
  v177

def k0_cond10 (i : grid0.Coords) : BitVec 1 :=
  let arg0 : BitVec 32 := BitVec.ofNat 32 (i 0).val
  let c0_i32_107 : BitVec 32 := 0#32
  let v178 : BitVec 1 := Scalar.cmpi .sgt arg0 c0_i32_107
  let v179 : BitVec 32 := Scalar.extui v178
  let c0_i32_108 : BitVec 32 := 0#32
  let v180 : BitVec 1 := Scalar.cmpi .ne v179 c0_i32_108
  v180

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1280 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4224x1024 : Shape := ⟨2, ![4224, 1024]⟩
abbrev S4224x256 : Shape := ⟨2, ![4224, 256]⟩
abbrev S4224x512 : Shape := ⟨2, ![4224, 512]⟩
abbrev S4224x7328 : Shape := ⟨2, ![4224, 7328]⟩
abbrev S4096 : Shape := ⟨1, ![4096]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S4224x4096 : Shape := ⟨2, ![4224, 4096]⟩
abbrev S1x4096 : Shape := ⟨2, ![1, 4096]⟩
abbrev S_ : Shape := ⟨0, ![]⟩
abbrev S4224x4x1024 : Shape := ⟨3, ![4224, 4, 1024]⟩
abbrev S4224x1x1024 : Shape := ⟨3, ![4224, 1, 1024]⟩
abbrev S4224 : Shape := ⟨1, ![4224]⟩
abbrev S4224x1 : Shape := ⟨2, ![4224, 1]⟩
abbrev S1x1024 : Shape := ⟨2, ![1, 1024]⟩
abbrev S4224x1280 : Shape := ⟨2, ![4224, 1280]⟩

abbrev nBuf : Space → Nat
  | .hbm => 137
  | .vmem => 0
  | .smem => 0
  | _ => 0

abbrev hbmTy0_0 (i : Nat) : BufTy := match i % 128 with
  | 0 => ⟨S4224x1024, .f32⟩
  | 1 => ⟨S4224x256, .f32⟩
  | 2 => ⟨S4224x512, .f32⟩
  | 3 => ⟨S4224x256, .f32⟩
  | 4 => ⟨S4224x256, .f32⟩
  | 5 => ⟨S4224x7328, .f32⟩
  | 6 => ⟨S4096, .f32⟩
  | 7 => ⟨S256x1024, .f32⟩
  | 8 => ⟨S512x1024, .f32⟩
  | 9 => ⟨S256x1024, .f32⟩
  | 10 => ⟨S256x1024, .f32⟩
  | 11 => ⟨S1024x1024, .f32⟩
  | 12 => ⟨S1024, .f32⟩
  | 13 => ⟨S4224x1024, .f32⟩
  | 14 => ⟨S4224x1024, .f32⟩
  | 15 => ⟨S4224x1024, .f32⟩
  | 16 => ⟨S4224x1024, .f32⟩
  | 17 => ⟨S4224x4096, .f32⟩
  | 18 => ⟨S1x4096, .f32⟩
  | 19 => ⟨S4224x4096, .f32⟩
  | 20 => ⟨S4224x4096, .f32⟩
  | 21 => ⟨S4224x4096, .f32⟩
  | 22 => ⟨S4224x4096, .f32⟩
  | 23 => ⟨S_, .f32⟩
  | 24 => ⟨S4224x4096, .f32⟩
  | 25 => ⟨S4224x4096, .f32⟩
  | 26 => ⟨S_, .f32⟩
  | 27 => ⟨S4224x4096, .f32⟩
  | 28 => ⟨S4224x4096, .f32⟩
  | 29 => ⟨S_, .f32⟩
  | 30 => ⟨S4224x4096, .f32⟩
  | 31 => ⟨S4224x4096, .f32⟩
  | 32 => ⟨S4224x4096, .f32⟩
  | 33 => ⟨S4224x4x1024, .f32⟩
  | 34 => ⟨S4224x1x1024, .f32⟩
  | 35 => ⟨S4224x1024, .f32⟩
  | 36 => ⟨S4224x1024, .f32⟩
  | 37 => ⟨S4224x1x1024, .f32⟩
  | 38 => ⟨S4224x1024, .f32⟩
  | 39 => ⟨S4224x1024, .f32⟩
  | 40 => ⟨S4224x1024, .f32⟩
  | 41 => ⟨S4224x1x1024, .f32⟩
  | 42 => ⟨S4224x1024, .f32⟩
  | 43 => ⟨S4224x1024, .f32⟩
  | 44 => ⟨S4224x1024, .f32⟩
  | 45 => ⟨S4224x1x1024, .f32⟩
  | 46 => ⟨S4224x1024, .f32⟩
  | 47 => ⟨S4224x1024, .f32⟩
  | 48 => ⟨S4224x1024, .f32⟩
  | 49 => ⟨S4224x1024, .f32⟩
  | 50 => ⟨S4224x1024, .f32⟩
  | 51 => ⟨S_, .f32⟩
  | 52 => ⟨S4224, .f32⟩
  | 53 => ⟨S4224x1, .f32⟩
  | 54 => ⟨S_, .f32⟩
  | 55 => ⟨S4224x1, .f32⟩
  | 56 => ⟨S4224x1, .f32⟩
  | 57 => ⟨S_, .f32⟩
  | 58 => ⟨S4224x1, .f32⟩
  | 59 => ⟨S4224x1, .f32⟩
  | 60 => ⟨S4224x1, .f32⟩
  | 61 => ⟨S4224x1, .f32⟩
  | 62 => ⟨S_, .f32⟩
  | 63 => ⟨S4224x1, .f32⟩
  | 64 => ⟨S4224x1, .f32⟩
  | 65 => ⟨S4224x1024, .f32⟩
  | 66 => ⟨S4224x1024, .f32⟩
  | 67 => ⟨S1x1024, .f32⟩
  | 68 => ⟨S4224x1024, .f32⟩
  | 69 => ⟨S4224x1024, .f32⟩
  | 70 => ⟨S4224x1024, .f32⟩
  | 71 => ⟨S_, .f32⟩
  | 72 => ⟨S1024, .f32⟩
  | 73 => ⟨S1x1024, .f32⟩
  | 74 => ⟨S4224x1024, .f32⟩
  | 75 => ⟨S4224x1024, .f32⟩
  | 76 => ⟨S_, .f32⟩
  | 77 => ⟨S1024, .f32⟩
  | 78 => ⟨S4224x1024, .f32⟩
  | 79 => ⟨S_, .f32⟩
  | 80 => ⟨S4224, .f32⟩
  | 81 => ⟨S4224x1, .f32⟩
  | 82 => ⟨S4224x1024, .f32⟩
  | 83 => ⟨S4224x1024, .f32⟩
  | 84 => ⟨S4224x1, .f32⟩
  | 85 => ⟨S_, .f32⟩
  | 86 => ⟨S4224x1, .f32⟩
  | 87 => ⟨S4224x1, .f32⟩
  | 88 => ⟨S_, .f32⟩
  | 89 => ⟨S4224, .f32⟩
  | 90 => ⟨S4224x1024, .f32⟩
  | 91 => ⟨S4224x1024, .f32⟩
  | 92 => ⟨S4224x1024, .f32⟩
  | 93 => ⟨S4224x1024, .f32⟩
  | 94 => ⟨S4224x1024, .f32⟩
  | 95 => ⟨S4224x1024, .f32⟩
  | 96 => ⟨S4224x1024, .f32⟩
  | 97 => ⟨S4224x1024, .f32⟩
  | 98 => ⟨S4224x1x1024, .f32⟩
  | 99 => ⟨S_, .f32⟩
  | 100 => ⟨S4224x4x1024, .f32⟩
  | 101 => ⟨S4224x1024, .f32⟩
  | 102 => ⟨S4224x1024, .f32⟩
  | 103 => ⟨S4224x1x1024, .f32⟩
  | 104 => ⟨S_, .f32⟩
  | 105 => ⟨S4224x4x1024, .f32⟩
  | 106 => ⟨S4224x4x1024, .f32⟩
  | 107 => ⟨S4224x1024, .f32⟩
  | 108 => ⟨S4224x1024, .f32⟩
  | 109 => ⟨S4224x1x1024, .f32⟩
  | 110 => ⟨S_, .f32⟩
  | 111 => ⟨S4224x4x1024, .f32⟩
  | 112 => ⟨S4224x4x1024, .f32⟩
  | 113 => ⟨S4224x1024, .f32⟩
  | 114 => ⟨S4224x1024, .f32⟩
  | 115 => ⟨S4224x1x1024, .f32⟩
  | 116 => ⟨S_, .f32⟩
  | 117 => ⟨S4224x4x1024, .f32⟩
  | 118 => ⟨S4224x4x1024, .f32⟩
  | 119 => ⟨S4224x4096, .f32⟩
  | 120 => ⟨S4224x4096, .f32⟩
  | 121 => ⟨S_, .f32⟩
  | 122 => ⟨S4096, .f32⟩
  | 123 => ⟨S1x4096, .f32⟩
  | 124 => ⟨S_, .f32⟩
  | 125 => ⟨S4096, .f32⟩
  | 126 => ⟨S4224x256, .f32⟩
  | 127 => ⟨S4224x256, .f32⟩
  | _ => ⟨S4224x1024, .f32⟩

abbrev hbmTy0_1 (i : Nat) : BufTy := match i % 128 with
  | 0 => ⟨S4224x512, .f32⟩
  | 1 => ⟨S4224x256, .f32⟩
  | 2 => ⟨S4224x1280, .f32⟩
  | 3 => ⟨S4224x1024, .bf16⟩
  | 4 => ⟨S4224x4096, .bf16⟩
  | 5 => ⟨S4224x4096, .f32⟩
  | 6 => ⟨S4224x4096, .bf16⟩
  | 7 => ⟨S1x4096, .f32⟩
  | 8 => ⟨S1x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_14 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_cst_16 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== Kernel2.lean ====
abbrev S4224x7328 : Shape := ⟨2, ![4224, 7328]⟩
abbrev S4224x1024 : Shape := ⟨2, ![4224, 1024]⟩
abbrev S1024 : Shape := ⟨1, ![1024]⟩
abbrev S1024x7328 : Shape := ⟨2, ![1024, 7328]⟩
abbrev S4224x4096 : Shape := ⟨2, ![4224, 4096]⟩
abbrev S4224x384 : Shape := ⟨2, ![4224, 384]⟩
abbrev S_ : Shape := ⟨0, ![]⟩
abbrev S4224x64 : Shape := ⟨2, ![4224, 64]⟩
abbrev S4224x32 : Shape := ⟨2, ![4224, 32]⟩
abbrev S4224x512 : Shape := ⟨2, ![4224, 512]⟩
abbrev S4224x2304 : Shape := ⟨2, ![4224, 2304]⟩
abbrev S4224x7424 : Shape := ⟨2, ![4224, 7424]⟩
abbrev S4224x2816 : Shape := ⟨2, ![4224, 2816]⟩
abbrev S1024x4096 : Shape := ⟨2, ![1024, 4096]⟩
abbrev S1024x384 : Shape := ⟨2, ![1024, 384]⟩
abbrev S1024x64 : Shape := ⟨2, ![1024, 64]⟩
abbrev S1024x32 : Shape := ⟨2, ![1024, 32]⟩
abbrev S1024x512 : Shape := ⟨2, ![1024, 512]⟩
abbrev S1024x2304 : Shape := ⟨2, ![1024, 2304]⟩
abbrev S1024x7424 : Shape := ⟨2, ![1024, 7424]⟩
abbrev S1x1024 : Shape := ⟨2, ![1, 1024]⟩
abbrev S384x4096 : Shape := ⟨2, ![384, 4096]⟩
abbrev S384x512 : Shape := ⟨2, ![384, 512]⟩
abbrev S384x2816 : Shape := ⟨2, ![384, 2816]⟩
abbrev S384x1024 : Shape := ⟨2, ![384, 1024]⟩
abbrev S1024x2816 : Shape := ⟨2, ![1024, 2816]⟩
abbrev S384 : Shape := ⟨1, ![384]⟩
abbrev S384x1 : Shape := ⟨2, ![384, 1]⟩

abbrev nBuf : Space → Nat
  | .hbm => 33
  | .vmem => 15
  | .smem => 0
  | _ => 0

abbrev bufTy : (tb : Table) → Fin (tcTables nBuf tb) → BufTy
  | .hbm, ⟨0, _⟩ => ⟨S4224x7328, .f32⟩
  | .hbm, ⟨1, _⟩ => ⟨S4224x1024, .f32⟩
  | .hbm, ⟨2, _⟩ => ⟨S1024, .f32⟩
  | .hbm, ⟨3, _⟩ => ⟨S1024x7328, .f32⟩
  | .hbm, ⟨4, _⟩ => ⟨S4224x1024, .f32⟩
  | .hbm, ⟨5, _⟩ => ⟨S4224x4096, .f32⟩
  | .hbm, ⟨6, _⟩ => ⟨S4224x384, .f32⟩
  | .hbm, ⟨7, _⟩ => ⟨S_, .f32⟩
  | .hbm, ⟨8, _⟩ => ⟨S4224x64, .f32⟩
  | .hbm, ⟨9, _⟩ => ⟨S4224x32, .f32⟩
  | .hbm, ⟨10, _⟩ => ⟨S_, .f32⟩
  | .hbm, ⟨11, _⟩ => ⟨S4224x32, .f32⟩
  | .hbm, ⟨12, _⟩ => ⟨S4224x512, .f32⟩
  | .hbm, ⟨13, _⟩ => ⟨S4224x2304, .f32⟩
  | .hbm, ⟨14, _⟩ => ⟨S4224x7424, .f32⟩
  | .hbm, ⟨15, _⟩ => ⟨S4224x7424, .bf16⟩
  | .hbm, ⟨16, _⟩ => ⟨S4224x4096, .bf16⟩
  | .hbm, ⟨17, _⟩ => ⟨S4224x512, .bf16⟩
  | .hbm, ⟨18, _⟩ => ⟨S4224x2816, .bf16⟩
  | .hbm, ⟨19, _⟩ => ⟨S1024x4096, .f32⟩
  | .hbm, ⟨20, _⟩ => ⟨S1024x384, .f32⟩
  | .hbm, ⟨21, _⟩ => ⟨S_, .f32⟩
  | .hbm, ⟨22, _⟩ => ⟨S1024x64, .f32⟩
  | .hbm, ⟨23, _⟩ => ⟨S1024x32, .f32⟩
  | .hbm, ⟨24, _⟩ => ⟨S_, .f32⟩
  | .hbm, ⟨25, _⟩ => ⟨S1024x32, .f32⟩
  | .hbm, ⟨26, _⟩ => ⟨S1024x512, .f32⟩
  | .hbm, ⟨27, _⟩ => ⟨S1024x2304, .f32⟩
  | .hbm, ⟨28, _⟩ => ⟨S1024x7424, .f32⟩
  | .hbm, ⟨29, _⟩ => ⟨S1024x7424, .bf16⟩
  | .hbm, ⟨30, _⟩ => ⟨S1x1024, .f32⟩
  | .hbm, ⟨31, _⟩ => ⟨S4224x1024, .f32⟩
  | .hbm, ⟨32, _⟩ => ⟨S1x1024, .f32⟩
  | .local _ .vmem, ⟨0, _⟩ => ⟨S384x4096, .bf16⟩
  | .local _ .vmem, ⟨1, _⟩ => ⟨S384x4096, .bf16⟩
  | .local _ .vmem, ⟨2, _⟩ => ⟨S384x512, .bf16⟩
  | .local _ .vmem, ⟨3, _⟩ => ⟨S384x512, .bf16⟩
  | .local _ .vmem, ⟨4, _⟩ => ⟨S384x2816, .bf16⟩
  | .local _ .vmem, ⟨5, _⟩ => ⟨S384x2816, .bf16⟩
  | .local _ .vmem, ⟨6, _⟩ => ⟨S1024x7424, .bf16⟩
  | .local _ .vmem, ⟨7, _⟩ => ⟨S384x1024, .f32⟩
  | .local _ .vmem, ⟨8, _⟩ => ⟨S384x1024, .f32⟩
  | .local _ .vmem, ⟨9, _⟩ => ⟨S1x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S1x1024, .f32⟩
  | _, _ => ⟨S4224x7328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_25 : BitVec 32 := 0#32
  let v54 : BitVec 1 := Scalar.cmpi .ne v53 c0_i32_25
  v54

def k0_cond2 (i : grid0.Coords) : BitVec 1 :=
  let arg0 : BitVec 32 := BitVec.ofNat 32 (i 0).val
  let c0_i32_26 : BitVec 32 := 0#32
  let v55 : BitVec 1 := Scalar.cmpi .sgt arg0 c0_i32_26
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x7424 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4224x7328 : Shape := ⟨2, ![4224, 7328]⟩
abbrev S4224x1024 : Shape := ⟨2, ![4224, 1024]⟩
abbrev S1024 : Shape := ⟨1, ![1024]⟩
abbrev S1024x7328 : Shape := ⟨2, ![1024, 7328]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4224x7328, .f32⟩
  | .hbm, ⟨1, _⟩ => ⟨S4224x1024, .f32⟩
  | .hbm, ⟨2, _⟩ => ⟨S1024, .f32⟩
  | .hbm, ⟨3, _⟩ => ⟨S1024x7328, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x7328, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1, .f32⟩
  | .hbm, ⟨42, _⟩ => ⟨S_, .f32⟩
  | .hbm, ⟨43, _⟩ => ⟨S4224x1, .f32⟩
  | .hbm, ⟨44, _⟩ => ⟨S4224x1, .f32⟩
  | .hbm, ⟨45, _⟩ => ⟨S_, .f32⟩
  | .hbm, ⟨46, _⟩ => ⟨S4224, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S1x1024, .f32⟩
  | _, _ => ⟨S4224x7328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S4224x1024 : Shape := ⟨2, ![4224, 1024]⟩
abbrev S4224x7328 : Shape := ⟨2, ![4224, 7328]⟩
abbrev S4224x4096 : Shape := ⟨2, ![4224, 4096]⟩
abbrev S1024x4096 : Shape := ⟨2, ![1024, 4096]⟩
abbrev S1408x1024 : Shape := ⟨2, ![1408, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x7328, .f32⟩
  | .hbm, ⟨2, _⟩ => ⟨S4224x1024, .bf16⟩
  | .hbm, ⟨3, _⟩ => ⟨S4224x4096, .f32⟩
  | .hbm, ⟨4, _⟩ => ⟨S4224x4096, .bf16⟩
  | .hbm, ⟨5, _⟩ => ⟨S1024x4096, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x1024 : Shape := ⟨2, ![4224, 1024]⟩
abbrev S4224x7328 : Shape := ⟨2, ![4224, 7328]⟩
abbrev S_ : Shape := ⟨0, ![]⟩
abbrev S1024x7328 : Shape := ⟨2, ![1024, 7328]⟩
abbrev S7328x1024 : Shape := ⟨2, ![7328, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x7328, .f32⟩
  | .hbm, ⟨2, _⟩ => ⟨S_, .f32⟩
  | .hbm, ⟨3, _⟩ => ⟨S1024x7328, .f32⟩
  | .hbm, ⟨4, _⟩ => ⟨S4224x7328, .f32⟩
  | .hbm, ⟨5, _⟩ => ⟨S7328x1024, .f32⟩
  | .hbm, ⟨6, _⟩ => ⟨S1024x7328, .f32⟩
  | .hbm, ⟨7, _⟩ => ⟨S1024x4096, .f32⟩
  | .hbm, ⟨8, _⟩ => ⟨S1024x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4224x1024 : Shape := ⟨2, ![4224, 1024]⟩
abbrev S4224x7328 : Shape := ⟨2, ![4224, 7328]⟩
abbrev S4224x512 : Shape := ⟨2, ![4224, 512]⟩
abbrev S4224x2304 : Shape := ⟨2, ![4224, 2304]⟩
abbrev S4224x2816 : Shape := ⟨2, ![4224, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x7328, .f32⟩
  | .hbm, ⟨2, _⟩ => ⟨S4224x512, .f32⟩
  | .hbm, ⟨3, _⟩ => ⟨S4224x2304, .f32⟩
  | .hbm, ⟨4, _⟩ => ⟨S4224x2816, .f32⟩
  | .hbm, ⟨5, _⟩ => ⟨S4224x1024, .bf16⟩
  | .hbm, ⟨6, _⟩ => ⟨S4224x2816, .bf16⟩
  | .hbm, ⟨7, _⟩ => ⟨S1024x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x1024 : Shape := ⟨2, ![4224, 1024]⟩
abbrev S4224x7328 : Shape := ⟨2, ![4224, 7328]⟩
abbrev S_ : Shape := ⟨0, ![]⟩
abbrev S1024x7328 : Shape := ⟨2, ![1024, 7328]⟩
abbrev S7328x1024 : Shape := ⟨2, ![7328, 1024]⟩
abbrev S1024x512 : Shape := ⟨2, ![1024, 512]⟩
abbrev S1024x2304 : Shape := ⟨2, ![1024, 2304]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x7328, .f32⟩
  | .hbm, ⟨2, _⟩ => ⟨S_, .f32⟩
  | .hbm, ⟨3, _⟩ => ⟨S1024x7328, .f32⟩
  | .hbm, ⟨4, _⟩ => ⟨S4224x7328, .f32⟩
  | .hbm, ⟨5, _⟩ => ⟨S7328x1024, .f32⟩
  | .hbm, ⟨6, _⟩ => ⟨S1024x7328, .f32⟩
  | .hbm, ⟨7, _⟩ => ⟨S1024x512, .f32⟩
  | .hbm, ⟨8, _⟩ => ⟨S1024x2304, .f32⟩
  | .hbm, ⟨9, _⟩ => ⟨S1024x2816, .f32⟩
  | .hbm, ⟨10, _⟩ => ⟨S1024x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4224x256 : Shape := ⟨2, ![4224, 256]⟩
abbrev S4224x512 : Shape := ⟨2, ![4224, 512]⟩
abbrev S4224x4096 : Shape := ⟨2, ![4224, 4096]⟩
abbrev S4224x1280 : Shape := ⟨2, ![4224, 1280]⟩
abbrev S1280x1024 : Shape := ⟨2, ![1280, 1024]⟩
abbrev S1408x1280 : Shape := ⟨2, ![1408, 1280]⟩
abbrev S1408x4096 : Shape := ⟨2, ![1408, 4096]⟩
abbrev S1408x256 : Shape := ⟨2, ![1408, 256]⟩
abbrev S1408x1024 : Shape := ⟨2, ![1408, 1024]⟩
abbrev S256x1024 : Shape := ⟨2, ![256, 1024]⟩
abbrev S1408x512 : Shape := ⟨2, ![1408, 512]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4224x256, .f32⟩
  | .hbm, ⟨1, _⟩ => ⟨S4224x512, .f32⟩
  | .hbm, ⟨2, _⟩ => ⟨S4224x256, .f32⟩
  | .hbm, ⟨3, _⟩ => ⟨S4224x256, .f32⟩
  | .hbm, ⟨4, _⟩ => ⟨S4224x4096, .f32⟩
  | .hbm, ⟨5, _⟩ => ⟨S4224x1280, .f32⟩
  | .hbm, ⟨6, _⟩ => ⟨S4224x1280, .bf16⟩
  | .hbm, ⟨7, _⟩ => ⟨S4224x4096, .bf16⟩
  | .hbm, ⟨8, _⟩ => ⟨S1280x1024, .bf16⟩
  | .local _ .vmem, ⟨0, _⟩ => ⟨S1408x1280, .bf16⟩
  | .local _ .vmem, ⟨1, _⟩ => ⟨S1408x1280, .bf16⟩
  | .local _ .vmem, ⟨2, _⟩ => ⟨S1408x4096, .bf16⟩
  | .local _ .vmem, ⟨3, _⟩ => ⟨S1408x4096, .bf16⟩
  | .local _ .vmem, ⟨4, _⟩ => ⟨S1280x1024, .bf16⟩
  | .local _ .vmem, ⟨5, _⟩ => ⟨S1280x1024, .f32⟩
  | _, _ => ⟨S4224x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![3], ![false]⟩

def k0_cond9 (i : grid0.Coords) : BitVec 1 :=
  let arg0 : BitVec 32 := BitVec.ofNat 32 (i 0).val
  let c2_i32 : BitVec 32 := 2#32
  let v44 : BitVec 1 := Scalar.cmpi .eq arg0 c2_i32
  let v45 : BitVec 32 := Scalar.extui v44
  let c0_i32_28 : BitVec 32 := 0#32
  let v46 : BitVec 1 := Scalar.cmpi .ne v45 c0_i32_28
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1408x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S4224x256 : Shape := ⟨2, ![4224, 256]⟩
abbrev S4224x512 : Shape := ⟨2, ![4224, 512]⟩
abbrev S4224x4096 : Shape := ⟨2, ![4224, 4096]⟩
abbrev S_ : Shape := ⟨0, ![]⟩
abbrev S256x1024 : Shape := ⟨2, ![256, 1024]⟩
abbrev S512x1024 : Shape := ⟨2, ![512, 1024]⟩
abbrev S4224x1024 : Shape := ⟨2, ![4224, 1024]⟩
abbrev S1024x256 : Shape := ⟨2, ![1024, 256]⟩
abbrev S1024x512 : Shape := ⟨2, ![1024, 512]⟩
abbrev S1280x1024 : Shape := ⟨2, ![1280, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4224x256, .f32⟩
  | .hbm, ⟨1, _⟩ => ⟨S4224x512, .f32⟩
  | .hbm, ⟨2, _⟩ => ⟨S4224x256, .f32⟩
  | .hbm, ⟨3, _⟩ => ⟨S4224x256, .f32⟩
  | .hbm, ⟨4, _⟩ => ⟨S4224x4096, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S512x1024, .f32⟩
  | .hbm, ⟨9, _⟩ => ⟨S_, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S1024x256, .f32⟩
  | .hbm, ⟨22, _⟩ => ⟨S256x1024, .f32⟩
  | .hbm, ⟨23, _⟩ => ⟨S1024x256, .f32⟩
  | .hbm, ⟨24, _⟩ => ⟨S256x1024, .f32⟩
  | .hbm, ⟨25, _⟩ => ⟨S1024x512, .f32⟩
  | .hbm, ⟨26, _⟩ => ⟨S512x1024, .f32⟩
  | .hbm, ⟨27, _⟩ => ⟨S1024x256, .f32⟩
  | .hbm, ⟨28, _⟩ => ⟨S256x1024, .f32⟩
  | .hbm, ⟨29, _⟩ => ⟨S1280x1024, .f32⟩
  | .hbm, ⟨30, _⟩ => ⟨S1280x1024, .bf16⟩
  | _, _ => ⟨S4224x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel6.lean ====
abbrev S4224x1024 : Shape := ⟨2, ![4224, 1024]⟩
abbrev S1024x1024 : Shape := ⟨2, ![1024, 1024]⟩
abbrev S1408x512 : Shape := ⟨2, ![1408, 512]⟩
abbrev S1408x1024 : Shape := ⟨2, ![1408, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .bf16⟩
  | .hbm, ⟨3, _⟩ => ⟨S4224x1024, .bf16⟩
  | .hbm, ⟨4, _⟩ => ⟨S1024x1024, .bf16⟩
  | .local _ .vmem, ⟨0, _⟩ => ⟨S1408x512, .bf16⟩
  | .local _ .vmem, ⟨1, _⟩ => ⟨S1408x512, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4224x1024 : Shape := ⟨2, ![4224, 1024]⟩
abbrev S1024x7328 : Shape := ⟨2, ![1024, 7328]⟩
abbrev S1024x4096 : Shape := ⟨2, ![1024, 4096]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x2304 : Shape := ⟨2, ![1024, 2304]⟩
abbrev S1024x7424 : Shape := ⟨2, ![1024, 7424]⟩
abbrev S4224x7424 : Shape := ⟨2, ![4224, 7424]⟩
abbrev S384x1024 : Shape := ⟨2, ![384, 1024]⟩
abbrev S1024x3712 : Shape := ⟨2, ![1024, 3712]⟩
abbrev S384x3712 : Shape := ⟨2, ![384, 3712]⟩

abbrev nBuf : Space → Nat
  | .hbm => 15
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x7328, .f32⟩
  | .hbm, ⟨2, _⟩ => ⟨S4224x1024, .bf16⟩
  | .hbm, ⟨3, _⟩ => ⟨S1024x4096, .f32⟩
  | .hbm, ⟨4, _⟩ => ⟨S1024x384, .f32⟩
  | .hbm, ⟨5, _⟩ => ⟨S_, .f32⟩
  | .hbm, ⟨6, _⟩ => ⟨S1024x64, .f32⟩
  | .hbm, ⟨7, _⟩ => ⟨S1024x32, .f32⟩
  | .hbm, ⟨8, _⟩ => ⟨S_, .f32⟩
  | .hbm, ⟨9, _⟩ => ⟨S1024x32, .f32⟩
  | .hbm, ⟨10, _⟩ => ⟨S1024x512, .f32⟩
  | .hbm, ⟨11, _⟩ => ⟨S1024x2304, .f32⟩
  | .hbm, ⟨12, _⟩ => ⟨S1024x7424, .f32⟩
  | .hbm, ⟨13, _⟩ => ⟨S1024x7424, .bf16⟩
  | .hbm, ⟨14, _⟩ => ⟨S4224x7424, .f32⟩
  | .local _ .vmem, ⟨0, _⟩ => ⟨S384x1024, .bf16⟩
  | .local _ .vmem, ⟨1, _⟩ => ⟨S384x1024, .bf16⟩
  | .local _ .vmem, ⟨2, _⟩ => ⟨S1024x3712, .bf16⟩
  | .local _ .vmem, ⟨3, _⟩ => ⟨S1024x3712, .bf16⟩
  | .local _ .vmem, ⟨4, _⟩ => ⟨S384x3712, .f32⟩
  | .local _ .vmem, ⟨5, _⟩ => ⟨S384x3712, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x1024 : Shape := ⟨2, ![4224, 1024]⟩
abbrev S1024x7328 : Shape := ⟨2, ![1024, 7328]⟩
abbrev S4224x7328 : Shape := ⟨2, ![4224, 7328]⟩
abbrev S4224x4096 : Shape := ⟨2, ![4224, 4096]⟩
abbrev S4224x384 : Shape := ⟨2, ![4224, 384]⟩
abbrev S_ : Shape := ⟨0, ![]⟩
abbrev S4224x64 : Shape := ⟨2, ![4224, 64]⟩
abbrev S4224x32 : Shape := ⟨2, ![4224, 32]⟩
abbrev S4224x512 : Shape := ⟨2, ![4224, 512]⟩
abbrev S4224x2304 : Shape := ⟨2, ![4224, 2304]⟩
abbrev S4224x7424 : Shape := ⟨2, ![4224, 7424]⟩

abbrev nBuf : Space → Nat
  | .hbm => 13
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x7328, .f32⟩
  | .hbm, ⟨2, _⟩ => ⟨S4224x7328, .f32⟩
  | .hbm, ⟨3, _⟩ => ⟨S4224x4096, .f32⟩
  | .hbm, ⟨4, _⟩ => ⟨S4224x384, .f32⟩
  | .hbm, ⟨5, _⟩ => ⟨S_, .f32⟩
  | .hbm, ⟨6, _⟩ => ⟨S4224x64, .f32⟩
  | .hbm, ⟨7, _⟩ => ⟨S4224x32, .f32⟩
  | .hbm, ⟨8, _⟩ => ⟨S_, .f32⟩
  | .hbm, ⟨9, _⟩ => ⟨S4224x32, .f32⟩
  | .hbm, ⟨10, _⟩ => ⟨S4224x512, .f32⟩
  | .hbm, ⟨11, _⟩ => ⟨S4224x2304, .f32⟩
  | .hbm, ⟨12, _⟩ => ⟨S4224x7424, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S4224x1024 : Shape := ⟨2, ![4224, 1024]⟩
abbrev S4224x256 : Shape := ⟨2, ![4224, 256]⟩
abbrev S4224x512 : Shape := ⟨2, ![4224, 512]⟩
abbrev S4224x7328 : Shape := ⟨2, ![4224, 7328]⟩
abbrev S4096 : Shape := ⟨1, ![4096]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S4224x1280 : Shape := ⟨2, ![4224, 1280]⟩
abbrev S1280x1024 : Shape := ⟨2, ![1280, 1024]⟩
abbrev S4224x4096 : Shape := ⟨2, ![4224, 4096]⟩
abbrev S4224x384 : Shape := ⟨2, ![4224, 384]⟩
abbrev S_ : Shape := ⟨0, ![]⟩
abbrev S4224x64 : Shape := ⟨2, ![4224, 64]⟩
abbrev S4224x32 : Shape := ⟨2, ![4224, 32]⟩
abbrev S4224x2304 : Shape := ⟨2, ![4224, 2304]⟩
abbrev S4224x7424 : Shape := ⟨2, ![4224, 7424]⟩
abbrev S1x4096 : Shape := ⟨2, ![1, 4096]⟩
abbrev S1x1024 : Shape := ⟨2, ![1, 1024]⟩
abbrev S384x1024 : Shape := ⟨2, ![384, 1024]⟩
abbrev S384x1280 : Shape := ⟨2, ![384, 1280]⟩
abbrev S384x4096 : Shape := ⟨2, ![384, 4096]⟩
abbrev S384x256 : Shape := ⟨2, ![384, 256]⟩
abbrev S384x512 : Shape := ⟨2, ![384, 512]⟩
abbrev S384 : Shape := ⟨1, ![384]⟩
abbrev S384x1 : Shape := ⟨2, ![384, 1]⟩

abbrev nBuf : Space → Nat
  | .hbm => 36
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S4224x256, .f32⟩
  | .hbm, ⟨2, _⟩ => ⟨S4224x512, .f32⟩
  | .hbm, ⟨3, _⟩ => ⟨S4224x256, .f32⟩
  | .hbm, ⟨4, _⟩ => ⟨S4224x256, .f32⟩
  | .hbm, ⟨5, _⟩ => ⟨S4224x7328, .f32⟩
  | .hbm, ⟨6, _⟩ => ⟨S4096, .f32⟩
  | .hbm, ⟨7, _⟩ => ⟨S256x1024, .f32⟩
  | .hbm, ⟨8, _⟩ => ⟨S512x1024, .f32⟩
  | .hbm, ⟨9, _⟩ => ⟨S256x1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S4224x1280, .f32⟩
  | .hbm, ⟨15, _⟩ => ⟨S4224x1280, .bf16⟩
  | .hbm, ⟨16, _⟩ => ⟨S1280x1024, .f32⟩
  | .hbm, ⟨17, _⟩ => ⟨S1280x1024, .bf16⟩
  | .hbm, ⟨18, _⟩ => ⟨S4224x4096, .f32⟩
  | .hbm, ⟨19, _⟩ => ⟨S4224x384, .f32⟩
  | .hbm, ⟨20, _⟩ => ⟨S_, .f32⟩
  | .hbm, ⟨21, _⟩ => ⟨S4224x64, .f32⟩
  | .hbm, ⟨22, _⟩ => ⟨S4224x32, .f32⟩
  | .hbm, ⟨23, _⟩ => ⟨S_, .f32⟩
  | .hbm, ⟨24, _⟩ => ⟨S4224x32, .f32⟩
  | .hbm, ⟨25, _⟩ => ⟨S4224x512, .f32⟩
  | .hbm, ⟨26, _⟩ => ⟨S4224x2304, .f32⟩
  | .hbm, ⟨27, _⟩ => ⟨S4224x7424, .f32⟩
  | .hbm, ⟨28, _⟩ => ⟨S1x4096, .f32⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S4224x1024, .f32⟩
  | .hbm, ⟨33, _⟩ => ⟨S4224x1024, .bf16⟩
  | .hbm, ⟨34, _⟩ => ⟨S4224x1024, .f32⟩
  | .hbm, ⟨35, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S384x1280, .bf16⟩
  | .local _ .vmem, ⟨3, _⟩ => ⟨S384x1280, .bf16⟩
  | .local _ .vmem, ⟨4, _⟩ => ⟨S384x4096, .f32⟩
  | .local _ .vmem, ⟨5, _⟩ => ⟨S384x4096, .f32⟩
  | .local _ .vmem, ⟨6, _⟩ => ⟨S1x4096, .f32⟩
  | .local _ .vmem, ⟨7, _⟩ => ⟨S1280x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .bf16⟩
  | .local _ .vmem, ⟨14, _⟩ => ⟨S384x1024, .bf16⟩
  | .local _ .vmem, ⟨15, _⟩ => ⟨S384x1024, .f32⟩
  | .local _ .vmem, ⟨16, _⟩ => ⟨S384x1024, .f32⟩
  | .local _ .vmem, ⟨17, _⟩ => ⟨S384x1024, .bf16⟩
  | .local _ .vmem, ⟨18, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S4224x1024 : Shape := ⟨2, ![4224, 1024]⟩
abbrev S4224x256 : Shape := ⟨2, ![4224, 256]⟩
abbrev S4224x512 : Shape := ⟨2, ![4224, 512]⟩
abbrev S4224x7328 : Shape := ⟨2, ![4224, 7328]⟩
abbrev S4096 : Shape := ⟨1, ![4096]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S4224x4096 : Shape := ⟨2, ![4224, 4096]⟩
abbrev S1x4096 : Shape := ⟨2, ![1, 4096]⟩
abbrev S_ : Shape := ⟨0, ![]⟩
abbrev S4224x4x1024 : Shape := ⟨3, ![4224, 4, 1024]⟩
abbrev S4224x1x1024 : Shape := ⟨3, ![4224, 1, 1024]⟩
abbrev S4224 : Shape := ⟨1, ![4224]⟩
abbrev S4224x1 : Shape := ⟨2, ![4224, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x256, .f32⟩
  | .hbm, ⟨2, _⟩ => ⟨S4224x512, .f32⟩
  | .hbm, ⟨3, _⟩ => ⟨S4224x256, .f32⟩
  | .hbm, ⟨4, _⟩ => ⟨S4224x256, .f32⟩
  | .hbm, ⟨5, _⟩ => ⟨S4224x7328, .f32⟩
  | .hbm, ⟨6, _⟩ => ⟨S4096, .f32⟩
  | .hbm, ⟨7, _⟩ => ⟨S256x1024, .f32⟩
  | .hbm, ⟨8, _⟩ => ⟨S512x1024, .f32⟩
  | .hbm, ⟨9, _⟩ => ⟨S256x1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S4224x4096, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S1x4096, .f32⟩
  | .hbm, ⟨20, _⟩ => ⟨S4224x4096, .f32⟩
  | .hbm, ⟨21, _⟩ => ⟨S4224x4096, .f32⟩
  | .hbm, ⟨22, _⟩ => ⟨S4224x4096, .f32⟩
  | .hbm, ⟨23, _⟩ => ⟨S4224x4096, .f32⟩
  | .hbm, ⟨24, _⟩ => ⟨S_, .f32⟩
  | .hbm, ⟨25, _⟩ => ⟨S4224x4096, .f32⟩
  | .hbm, ⟨26, _⟩ => ⟨S4224x4096, .f32⟩
  | .hbm, ⟨27, _⟩ => ⟨S_, .f32⟩
  | .hbm, ⟨28, _⟩ => ⟨S4224x4096, .f32⟩
  | .hbm, ⟨29, _⟩ => ⟨S4224x4096, .f32⟩
  | .hbm, ⟨30, _⟩ => ⟨S4224x4x1024, .f32⟩
  | .hbm, ⟨31, _⟩ => ⟨S4224x1x1024, .f32⟩
  | .hbm, ⟨32, _⟩ => ⟨S4224x1024, .f32⟩
  | .hbm, ⟨33, _⟩ => ⟨S4224x1024, .f32⟩
  | .hbm, ⟨34, _⟩ => ⟨S4224x1x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S_, .f32⟩
  | .hbm, ⟨49, _⟩ => ⟨S4224, .f32⟩
  | .hbm, ⟨50, _⟩ => ⟨S4224x1, .f32⟩
  | .hbm, ⟨51, _⟩ => ⟨S_, .f32⟩
  | .hbm, ⟨52, _⟩ => ⟨S4224x1, .f32⟩
  | .hbm, ⟨53, _⟩ => ⟨S4224x1, .f32⟩
  | .hbm, ⟨54, _⟩ => ⟨S_, .f32⟩
  | .hbm, ⟨55, _⟩ => ⟨S4224x1, .f32⟩
  | .hbm, ⟨56, _⟩ => ⟨S4224x1, .f32⟩
  | .hbm, ⟨57, _⟩ => ⟨S4224x1, .f32⟩
  | .hbm, ⟨58, _⟩ => ⟨S4224x1024, .f32⟩
  | .hbm, ⟨59, _⟩ => ⟨S4224x1024, .f32⟩
  | .hbm, ⟨60, _⟩ => ⟨S1x1024, .f32⟩
  | .hbm, ⟨61, _⟩ => ⟨S4224x1024, .f32⟩
  | .hbm, ⟨62, _⟩ => ⟨S4224x1024, .f32⟩
  | .hbm, ⟨63, _⟩ => ⟨S4224x1024, .f32⟩
  | .hbm, ⟨64, _⟩ => ⟨S4224x1024, .bf16⟩
  | .hbm, ⟨65, _⟩ => ⟨S4224x1024, .f32⟩
  | .hbm, ⟨66, _⟩ => ⟨S_, .f32⟩
  | .hbm, ⟨67, _⟩ => ⟨S4224, .f32⟩
  | .hbm, ⟨68, _⟩ => ⟨S4224x1, .f32⟩
  | .hbm, ⟨69, _⟩ => ⟨S_, .f32⟩
  | .hbm, ⟨70, _⟩ => ⟨S4224x1, .f32⟩
  | .hbm, ⟨71, _⟩ => ⟨S4224x1, .f32⟩
  | .hbm, ⟨72, _⟩ => ⟨S_, .f32⟩
  | .hbm, ⟨73, _⟩ => ⟨S4224x1, .f32⟩
  | .hbm, ⟨74, _⟩ => ⟨S4224x1, .f32⟩
  | .hbm, ⟨75, _⟩ => ⟨S4224x1, .f32⟩
  | .hbm, ⟨76, _⟩ => ⟨S4224x1024, .f32⟩
  | .hbm, ⟨77, _⟩ => ⟨S4224x1024, .f32⟩
  | .hbm, ⟨78, _⟩ => ⟨S1x1024, .f32⟩
  | .hbm, ⟨79, _⟩ => ⟨S4224x1024, .f32⟩
  | .hbm, ⟨80, _⟩ => ⟨S4224x1024, .f32⟩
  | .hbm, ⟨81, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel9.lean ====
abbrev S4224x1024 : Shape := ⟨2, ![4224, 1024]⟩
abbrev S4224x7328 : Shape := ⟨2, ![4224, 7328]⟩
abbrev S4224x384 : Shape := ⟨2, ![4224, 384]⟩
abbrev S_ : Shape := ⟨0, ![]⟩
abbrev S4224x64 : Shape := ⟨2, ![4224, 64]⟩
abbrev S4224x32 : Shape := ⟨2, ![4224, 32]⟩
abbrev S4224x512 : Shape := ⟨2, ![4224, 512]⟩
abbrev S1024x512 : Shape := ⟨2, ![1024, 512]⟩
abbrev S1408x1024 : Shape := ⟨2, ![1408, 1024]⟩
abbrev S1408x512 : Shape := ⟨2, ![1408, 512]⟩

abbrev nBuf : Space → Nat
  | .hbm => 12
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S4224x7328, .f32⟩
  | .hbm, ⟨2, _⟩ => ⟨S4224x384, .f32⟩
  | .hbm, ⟨3, _⟩ => ⟨S_, .f32⟩
  | .hbm, ⟨4, _⟩ => ⟨S4224x64, .f32⟩
  | .hbm, ⟨5, _⟩ => ⟨S4224x32, .f32⟩
  | .hbm, ⟨6, _⟩ => ⟨S_, .f32⟩
  | .hbm, ⟨7, _⟩ => ⟨S4224x32, .f32⟩
  | .hbm, ⟨8, _⟩ => ⟨S4224x512, .f32⟩
  | .hbm, ⟨9, _⟩ => ⟨S4224x1024, .bf16⟩
  | .hbm, ⟨10, _⟩ => ⟨S4224x512, .bf16⟩
  | .hbm, ⟨11, _⟩ => ⟨S1024x512, .bf16⟩
  | .local _ .vmem, ⟨0, _⟩ => ⟨S1408x1024, .bf16⟩
  | .local _ .vmem, ⟨1, _⟩ => ⟨S1408x1024, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .bf16⟩
  | .local _ .vmem, ⟨5, _⟩ => ⟨S1024x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4224x1024 : Shape := ⟨2, ![4224, 1024]⟩
abbrev S4224x7328 : Shape := ⟨2, ![4224, 7328]⟩
abbrev S_ : Shape := ⟨0, ![]⟩
abbrev S1024x7328 : Shape := ⟨2, ![1024, 7328]⟩
abbrev S7328x1024 : Shape := ⟨2, ![7328, 1024]⟩
abbrev S1024x384 : Shape := ⟨2, ![1024, 384]⟩
abbrev S1024x64 : Shape := ⟨2, ![1024, 64]⟩
abbrev S1024x32 : Shape := ⟨2, ![1024, 32]⟩
abbrev S1024x512 : Shape := ⟨2, ![1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x7328, .f32⟩
  | .hbm, ⟨2, _⟩ => ⟨S_, .f32⟩
  | .hbm, ⟨3, _⟩ => ⟨S1024x7328, .f32⟩
  | .hbm, ⟨4, _⟩ => ⟨S4224x7328, .f32⟩
  | .hbm, ⟨5, _⟩ => ⟨S7328x1024, .f32⟩
  | .hbm, ⟨6, _⟩ => ⟨S1024x7328, .f32⟩
  | .hbm, ⟨7, _⟩ => ⟨S1024x384, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x512, .f32⟩
  | .hbm, ⟨14, _⟩ => ⟨S1024x512, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel10.lean ====
abbrev S4224x7328 : Shape := ⟨2, ![4224, 7328]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4224x16 : Shape := ⟨2, ![4224, 16]⟩
abbrev S_ : Shape := ⟨0, ![]⟩
abbrev S4224x64 : Shape := ⟨2, ![4224, 64]⟩
abbrev S4224x32 : Shape := ⟨2, ![4224, 32]⟩
abbrev S4224x128 : Shape := ⟨2, ![4224, 128]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S4224x4096 : Shape := ⟨2, ![4224, 4096]⟩
abbrev S4224x384 : Shape := ⟨2, ![4224, 384]⟩
abbrev S4224x512 : Shape := ⟨2, ![4224, 512]⟩
abbrev S4224x2304 : Shape := ⟨2, ![4224, 2304]⟩
abbrev S4224x7424 : Shape := ⟨2, ![4224, 7424]⟩
abbrev S1x256 : Shape := ⟨2, ![1, 256]⟩
abbrev S1x128 : Shape := ⟨2, ![1, 128]⟩
abbrev S256x8x96 : Shape := ⟨3, ![256, 8, 96]⟩
abbrev S256x8x128 : Shape := ⟨3, ![256, 8, 128]⟩
abbrev S256x1024 : Shape := ⟨2, ![256, 1024]⟩
abbrev S4224x256 : Shape := ⟨2, ![4224, 256]⟩
abbrev S4224x1024 : Shape := ⟨2, ![4224, 1024]⟩
abbrev S384x512 : Shape := ⟨2, ![384, 512]⟩
abbrev S384x128 : Shape := ⟨2, ![384, 128]⟩
abbrev S384x256 : Shape := ⟨2, ![384, 256]⟩
abbrev S384x1024 : Shape := ⟨2, ![384, 1024]⟩
abbrev S384 : Shape := ⟨1, ![384]⟩
abbrev S384x1 : Shape := ⟨2, ![384, 1]⟩
abbrev S384x1536 : Shape := ⟨2, ![384, 1536]⟩

abbrev nBuf : Space → Nat
  | .hbm => 54
  | .vmem => 22
  | .smem => 0
  | _ => 0

abbrev bufTy : (tb : Table) → Fin (tcTables nBuf tb) → BufTy
  | .hbm, ⟨0, _⟩ => ⟨S4224x7328, .f32⟩
  | .hbm, ⟨1, _⟩ => ⟨S256, .f32⟩
  | .hbm, ⟨2, _⟩ => ⟨S128, .f32⟩
  | .hbm, ⟨3, _⟩ => ⟨S256x768, .f32⟩
  | .hbm, ⟨4, _⟩ => ⟨S128x1024, .f32⟩
  | .hbm, ⟨5, _⟩ => ⟨S4224x16, .f32⟩
  | .hbm, ⟨6, _⟩ => ⟨S4224x16, .f32⟩
  | .hbm, ⟨7, _⟩ => ⟨S_, .f32⟩
  | .hbm, ⟨8, _⟩ => ⟨S4224x64, .f32⟩
  | .hbm, ⟨9, _⟩ => ⟨S_, .f32⟩
  | .hbm, ⟨10, _⟩ => ⟨S4224x64, .f32⟩
  | .hbm, ⟨11, _⟩ => ⟨S_, .f32⟩
  | .hbm, ⟨12, _⟩ => ⟨S4224x16, .f32⟩
  | .hbm, ⟨13, _⟩ => ⟨S_, .f32⟩
  | .hbm, ⟨14, _⟩ => ⟨S4224x32, .f32⟩
  | .hbm, ⟨15, _⟩ => ⟨S_, .f32⟩
  | .hbm, ⟨16, _⟩ => ⟨S4224x32, .f32⟩
  | .hbm, ⟨17, _⟩ => ⟨S4224x128, .f32⟩
  | .hbm, ⟨18, _⟩ => ⟨S4224x128, .f32⟩
  | .hbm, ⟨19, _⟩ => ⟨S4224x16, .f32⟩
  | .hbm, ⟨20, _⟩ => ⟨S4224x128, .f32⟩
  | .hbm, ⟨21, _⟩ => ⟨S128x8x128, .f32⟩
  | .hbm, ⟨22, _⟩ => ⟨S128x8x64, .f32⟩
  | .hbm, ⟨23, _⟩ => ⟨S_, .i32⟩
  | .hbm, ⟨24, _⟩ => ⟨S_, .f32⟩
  | .hbm, ⟨25, _⟩ => ⟨S128x8x128, .f32⟩
  | .hbm, ⟨26, _⟩ => ⟨S128x1024, .f32⟩
  | .hbm, ⟨27, _⟩ => ⟨S128x8x64, .f32⟩
  | .hbm, ⟨28, _⟩ => ⟨S128x512, .f32⟩
  | .hbm, ⟨29, _⟩ => ⟨S128x1536, .f32⟩
  | .hbm, ⟨30, _⟩ => ⟨S4224x4096, .f32⟩
  | .hbm, ⟨31, _⟩ => ⟨S4224x384, .f32⟩
  | .hbm, ⟨32, _⟩ => ⟨S_, .f32⟩
  | .hbm, ⟨33, _⟩ => ⟨S4224x64, .f32⟩
  | .hbm, ⟨34, _⟩ => ⟨S4224x32, .f32⟩
  | .hbm, ⟨35, _⟩ => ⟨S_, .f32⟩
  | .hbm, ⟨36, _⟩ => ⟨S4224x32, .f32⟩
  | .hbm, ⟨37, _⟩ => ⟨S4224x512, .f32⟩
  | .hbm, ⟨38, _⟩ => ⟨S4224x2304, .f32⟩
  | .hbm, ⟨39, _⟩ => ⟨S4224x7424, .f32⟩
  | .hbm, ⟨40, _⟩ => ⟨S1x256, .f32⟩
  | .hbm, ⟨41, _⟩ => ⟨S1x128, .f32⟩
  | .hbm, ⟨42, _⟩ => ⟨S256x8x96, .f32⟩
  | .hbm, ⟨43, _⟩ => ⟨S_, .i32⟩
  | .hbm, ⟨44, _⟩ => ⟨S_, .f32⟩
  | .hbm, ⟨45, _⟩ => ⟨S256x8x128, .f32⟩
  | .hbm, ⟨46, _⟩ => ⟨S256x1024, .f32⟩
  | .hbm, ⟨47, _⟩ => ⟨S256x1024, .bf16⟩
  | .hbm, ⟨48, _⟩ => ⟨S128x1536, .bf16⟩
  | .hbm, ⟨49, _⟩ => ⟨S4224x256, .bf16⟩
  | .hbm, ⟨50, _⟩ => ⟨S4224x128, .bf16⟩
  | .hbm, ⟨51, _⟩ => ⟨S4224x1024, .bf16⟩
  | .hbm, ⟨52, _⟩ => ⟨S4224x1024, .bf16⟩
  | .hbm, ⟨53, _⟩ => ⟨S4224x512, .bf16⟩
  | .local _ .vmem, ⟨0, _⟩ => ⟨S384x512, .f32⟩
  | .local _ .vmem, ⟨1, _⟩ => ⟨S384x512, .f32⟩
  | .local _ .vmem, ⟨2, _⟩ => ⟨S1x256, .f32⟩
  | .local _ .vmem, ⟨3, _⟩ => ⟨S1x128, .f32⟩
  | .local _ .vmem, ⟨4, _⟩ => ⟨S256x1024, .bf16⟩
  | .local _ .vmem, ⟨5, _⟩ => ⟨S128x1536, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x256, .bf16⟩
  | .local _ .vmem, ⟨13, _⟩ => ⟨S384x256, .bf16⟩
  | .local _ .vmem, ⟨14, _⟩ => ⟨S384x128, .bf16⟩
  | .local _ .vmem, ⟨15, _⟩ => ⟨S384x128, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x512, .bf16⟩
  | .local _ .vmem, ⟨21, _⟩ => ⟨S384x512, .bf16⟩
  | _, _ => ⟨S4224x7328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_cst_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev main_v31_3 : Ref sig .tc := ⟨.hbm, 52, rfl⟩
abbrev main_v31_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference10Ideal.lean ====
abbrev S4224x7328 : Shape := ⟨2, ![4224, 7328]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S4224x16 : Shape := ⟨2, ![4224, 16]⟩
abbrev S4224x256 : Shape := ⟨2, ![4224, 256]⟩
abbrev S_ : Shape := ⟨0, ![]⟩
abbrev S4224 : Shape := ⟨1, ![4224]⟩
abbrev S4224x1 : Shape := ⟨2, ![4224, 1]⟩
abbrev S1x256 : Shape := ⟨2, ![1, 256]⟩
abbrev S4224x128 : Shape := ⟨2, ![4224, 128]⟩
abbrev S1x128 : Shape := ⟨2, ![1, 128]⟩
abbrev S4224x768 : Shape := ⟨2, ![4224, 768]⟩
abbrev S4224x8x96 : Shape := ⟨3, ![4224, 8, 96]⟩
abbrev S4224x8x64 : Shape := ⟨3, ![4224, 8, 64]⟩
abbrev S4224x8x32 : Shape := ⟨3, ![4224, 8, 32]⟩
abbrev S4224x1x16 : Shape := ⟨3, ![4224, 1, 16]⟩
abbrev S4224x8x16 : Shape := ⟨3, ![4224, 8, 16]⟩
abbrev S4224x1024 : Shape := ⟨2, ![4224, 1024]⟩
abbrev S4224x8x128 : Shape := ⟨3, ![4224, 8, 128]⟩
abbrev S4224x32 : Shape := ⟨2, ![4224, 32]⟩
abbrev S4224x1x32 : Shape := ⟨3, ![4224, 1, 32]⟩
abbrev S4224x512 : Shape := ⟨2, ![4224, 512]⟩

abbrev nBuf : Space → Nat
  | .hbm => 93
  | .vmem => 0
  | .smem => 0
  | _ => 0

abbrev bufTy : (tb : Table) → Fin (tcTables nBuf tb) → BufTy
  | .hbm, ⟨0, _⟩ => ⟨S4224x7328, .f32⟩
  | .hbm, ⟨1, _⟩ => ⟨S256, .f32⟩
  | .hbm, ⟨2, _⟩ => ⟨S128, .f32⟩
  | .hbm, ⟨3, _⟩ => ⟨S256x768, .f32⟩
  | .hbm, ⟨4, _⟩ => ⟨S128x1024, .f32⟩
  | .hbm, ⟨5, _⟩ => ⟨S4224x16, .f32⟩
  | .hbm, ⟨6, _⟩ => ⟨S4224x16, .f32⟩
  | .hbm, ⟨7, _⟩ => ⟨S4224x256, .f32⟩
  | .hbm, ⟨8, _⟩ => ⟨S4224x256, .f32⟩
  | .hbm, ⟨9, _⟩ => ⟨S_, .f32⟩
  | .hbm, ⟨10, _⟩ => ⟨S4224, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S4224x256, .f32⟩
  | .hbm, ⟨20, _⟩ => ⟨S4224x256, .f32⟩
  | .hbm, ⟨21, _⟩ => ⟨S1x256, .f32⟩
  | .hbm, ⟨22, _⟩ => ⟨S4224x256, .f32⟩
  | .hbm, ⟨23, _⟩ => ⟨S4224x256, .f32⟩
  | .hbm, ⟨24, _⟩ => ⟨S4224x128, .f32⟩
  | .hbm, ⟨25, _⟩ => ⟨S4224x128, .f32⟩
  | .hbm, ⟨26, _⟩ => ⟨S_, .f32⟩
  | .hbm, ⟨27, _⟩ => ⟨S4224, .f32⟩
  | .hbm, ⟨28, _⟩ => ⟨S4224x1, .f32⟩
  | .hbm, ⟨29, _⟩ => ⟨S_, .f32⟩
  | .hbm, ⟨30, _⟩ => ⟨S4224x1, .f32⟩
  | .hbm, ⟨31, _⟩ => ⟨S4224x1, .f32⟩
  | .hbm, ⟨32, _⟩ => ⟨S_, .f32⟩
  | .hbm, ⟨33, _⟩ => ⟨S4224x1, .f32⟩
  | .hbm, ⟨34, _⟩ => ⟨S4224x1, .f32⟩
  | .hbm, ⟨35, _⟩ => ⟨S4224x1, .f32⟩
  | .hbm, ⟨36, _⟩ => ⟨S4224x128, .f32⟩
  | .hbm, ⟨37, _⟩ => ⟨S4224x128, .f32⟩
  | .hbm, ⟨38, _⟩ => ⟨S1x128, .f32⟩
  | .hbm, ⟨39, _⟩ => ⟨S4224x128, .f32⟩
  | .hbm, ⟨40, _⟩ => ⟨S4224x128, .f32⟩
  | .hbm, ⟨41, _⟩ => ⟨S4224x768, .f32⟩
  | .hbm, ⟨42, _⟩ => ⟨S4224x8x96, .f32⟩
  | .hbm, ⟨43, _⟩ => ⟨S4224x8x64, .f32⟩
  | .hbm, ⟨44, _⟩ => ⟨S4224x8x32, .f32⟩
  | .hbm, ⟨45, _⟩ => ⟨S4224x1x16, .f32⟩
  | .hbm, ⟨46, _⟩ => ⟨S4224x1x16, .f32⟩
  | .hbm, ⟨47, _⟩ => ⟨S4224x8x16, .f32⟩
  | .hbm, ⟨48, _⟩ => ⟨S4224x8x16, .f32⟩
  | .hbm, ⟨49, _⟩ => ⟨S4224x8x16, .f32⟩
  | .hbm, ⟨50, _⟩ => ⟨S4224x8x16, .f32⟩
  | .hbm, ⟨51, _⟩ => ⟨S4224x8x16, .f32⟩
  | .hbm, ⟨52, _⟩ => ⟨S4224x8x16, .f32⟩
  | .hbm, ⟨53, _⟩ => ⟨S4224x8x16, .f32⟩
  | .hbm, ⟨54, _⟩ => ⟨S4224x8x16, .f32⟩
  | .hbm, ⟨55, _⟩ => ⟨S4224x8x16, .f32⟩
  | .hbm, ⟨56, _⟩ => ⟨S4224x8x16, .f32⟩
  | .hbm, ⟨57, _⟩ => ⟨S4224x8x16, .f32⟩
  | .hbm, ⟨58, _⟩ => ⟨S4224x8x16, .f32⟩
  | .hbm, ⟨59, _⟩ => ⟨S4224x8x32, .f32⟩
  | .hbm, ⟨60, _⟩ => ⟨S4224x1024, .f32⟩
  | .hbm, ⟨61, _⟩ => ⟨S4224x8x128, .f32⟩
  | .hbm, ⟨62, _⟩ => ⟨S4224x8x64, .f32⟩
  | .hbm, ⟨63, _⟩ => ⟨S4224x8x64, .f32⟩
  | .hbm, ⟨64, _⟩ => ⟨S4224x32, .f32⟩
  | .hbm, ⟨65, _⟩ => ⟨S4224x16, .f32⟩
  | .hbm, ⟨66, _⟩ => ⟨S4224x16, .f32⟩
  | .hbm, ⟨67, _⟩ => ⟨S4224x16, .f32⟩
  | .hbm, ⟨68, _⟩ => ⟨S4224x16, .f32⟩
  | .hbm, ⟨69, _⟩ => ⟨S4224x16, .f32⟩
  | .hbm, ⟨70, _⟩ => ⟨S4224x16, .f32⟩
  | .hbm, ⟨71, _⟩ => ⟨S4224x16, .f32⟩
  | .hbm, ⟨72, _⟩ => ⟨S4224x16, .f32⟩
  | .hbm, ⟨73, _⟩ => ⟨S4224x32, .f32⟩
  | .hbm, ⟨74, _⟩ => ⟨S4224x1x32, .f32⟩
  | .hbm, ⟨75, _⟩ => ⟨S4224x8x32, .f32⟩
  | .hbm, ⟨76, _⟩ => ⟨S4224x8x96, .f32⟩
  | .hbm, ⟨77, _⟩ => ⟨S4224x8x96, .f32⟩
  | .hbm, ⟨78, _⟩ => ⟨S_, .f32⟩
  | .hbm, ⟨79, _⟩ => ⟨S4224x8x96, .f32⟩
  | .hbm, ⟨80, _⟩ => ⟨S4224x8x96, .f32⟩
  | .hbm, ⟨81, _⟩ => ⟨S_, .f32⟩
  | .hbm, ⟨82, _⟩ => ⟨S4224x8x32, .f32⟩
  | .hbm, ⟨83, _⟩ => ⟨S4224x256, .bf16⟩
  | .hbm, ⟨84, _⟩ => ⟨S4224x128, .bf16⟩
  | .hbm, ⟨85, _⟩ => ⟨S4224x8x128, .f32⟩
  | .hbm, ⟨86, _⟩ => ⟨S4224x1024, .f32⟩
  | .hbm, ⟨87, _⟩ => ⟨S4224x1024, .bf16⟩
  | .hbm, ⟨88, _⟩ => ⟨S4224x8x128, .f32⟩
  | .hbm, ⟨89, _⟩ => ⟨S4224x1024, .f32⟩
  | .hbm, ⟨90, _⟩ => ⟨S4224x1024, .bf16⟩
  | .hbm, ⟨91, _⟩ => ⟨S4224x512, .f32⟩
  | .hbm, ⟨92, _⟩ => ⟨S4224x512, .bf16⟩
  | _, _ => ⟨S4224x7328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_5 : Ref sig .tc := ⟨.hbm, 78, rfl⟩
abbrev main_v65 : Ref sig .tc := ⟨.hbm, 79, rfl⟩
abbrev main_v66 : Ref sig .tc := ⟨.hbm, 80, rfl⟩
abbrev main_cst_6 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== Proof.Run1.lean ====
/-
  The reference's run with its results named.
-/
module

public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.ReferenceIdeal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100)
        = Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v101)
        = Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v103)
        = Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v99)
        = Read.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v104)
        = Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v105)
        = Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c).1.trans (Read.val_main_v100_eq _), (h c).2.1.trans (Read.val_main_v101_eq _), (h c).2.2.1.trans (Read.val_main_v103_eq _), (h c).2.2.2.1.trans (Read.val_main_v99_eq _), (h c).2.2.2.2.1.trans (Read.val_main_v104_eq _), (h c).2.2.2.2.2.1.trans (Read.val_main_v105_eq _), (h c).2.2.2.2.2.2⟩)
    (Value.run m ρ)

end Cert.ReferenceIdeal
-- ==== Proof.Row.lean ====
/-
  The mathematics of one row: the gradient of a root-mean-square norm, the gradient of a logistic gate, and the
  few facts of the extended reals that the kernel's grouping of their factors needs.
-/
module

public import Idealize.ShloMosaic.Lib.Pointwise
public import Idealize.ShloMosaic.Lib.Claim

@[expose] public section

noncomputable section

namespace Cert.Row

open Idealize.ShloMosaic

/-- The row length 1024 as a constant of the programs. -/
abbrev c1024 : EReal := Ideal.ofBits FTy.f32 1149239296#32
/-- The norm's small constant. -/
abbrev eps : EReal := Ideal.ofBits FTy.f32 897988541#32

theorem ofBits_half : Ideal.ofBits FTy.f32 3204448256#32 = ((-(1 / 2) : ℝ) : EReal) := by
  simp [Ideal.ofBits, Ideal.ieee, -EReal.coe_mul]; norm_num

theorem c1024_eq : c1024 = ((1024 : ℝ) : EReal) := by
  simp [c1024, Ideal.ofBits, Ideal.ieee, -EReal.coe_mul]; norm_num

theorem eps_eq : eps = ((8796093 * (2 : ℝ) ^ (-43 : Int) : ℝ) : EReal) := by
  simp [eps, Ideal.ofBits, Ideal.ieee, -EReal.coe_mul]

theorem eps_pos : 0 < eps := by
  rw [eps_eq]
  have : (0 : ℝ) < 8796093 * (2 : ℝ) ^ (-43 : Int) := by positivity
  exact_mod_cast this

/-- A square is not negative. -/
theorem mul_self_nonneg' (x : EReal) : 0 ≤ x * x := by
  induction x with
  | bot => simp
  | top => simp
  | coe r => exact_mod_cast mul_self_nonneg r

theorem div_1024 (x : EReal) : Ideal.div x c1024 = x * ((1 / 1024 : ℝ) : EReal) := by
  rw [c1024_eq, Ideal.div_coe (by norm_num)]

/-- The mean of the squares with the small constant is positive. -/
theorem var_pos {ι : Type} [Fintype ι] (x : ι → EReal) : 0 < Ideal.div (∑ k, x k * x k) c1024 + eps := by
  have h : 0 ≤ Ideal.div (∑ k, x k * x k) c1024 := by
    rw [div_1024]
    exact mul_nonneg (Finset.sum_nonneg fun k _ => mul_self_nonneg' _) (by exact_mod_cast (by norm_num : (0 : ℝ) ≤ 1 / 1024))
  exact lt_of_lt_of_le eps_pos (le_add_of_nonneg_left h)

/-- The inverse square root of a positive number over that number is its cube. -/
theorem rsqrt_div {v : EReal} (h : 0 < v) :
    Ideal.div (Ideal.rsqrt v) v = Ideal.rsqrt v * Ideal.rsqrt v * Ideal.rsqrt v := by
  induction v with
  | bot => simp at h
  | top => simp [Ideal.div]
  | coe r =>
    have hr : 0 < r := by exact_mod_cast h
    rw [Ideal.rsqrt_coe, if_neg (not_lt.mpr hr.le), if_neg hr.ne', Ideal.div_coe hr.ne']
    norm_cast
    have hs := Real.mul_self_sqrt hr.le
    have hs' : Real.sqrt r ≠ 0 := (Real.sqrt_pos.mpr hr).ne'
    rw [mul_assoc, ← mul_inv, hs, one_div]

/-- Half of a number taken off twice is the number taken off. -/
theorem half_twice (a y : EReal) :
    (a + ((-(1 / 2) : ℝ) : EReal) * y) + ((-(1 / 2) : ℝ) : EReal) * y = a - y := by
  rw [add_assoc, sub_eq_add_neg]
  congr 1
  induction y with
  | bot => rw [EReal.coe_mul_bot_of_neg (by norm_num)]; rfl
  | top => rw [EReal.coe_mul_top_of_neg (by norm_num)]; rfl
  | coe r => norm_cast; ring

/-- The gradient of a root-mean-square norm at one element, in the two forms: `s` the inverse square root of `v`,
    `S` the row's sum of the gradient times the input. -/
theorem norm_grad {v : EReal} (h : 0 < v) (a x S : EReal) :
    (a * Ideal.rsqrt v
        + x * Ideal.div (S * (((-(1 / 2) : ℝ) : EReal) * Ideal.div (Ideal.rsqrt v) v)) c1024)
        + Ideal.div (S * (((-(1 / 2) : ℝ) : EReal) * Ideal.div (Ideal.rsqrt v) v)) c1024 * x
      = Ideal.rsqrt v * a - x * (Ideal.rsqrt v * Ideal.rsqrt v * Ideal.rsqrt v) * Ideal.div S c1024 := by
  rw [rsqrt_div h, div_1024, div_1024]
  generalize Ideal.rsqrt v = r
  have e : x * (S * (((-(1 / 2) : ℝ) : EReal) * (r * r * r)) * ((1 / 1024 : ℝ) : EReal))
      = ((-(1 / 2) : ℝ) : EReal) * (x * (r * r * r) * (S * ((1 / 1024 : ℝ) : EReal))) := by ac_rfl
  rw [mul_comm _ x, e, half_twice, mul_comm a r]

/-- The norm's inverse root of a row. -/
def rs {n : ℕ} (x : Fin n → EReal) : EReal := Ideal.rsqrt (Ideal.div (∑ k, x k * x k) c1024 + eps)

/-- The gradient that a norm with weights `g` passes back to its input row `x`, for the row `dy` that reaches it. -/
def dnorm {n : ℕ} (x dy g : Fin n → EReal) (b : Fin n) : EReal :=
  rs x * (dy b * g b) - x b * (rs x * rs x * rs x) * Ideal.div (∑ k, dy k * g k * x k) c1024

/-- That gradient behind a product with the transpose of `w`. -/
def dprod {n : ℕ} (x dy g : Fin n → EReal) (w : Fin n → Fin n → EReal) (b : Fin n) : EReal :=
  ∑ k, dnorm x dy g k * w b k

/-- The gradient of a gate's logit: `d` reaches the gated product of `y` and the gate `s`. -/
def dgate (d y s : EReal) : EReal := d * y * s * (1 - s)

end Cert.Row
-- ==== Proof.Ref.lean ====
/-
  The reference's results read at an element, in the row mathematics of Row.lean.
-/
module

public import proofs.«01_k».proof.Proof.Row
public import proofs.«01_k».proof.Proof.Gen.ReferenceIdeal.Read
public import Idealize.ShloMosaic.Lib.Pointwise

@[expose] public section

set_option maxRecDepth 16384

noncomputable section

namespace Cert.RefRead

open Cert.ReferenceIdeal Cert.ReferenceIdeal.Read Cert.Row Idealize.ShloMosaic Idealize.ShloMosaic.TcCoe

section
variable (x0 : FVec Ideal S4224x1024 .f32) (x1 : FVec Ideal S4224x256 .f32) (x2 : FVec Ideal S4224x512 .f32)
  (x3 x4 : FVec Ideal S4224x256 .f32) (x5 : FVec Ideal S4224x7328 .f32) (x6 : FVec Ideal S4096 .f32)
  (x7 : FVec Ideal S256x1024 .f32) (x8 : FVec Ideal S512x1024 .f32) (x9 x10 : FVec Ideal S256x1024 .f32)
  (x11 : FVec Ideal S1024x1024 .f32) (x12 : FVec Ideal S1024 .f32)

/-- The merged product in front of the norm. -/
abbrev o2 : FVec Ideal S4224x1024 .f32 := val_main_v33 (F := Ideal) x1 x2 x3 x4 x5 x6 x7 x8 x9 x10 x11

/-- The gate of row `a` at column `j` of the four gates side by side. -/
def gate (a : Fin 4224) (j : Fin 4096) : EReal :=
  Ideal.logistic (x5 (ix2 a ⟨3232 + j.val, by omega⟩) + x6 (ix1 j))

/-- The gradient of the merged branches, row `a`, column `b`. -/
def dmr (a : Fin 4224) (b : Fin 1024) : EReal :=
  dprod (fun k => o2 x1 x2 x3 x4 x5 x6 x7 x8 x9 x10 x11 (ix2 a k)) (fun k => x0 (ix2 a k)) (fun k => x12 (ix1 k))
    (fun i k => x11 (ix2 i k)) b

theorem do2_at (a : Fin 4224) (b : Fin 1024) :
    val_main_v69 (F := Ideal) x0 x1 x2 x3 x4 x5 x6 x7 x8 x9 x10 x11 x12 (ix2 a b)
      = dnorm (fun k => o2 x1 x2 x3 x4 x5 x6 x7 x8 x9 x10 x11 (ix2 a k)) (fun k => x0 (ix2 a k)) (fun k => x12 (ix1 k)) b := by
  pointwise [val_main_v69, val_main_v68, val_main_v67, val_main_v66, val_main_v65, val_main_v64, val_main_v63, val_main_v62,
    val_main_v61, val_main_v60, val_main_v59, val_main_v58, val_main_v57, val_main_v56, val_main_v54, val_main_v53,
    val_main_v45, val_main_v44, val_main_v43, val_main_v42, val_main_v41, val_main_v40, val_main_v39, val_main_v38,
    val_main_v37, val_main_v36, val_main_v35, val_main_v34, val_main_v47, val_main_cst_2, val_main_cst_3, val_main_cst_4,
    val_main_cst_5, val_main_cst_8, val_main_cst_9, val_main_cst_10]
  simp only [zero_add, Fin.sum_univ_one, ofBits_half, Finset.univ_unique, Finset.sum_singleton]
  rw [norm_grad (var_pos fun k => o2 x1 x2 x3 x4 x5 x6 x7 x8 x9 x10 x11 (ix2 a k))]
  unfold dnorm rs
  refine congrArg₂ (· - ·) rfl (congrArg₂ (· * ·) rfl (congrArg (Ideal.div · c1024) (Finset.sum_congr rfl fun k _ => ?_)))
  rw [mul_comm]

theorem do2_bf16_at (a : Fin 4224) (b : Fin 1024) :
    val_main_v100 (F := Ideal) x0 x1 x2 x3 x4 x5 x6 x7 x8 x9 x10 x11 x12 (ix2 a b)
      = dnorm (fun k => o2 x1 x2 x3 x4 x5 x6 x7 x8 x9 x10 x11 (ix2 a k)) (fun k => x0 (ix2 a k)) (fun k => x12 (ix1 k)) b := by
  pointwise [val_main_v100]
  exact do2_at ..

theorem dm_at (a : Fin 4224) (b : Fin 1024) :
    val_main_v70 (F := Ideal) x0 x1 x2 x3 x4 x5 x6 x7 x8 x9 x10 x11 x12 (ix2 a b)
      = dmr x0 x1 x2 x3 x4 x5 x6 x7 x8 x9 x10 x11 x12 a b := by
  pointwise [val_main_v70]
  simp only [do2_at]
  rfl

theorem gate_at (a : Fin 4224) (j : Fin 4096) :
    val_main_v13 (F := Ideal) x5 x6 (ix2 a j) = gate x5 x6 a j := by
  pointwise [val_main_v13, val_main_v12, val_main_v11, val_main_v10, val_main_v9, val_main_v8, val_main_v7, val_main_v6,
    val_main_v5, val_main_v4, val_main_cst, val_main_cst_0]
  try rfl

theorem gate0_at (a : Fin 4224) (b : Fin 1024) :
    val_main_v19 (F := Ideal) x5 x6 (ix2 a b) = gate x5 x6 a ⟨b.val, by omega⟩ := by
  pointwise [val_main_v19, val_main_v18, val_main_v17]
  simp only [gate_at]

theorem y0_at (a : Fin 4224) (b : Fin 1024) :
    val_main_v0 (F := Ideal) x1 x7 (ix2 a b) = ∑ k, x1 (ix2 a k) * x7 (ix2 k b) := by
  pointwise [val_main_v0]

theorem dy0_at (a : Fin 4224) (b : Fin 1024) :
    val_main_v85 (F := Ideal) x0 x1 x2 x3 x4 x5 x6 x7 x8 x9 x10 x11 x12 (ix2 a b)
      = dmr x0 x1 x2 x3 x4 x5 x6 x7 x8 x9 x10 x11 x12 a b * gate x5 x6 a ⟨b.val, by omega⟩ := by
  pointwise [val_main_v85]
  rw [gate0_at, dm_at, mul_comm]

theorem gate1_at (a : Fin 4224) (b : Fin 1024) :
    val_main_v22 (F := Ideal) x5 x6 (ix2 a b) = gate x5 x6 a ⟨1024 + b.val, by omega⟩ := by
  pointwise [val_main_v22, val_main_v21, val_main_v17]
  simp only [gate_at]

theorem y1_at (a : Fin 4224) (b : Fin 1024) :
    val_main_v1 (F := Ideal) x2 x8 (ix2 a b) = ∑ k, x2 (ix2 a k) * x8 (ix2 k b) := by
  pointwise [val_main_v1]

theorem dy1_at (a : Fin 4224) (b : Fin 1024) :
    val_main_v80 (F := Ideal) x0 x1 x2 x3 x4 x5 x6 x7 x8 x9 x10 x11 x12 (ix2 a b)
      = dmr x0 x1 x2 x3 x4 x5 x6 x7 x8 x9 x10 x11 x12 a b * gate x5 x6 a ⟨1024 + b.val, by omega⟩ := by
  pointwise [val_main_v80]
  rw [gate1_at, dm_at, mul_comm]

theorem gate2_at (a : Fin 4224) (b : Fin 1024) :
    val_main_v26 (F := Ideal) x5 x6 (ix2 a b) = gate x5 x6 a ⟨2048 + b.val, by omega⟩ := by
  pointwise [val_main_v26, val_main_v25, val_main_v17]
  simp only [gate_at]

theorem y2_at (a : Fin 4224) (b : Fin 1024) :
    val_main_v2 (F := Ideal) x3 x9 (ix2 a b) = ∑ k, x3 (ix2 a k) * x9 (ix2 k b) := by
  pointwise [val_main_v2]

theorem dy2_at (a : Fin 4224) (b : Fin 1024) :
    val_main_v75 (F := Ideal) x0 x1 x2 x3 x4 x5 x6 x7 x8 x9 x10 x11 x12 (ix2 a b)
      = dmr x0 x1 x2 x3 x4 x5 x6 x7 x8 x9 x10 x11 x12 a b * gate x5 x6 a ⟨2048 + b.val, by omega⟩ := by
  pointwise [val_main_v75]
  rw [gate2_at, dm_at, mul_comm]

theorem gate3_at (a : Fin 4224) (b : Fin 1024) :
    val_main_v30 (F := Ideal) x5 x6 (ix2 a b) = gate x5 x6 a ⟨3072 + b.val, by omega⟩ := by
  pointwise [val_main_v30, val_main_v29, val_main_v17]
  simp only [gate_at]

theorem y3_at (a : Fin 4224) (b : Fin 1024) :
    val_main_v3 (F := Ideal) x4 x10 (ix2 a b) = ∑ k, x4 (ix2 a k) * x10 (ix2 k b) := by
  pointwise [val_main_v3]

theorem dy3_at (a : Fin 4224) (b : Fin 1024) :
    val_main_v71 (F := Ideal) x0 x1 x2 x3 x4 x5 x6 x7 x8 x9 x10 x11 x12 (ix2 a b)
      = dmr x0 x1 x2 x3 x4 x5 x6 x7 x8 x9 x10 x11 x12 a b * gate x5 x6 a ⟨3072 + b.val, by omega⟩ := by
  pointwise [val_main_v71]
  rw [gate3_at, dm_at, mul_comm]

theorem dgl0_at (a : Fin 4224) (b : Fin 1024) :
    val_main_v91 (F := Ideal) x0 x1 x2 x3 x4 x5 x6 x7 x8 x9 x10 x11 x12 (ix2 a ⟨b.val, by omega⟩)
      = dgate (dmr x0 x1 x2 x3 x4 x5 x6 x7 x8 x9 x10 x11 x12 a b) (∑ k, x1 (ix2 a k) * x7 (ix2 k b)) (gate x5 x6 a ⟨b.val, by omega⟩) := by
  pointwise [val_main_v91, val_main_v16, val_main_v15, val_main_v14, val_main_v90, val_main_v89, val_main_v84, val_main_v79,
    val_main_v74, val_main_v78, val_main_v83, val_main_v88, val_main_v73, val_main_v77, val_main_v82, val_main_v87,
    val_main_v72, val_main_v76, val_main_v81, val_main_v86, val_main_cst_1, val_main_cst_11, val_main_cst_12,
    val_main_cst_13, val_main_cst_14]
  have hb := b.isLt
  have hd : (b.val) / 1024 = 0 := by omega
  simp only [hd, Nat.mod_eq_of_lt hb, gate_at, dm_at, y0_at]
  norm_num [hb]
  rw [← mul_assoc]
  rfl

theorem dyc0_at (a : Fin 4224) (b : Fin 1024) :
    val_main_v103 (F := Ideal) x0 x1 x2 x3 x4 x5 x6 x7 x8 x9 x10 x11 x12 (ix2 a ⟨b.val, by omega⟩)
      = dmr x0 x1 x2 x3 x4 x5 x6 x7 x8 x9 x10 x11 x12 a b * gate x5 x6 a ⟨b.val, by omega⟩ := by
  have hb := b.isLt
  have e : val_main_v103 (F := Ideal) x0 x1 x2 x3 x4 x5 x6 x7 x8 x9 x10 x11 x12 (ix2 a ⟨b.val, by omega⟩) = val_main_v85 (F := Ideal) x0 x1 x2 x3 x4 x5 x6 x7 x8 x9 x10 x11 x12 (ix2 a b) := by
    pointwise [val_main_v103, val_main_v102]
    try (repeat (first | rw [dif_neg (by omega)] | rw [dif_pos (by omega)]))
    try exact congrArg (fun q => val_main_v85 (F := Ideal) x0 x1 x2 x3 x4 x5 x6 x7 x8 x9 x10 x11 x12 (ix2 a q)) (Fin.ext (by dsimp only; omega))
  rw [e]
  exact dy0_at ..

theorem du0_at (a : Fin 4224) (b : Fin 256) :
    val_main_v99 (F := Ideal) x0 x1 x2 x3 x4 x5 x6 x7 x8 x9 x10 x11 x12 (ix2 a ⟨b.val, by omega⟩)
      = ∑ k : Fin 1024, dmr x0 x1 x2 x3 x4 x5 x6 x7 x8 x9 x10 x11 x12 a k * gate x5 x6 a ⟨k.val, by omega⟩ * x7 (ix2 b k) := by
  have hb := b.isLt
  have e : val_main_v99 (F := Ideal) x0 x1 x2 x3 x4 x5 x6 x7 x8 x9 x10 x11 x12 (ix2 a ⟨b.val, by omega⟩)
      = val_main_v98 (F := Ideal) x0 x1 x2 x3 x4 x5 x6 x7 x8 x9 x10 x11 x12 (ix2 a b) := by
    pointwise [val_main_v99]
    try (repeat (first | rw [dif_neg (by omega)] | rw [dif_pos (by omega)]))
    try exact congrArg (fun q => val_main_v98 (F := Ideal) x0 x1 x2 x3 x4 x5 x6 x7 x8 x9 x10 x11 x12 (ix2 a q)) (Fin.ext (by dsimp only; omega))
  rw [e]
  pointwise [val_main_v98]
  simp only [dy0_at]

theorem dgl1_at (a : Fin 4224) (b : Fin 1024) :
    val_main_v91 (F := Ideal) x0 x1 x2 x3 x4 x5 x6 x7 x8 x9 x10 x11 x12 (ix2 a ⟨1024 + b.val, by omega⟩)
      = dgate (dmr x0 x1 x2 x3 x4 x5 x6 x7 x8 x9 x10 x11 x12 a b) (∑ k, x2 (ix2 a k) * x8 (ix2 k b)) (gate x5 x6 a ⟨1024 + b.val, by omega⟩) := by
  pointwise [val_main_v91, val_main_v16, val_main_v15, val_main_v14, val_main_v90, val_main_v89, val_main_v84, val_main_v79,
    val_main_v74, val_main_v78, val_main_v83, val_main_v88, val_main_v73, val_main_v77, val_main_v82, val_main_v87,
    val_main_v72, val_main_v76, val_main_v81, val_main_v86, val_main_cst_1, val_main_cst_11, val_main_cst_12,
    val_main_cst_13, val_main_cst_14]
  have hb := b.isLt
  have hd : (1024 + b.val) / 1024 = 1 := by omega
  simp only [hd, gate_at, dm_at, y1_at]
  norm_num
  rw [← mul_assoc]
  rfl

theorem dyc1_at (a : Fin 4224) (b : Fin 1024) :
    val_main_v103 (F := Ideal) x0 x1 x2 x3 x4 x5 x6 x7 x8 x9 x10 x11 x12 (ix2 a ⟨1024 + b.val, by omega⟩)
      = dmr x0 x1 x2 x3 x4 x5 x6 x7 x8 x9 x10 x11 x12 a b * gate x5 x6 a ⟨1024 + b.val, by omega⟩ := by
  have hb := b.isLt
  have e : val_main_v103 (F := Ideal) x0 x1 x2 x3 x4 x5 x6 x7 x8 x9 x10 x11 x12 (ix2 a ⟨1024 + b.val, by omega⟩) = val_main_v80 (F := Ideal) x0 x1 x2 x3 x4 x5 x6 x7 x8 x9 x10 x11 x12 (ix2 a b) := by
    pointwise [val_main_v103, val_main_v102]
    try (repeat (first | rw [dif_neg (by omega)] | rw [dif_pos (by omega)]))
    try exact congrArg (fun q => val_main_v80 (F := Ideal) x0 x1 x2 x3 x4 x5 x6 x7 x8 x9 x10 x11 x12 (ix2 a q)) (Fin.ext (by dsimp only; omega))
  rw [e]
  exact dy1_at ..

theorem du1_at (a : Fin 4224) (b : Fin 512) :
    val_main_v99 (F := Ideal) x0 x1 x2 x3 x4 x5 x6 x7 x8 x9 x10 x11 x12 (ix2 a ⟨256 + b.val, by omega⟩)
      = ∑ k : Fin 1024, dmr x0 x1 x2 x3 x4 x5 x6 x7 x8 x9 x10 x11 x12 a k * gate x5 x6 a ⟨1024 + k.val, by omega⟩ * x8 (ix2 b k) := by
  have hb := b.isLt
  have e : val_main_v99 (F := Ideal) x0 x1 x2 x3 x4 x5 x6 x7 x8 x9 x10 x11 x12 (ix2 a ⟨256 + b.val, by omega⟩)
      = val_main_v97 (F := Ideal) x0 x1 x2 x3 x4 x5 x6 x7 x8 x9 x10 x11 x12 (ix2 a b) := by
    pointwise [val_main_v99]
    try (repeat (first | rw [dif_neg (by omega)] | rw [dif_pos (by omega)]))
    try exact congrArg (fun q => val_main_v97 (F := Ideal) x0 x1 x2 x3 x4 x5 x6 x7 x8 x9 x10 x11 x12 (ix2 a q)) (Fin.ext (by dsimp only; omega))
  rw [e]
  pointwise [val_main_v97]
  simp only [dy1_at]

theorem dgl2_at (a : Fin 4224) (b : Fin 1024) :
    val_main_v91 (F := Ideal) x0 x1 x2 x3 x4 x5 x6 x7 x8 x9 x10 x11 x12 (ix2 a ⟨2048 + b.val, by omega⟩)
      = dgate (dmr x0 x1 x2 x3 x4 x5 x6 x7 x8 x9 x10 x11 x12 a b) (∑ k, x3 (ix2 a k) * x9 (ix2 k b)) (gate x5 x6 a ⟨2048 + b.val, by omega⟩) := by
  pointwise [val_main_v91, val_main_v16, val_main_v15, val_main_v14, val_main_v90, val_main_v89, val_main_v84, val_main_v79,
    val_main_v74, val_main_v78, val_main_v83, val_main_v88, val_main_v73, val_main_v77, val_main_v82, val_main_v87,
    val_main_v72, val_main_v76, val_main_v81, val_main_v86, val_main_cst_1, val_main_cst_11, val_main_cst_12,
    val_main_cst_13, val_main_cst_14]
  have hb := b.isLt
  have hd : (2048 + b.val) / 1024 = 2 := by omega
  simp only [hd, gate_at, dm_at, y2_at]
  norm_num
  rw [← mul_assoc]
  rfl

theorem dyc2_at (a : Fin 4224) (b : Fin 1024) :
    val_main_v103 (F := Ideal) x0 x1 x2 x3 x4 x5 x6 x7 x8 x9 x10 x11 x12 (ix2 a ⟨2048 + b.val, by omega⟩)
      = dmr x0 x1 x2 x3 x4 x5 x6 x7 x8 x9 x10 x11 x12 a b * gate x5 x6 a ⟨2048 + b.val, by omega⟩ := by
  have hb := b.isLt
  have e : val_main_v103 (F := Ideal) x0 x1 x2 x3 x4 x5 x6 x7 x8 x9 x10 x11 x12 (ix2 a ⟨2048 + b.val, by omega⟩) = val_main_v75 (F := Ideal) x0 x1 x2 x3 x4 x5 x6 x7 x8 x9 x10 x11 x12 (ix2 a b) := by
    pointwise [val_main_v103, val_main_v102]
    try (repeat (first | rw [dif_neg (by omega)] | rw [dif_pos (by omega)]))
    try exact congrArg (fun q => val_main_v75 (F := Ideal) x0 x1 x2 x3 x4 x5 x6 x7 x8 x9 x10 x11 x12 (ix2 a q)) (Fin.ext (by dsimp only; omega))
  rw [e]
  exact dy2_at ..

theorem du2_at (a : Fin 4224) (b : Fin 256) :
    val_main_v99 (F := Ideal) x0 x1 x2 x3 x4 x5 x6 x7 x8 x9 x10 x11 x12 (ix2 a ⟨768 + b.val, by omega⟩)
      = ∑ k : Fin 1024, dmr x0 x1 x2 x3 x4 x5 x6 x7 x8 x9 x10 x11 x12 a k * gate x5 x6 a ⟨2048 + k.val, by omega⟩ * x9 (ix2 b k) := by
  have hb := b.isLt
  have e : val_main_v99 (F := Ideal) x0 x1 x2 x3 x4 x5 x6 x7 x8 x9 x10 x11 x12 (ix2 a ⟨768 + b.val, by omega⟩)
      = val_main_v96 (F := Ideal) x0 x1 x2 x3 x4 x5 x6 x7 x8 x9 x10 x11 x12 (ix2 a b) := by
    pointwise [val_main_v99]
    try (repeat (first | rw [dif_neg (by omega)] | rw [dif_pos (by omega)]))
    try exact congrArg (fun q => val_main_v96 (F := Ideal) x0 x1 x2 x3 x4 x5 x6 x7 x8 x9 x10 x11 x12 (ix2 a q)) (Fin.ext (by dsimp only; omega))
  rw [e]
  pointwise [val_main_v96]
  simp only [dy2_at]

theorem dgl3_at (a : Fin 4224) (b : Fin 1024) :
    val_main_v91 (F := Ideal) x0 x1 x2 x3 x4 x5 x6 x7 x8 x9 x10 x11 x12 (ix2 a ⟨3072 + b.val, by omega⟩)
      = dgate (dmr x0 x1 x2 x3 x4 x5 x6 x7 x8 x9 x10 x11 x12 a b) (∑ k, x4 (ix2 a k) * x10 (ix2 k b)) (gate x5 x6 a ⟨3072 + b.val, by omega⟩) := by
  pointwise [val_main_v91, val_main_v16, val_main_v15, val_main_v14, val_main_v90, val_main_v89, val_main_v84, val_main_v79,
    val_main_v74, val_main_v78, val_main_v83, val_main_v88, val_main_v73, val_main_v77, val_main_v82, val_main_v87,
    val_main_v72, val_main_v76, val_main_v81, val_main_v86, val_main_cst_1, val_main_cst_11, val_main_cst_12,
    val_main_cst_13, val_main_cst_14]
  have hb := b.isLt
  have hd : (3072 + b.val) / 1024 = 3 := by omega
  simp only [hd, gate_at, dm_at, y3_at]
  norm_num
  rw [← mul_assoc]
  rfl

theorem dyc3_at (a : Fin 4224) (b : Fin 1024) :
    val_main_v103 (F := Ideal) x0 x1 x2 x3 x4 x5 x6 x7 x8 x9 x10 x11 x12 (ix2 a ⟨3072 + b.val, by omega⟩)
      = dmr x0 x1 x2 x3 x4 x5 x6 x7 x8 x9 x10 x11 x12 a b * gate x5 x6 a ⟨3072 + b.val, by omega⟩ := by
  have hb := b.isLt
  have e : val_main_v103 (F := Ideal) x0 x1 x2 x3 x4 x5 x6 x7 x8 x9 x10 x11 x12 (ix2 a ⟨3072 + b.val, by omega⟩) = val_main_v71 (F := Ideal) x0 x1 x2 x3 x4 x5 x6 x7 x8 x9 x10 x11 x12 (ix2 a b) := by
    pointwise [val_main_v103, val_main_v102]
    try (repeat (first | rw [dif_neg (by omega)] | rw [dif_pos (by omega)]))
    try exact congrArg (fun q => val_main_v71 (F := Ideal) x0 x1 x2 x3 x4 x5 x6 x7 x8 x9 x10 x11 x12 (ix2 a q)) (Fin.ext (by dsimp only; omega))
  rw [e]
  exact dy3_at ..

theorem du3_at (a : Fin 4224) (b : Fin 256) :
    val_main_v99 (F := Ideal) x0 x1 x2 x3 x4 x5 x6 x7 x8 x9 x10 x11 x12 (ix2 a ⟨1024 + b.val, by omega⟩)
      = ∑ k : Fin 1024, dmr x0 x1 x2 x3 x4 x5 x6 x7 x8 x9 x10 x11 x12 a k * gate x5 x6 a ⟨3072 + k.val, by omega⟩ * x10 (ix2 b k) := by
  have hb := b.isLt
  have e : val_main_v99 (F := Ideal) x0 x1 x2 x3 x4 x5 x6 x7 x8 x9 x10 x11 x12 (ix2 a ⟨1024 + b.val, by omega⟩)
      = val_main_v95 (F := Ideal) x0 x1 x2 x3 x4 x5 x6 x7 x8 x9 x10 x11 x12 (ix2 a b) := by
    pointwise [val_main_v99]
    try (repeat (first | rw [dif_neg (by omega)] | rw [dif_pos (by omega)]))
    try exact congrArg (fun q => val_main_v95 (F := Ideal) x0 x1 x2 x3 x4 x5 x6 x7 x8 x9 x10 x11 x12 (ix2 a q)) (Fin.ext (by dsimp only; omega))
  rw [e]
  pointwise [val_main_v95]
  simp only [dy3_at]

theorem dgl_bf16_at (a : Fin 4224) (j : Fin 4096) :
    val_main_v101 (F := Ideal) x0 x1 x2 x3 x4 x5 x6 x7 x8 x9 x10 x11 x12 (ix2 a j) = val_main_v91 (F := Ideal) x0 x1 x2 x3 x4 x5 x6 x7 x8 x9 x10 x11 x12 (ix2 a j) := by
  pointwise [val_main_v101]

theorem dgb_at (j : Fin 4096) :
    val_main_v104 (F := Ideal) x0 x1 x2 x3 x4 x5 x6 x7 x8 x9 x10 x11 x12 (ix2 0 j) = ∑ a, val_main_v91 (F := Ideal) x0 x1 x2 x3 x4 x5 x6 x7 x8 x9 x10 x11 x12 (ix2 a j) := by
  pointwise [val_main_v104, val_main_v94, val_main_v93, val_main_v92, val_main_cst_15, val_main_cst_16]
  simp only [zero_add, Finset.univ_unique, Finset.sum_singleton]

theorem dg_at (j : Fin 1024) :
    val_main_v105 (F := Ideal) x0 x1 x2 x3 x4 x5 x6 x7 x8 x9 x10 x11 (ix2 0 j)
      = ∑ a, x0 (ix2 a j) * o2 x1 x2 x3 x4 x5 x6 x7 x8 x9 x10 x11 (ix2 a j)
          * rs fun k => o2 x1 x2 x3 x4 x5 x6 x7 x8 x9 x10 x11 (ix2 a k) := by
  pointwise [val_main_v105, val_main_v55, val_main_v52, val_main_v51, val_main_v50, val_main_v46, val_main_v45, val_main_v41,
    val_main_v40, val_main_v39, val_main_v38, val_main_v37, val_main_v36, val_main_v35, val_main_v34, val_main_cst_2,
    val_main_cst_3, val_main_cst_4, val_main_cst_6, val_main_cst_7]
  simp only [zero_add, Finset.univ_unique, Finset.sum_singleton]
  refine Finset.sum_congr rfl fun a _ => ?_
  rw [mul_comm, ← mul_assoc]
  rfl

end

end Cert.RefRead
-- ==== Proof.Blocks.lean ====
/-
  The kernel's input blocks read at an element, over the program's arguments.
-/
module

public import proofs.«01_k».proof.Proof.Ref
public import proofs.«01_k».proof.Proof.Gen.KernelIdeal.Value
public import Idealize.ShloMosaic.Lib.Pipeline.ValueKit
public import Idealize.ShloMosaic.Lib.Claim
public import Idealize.ShloMosaic.Lib.StableHlo.RunRead

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.ReferenceIdeal.S4224x1024 .f32 := m ((c : Thread nD τ).loc main_arg0)
/-- Argument 1 of the program. -/
abbrev A1 (c : Dev nD) : FVec Ideal Cert.ReferenceIdeal.S4224x256 .f32 := m ((c : Thread nD τ).loc main_arg1)
/-- Argument 2 of the program. -/
abbrev A2 (c : Dev nD) : FVec Ideal Cert.ReferenceIdeal.S4224x512 .f32 := m ((c : Thread nD τ).loc main_arg2)
/-- Argument 3 of the program. -/
abbrev A3 (c : Dev nD) : FVec Ideal Cert.ReferenceIdeal.S4224x256 .f32 := m ((c : Thread nD τ).loc main_arg3)
/-- Argument 4 of the program. -/
abbrev A4 (c : Dev nD) : FVec Ideal Cert.ReferenceIdeal.S4224x256 .f32 := m ((c : Thread nD τ).loc main_arg4)
/-- Argument 5 of the program. -/
abbrev A5 (c : Dev nD) : FVec Ideal Cert.ReferenceIdeal.S4224x7328 .f32 := m ((c : Thread nD τ).loc main_arg5)
/-- Argument 6 of the program. -/
abbrev A6 (c : Dev nD) : FVec Ideal Cert.ReferenceIdeal.S4096 .f32 := m ((c : Thread nD τ).loc main_arg6)
/-- Argument 7 of the program. -/
abbrev A7 (c : Dev nD) : FVec Ideal Cert.ReferenceIdeal.S256x1024 .f32 := m ((c : Thread nD τ).loc main_arg7)
/-- Argument 8 of the program. -/
abbrev A8 (c : Dev nD) : FVec Ideal Cert.ReferenceIdeal.S512x1024 .f32 := m ((c : Thread nD τ).loc main_arg8)
/-- Argument 9 of the program. -/
abbrev A9 (c : Dev nD) : FVec Ideal Cert.ReferenceIdeal.S256x1024 .f32 := m ((c : Thread nD τ).loc main_arg9)
/-- Argument 10 of the program. -/
abbrev A10 (c : Dev nD) : FVec Ideal Cert.ReferenceIdeal.S256x1024 .f32 := m ((c : Thread nD τ).loc main_arg10)
/-- Argument 11 of the program. -/
abbrev A11 (c : Dev nD) : FVec Ideal Cert.ReferenceIdeal.S1024x1024 .f32 := m ((c : Thread nD τ).loc main_arg11)
/-- Argument 12 of the program. -/
abbrev A12 (c : Dev nD) : FVec Ideal Cert.ReferenceIdeal.S1024 .f32 := m ((c : Thread nD τ).loc main_arg12)

theorem idx_val : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![t.val, 0] ∧ win0_9.index t = ![t.val, 0]
    ∧ win0_10.index t = ![t.val, 0] ∧ win0_11.index t = ![t.val, 0] ∧ win0_12.index t = ![0, 0]
    ∧ win0_13.index t = ![0, 0] :=
  (by decide +kernel : ∀ t : Fin grid0.N, _)

/-- The row of the whole array that row `a` of point `t`'s block is. -/
def row (t : Fin cfg0.N) (a : Fin 384) : Fin 4224 :=
  ⟨t.val * 384 + a.val, by have := lt_of_lt_of_eq t.isLt N_0; omega⟩

theorem blk0 (c : Dev nD) (t : Fin cfg0.N) (a : Fin 384) (b : Fin 1024) :
    iblk m c 0 t (ix2 a b) = A0 m c (ix2 (row t a) b) := by
  blk_ext [iblk, V, idx_val t, row]

theorem entry34 (c : Dev nD) : V m c main_v34
    = RefRead.o2 (A1 m c) (A2 m c) (A3 m c) (A4 m c) (A5 m c) (A6 m c) (A7 m c) (A8 m c) (A9 m c) (A10 m c) (A11 m c) := by
  entry_read
  rfl

theorem blk1 (c : Dev nD) (t : Fin cfg0.N) (a : Fin 384) (b : Fin 1024) :
    iblk m c 1 t (ix2 a b)
      = RefRead.o2 (A1 m c) (A2 m c) (A3 m c) (A4 m c) (A5 m c) (A6 m c) (A7 m c) (A8 m c) (A9 m c) (A10 m c) (A11 m c)
          (ix2 (row t a) b) := by
  rw [← entry34]
  blk_ext [iblk, idx_val t, row]

theorem entry45 (c : Dev nD) (b : Fin 1024) : V m c main_v45 (ix2 0 b) = A12 m c (ix1 b) := by
  entry_read
  pointwise []

theorem entry44 (c : Dev nD) (a b : Fin 1024) : V m c main_v44 (ix2 a b) = A11 m c (ix2 a b) := by
  entry_read
  pointwise []

theorem entry43 (c : Dev nD) (j : Fin 4096) : V m c main_v43 (ix2 0 j) = A6 m c (ix1 j) := by
  entry_read
  pointwise []

theorem entry35 (c : Dev nD) (r : Fin 4224) (j : Fin 4096) :
    V m c main_v35 (ix2 r j) = A5 m c (ix2 r ⟨3232 + j.val, by omega⟩) := by
  entry_read
  pointwise []

theorem upto35 (c : Dev nD) :
    StableHlo.upto hostOps0 (fun b => m (c, b)) 46 main_v35 = V m c main_v35 :=
  (StableHlo.upto_last_write (i := 37) [main_v36, main_cst_1, main_v37, main_v38, main_cst_2, main_v39, main_v40, main_v41]
    rfl rfl (by decide) _).trans
  (StableHlo.after_last_write (i := 37) [main_v36, main_cst_1, main_v37, main_v38, main_cst_2, main_v39, main_v40, main_v41,
    main_v42, main_v43, main_v44, main_v45] rfl rfl (by decide) _).symm

theorem entry42 (c : Dev nD) (r : Fin 4224) (j : Fin 4096) :
    V m c main_v42 (ix2 r ⟨j.val, by omega⟩) = A5 m c (ix2 r ⟨3232 + j.val, by omega⟩) := by
  rw [← entry35, ← upto35]
  have e := StableHlo.after_last_write (ops := (hostOps0 : List (HloOp τ sig (Elt Ideal)))) (i := 46) (r := main_v42)
    [main_v43, main_v44, main_v45] rfl rfl (by decide) (fun b => m (c, b))
  rw [StableHlo.nary_result'] at e
  refine (congrFun e _).trans ?_
  apply concatenate_apply_piece (α := Elt Ideal .f32) (t := S4224x7424) (k := 0) (pre := 0) (s₁ := S4224x4096) (hr := rfl) (i := ix2 r j)
    (x₁ := StableHlo.upto hostOps0 (fun b => m (c, b)) 46 main_v35)
  · rfl
  · rfl
  · intro b hb
    fin_cases b
    · rfl
    · exact absurd rfl hb
  · exact Nat.zero_add _
  · exact Nat.succ_pos _
theorem blk7 (c : Dev nD) (t : Fin cfg0.N) (b : Fin 1024) : iblk m c 7 t (ix2 0 b) = A12 m c (ix1 b) := by
  refine Eq.trans ?_ (entry45 m c b)
  blk_ext [iblk, idx_val t]

theorem blk6 (c : Dev nD) (t : Fin cfg0.N) (a b : Fin 1024) : iblk m c 6 t (ix2 a b) = A11 m c (ix2 a b) := by
  refine Eq.trans ?_ (entry44 m c a b)
  blk_ext [iblk, idx_val t]

theorem blk4 (c : Dev nD) (t : Fin cfg0.N) (j : Fin 4096) : iblk m c 4 t (ix2 0 j) = A6 m c (ix1 j) := by
  refine Eq.trans ?_ (entry43 m c j)
  blk_ext [iblk, idx_val t]

theorem blk3 (c : Dev nD) (t : Fin cfg0.N) (a : Fin 384) (j : Fin 4096) :
    X0_3 m c t (ix2 a j) = A5 m c (ix2 (row t a) ⟨3232 + j.val, by omega⟩) := by
  refine Eq.trans ?_ (entry42 m c (row t a) j)
  unfold X0_3 Pipeline.Window.fill
  rw [dif_pos (moved0_3 t _)]
  blk_ext [iblk, idx_val t, row]

theorem entry1_0 (c : Dev nD) (r : Fin 4224) (b : Fin 256) :
    V m c main_v1 (ix2 r ⟨b.val, by omega⟩) = A1 m c (ix2 r b) := by
  have hb := b.isLt
  entry_read
  pointwise []
  try (repeat (first | rw [dif_neg (by omega)] | rw [dif_pos (by omega)]))
  try exact congrArg (fun q => A1 m c (ix2 r q)) (Fin.ext (by dsimp only; omega))

theorem entry3_0 (c : Dev nD) (a : Fin 256) (b : Fin 1024) :
    V m c main_v3 (ix2 ⟨a.val, by omega⟩ b) = A7 m c (ix2 a b) := by
  have ha := a.isLt
  entry_read
  pointwise []
  try (repeat (first | rw [dif_neg (by omega)] | rw [dif_pos (by omega)]))
  try exact congrArg (fun q => A7 m c (ix2 q b)) (Fin.ext (by dsimp only; omega))

theorem blk2_0 (c : Dev nD) (t : Fin cfg0.N) (a : Fin 384) (b : Fin 256) :
    iblk m c 2 t (ix2 a ⟨b.val, by omega⟩) = A1 m c (ix2 (row t a) b) := by
  refine Eq.trans ?_ (entry1_0 m c (row t a) b)
  blk_ext [iblk, idx_val t, row]

theorem blk5_0 (c : Dev nD) (t : Fin cfg0.N) (a : Fin 256) (b : Fin 1024) :
    iblk m c 5 t (ix2 ⟨a.val, by omega⟩ b) = A7 m c (ix2 a b) := by
  refine Eq.trans ?_ (entry3_0 m c a b)
  blk_ext [iblk, idx_val t]

theorem entry1_1 (c : Dev nD) (r : Fin 4224) (b : Fin 512) :
    V m c main_v1 (ix2 r ⟨256 + b.val, by omega⟩) = A2 m c (ix2 r b) := by
  have hb := b.isLt
  entry_read
  pointwise []
  try (repeat (first | rw [dif_neg (by omega)] | rw [dif_pos (by omega)]))
  try exact congrArg (fun q => A2 m c (ix2 r q)) (Fin.ext (by dsimp only; omega))

theorem entry3_1 (c : Dev nD) (a : Fin 512) (b : Fin 1024) :
    V m c main_v3 (ix2 ⟨256 + a.val, by omega⟩ b) = A8 m c (ix2 a b) := by
  have ha := a.isLt
  entry_read
  pointwise []
  try (repeat (first | rw [dif_neg (by omega)] | rw [dif_pos (by omega)]))
  try exact congrArg (fun q => A8 m c (ix2 q b)) (Fin.ext (by dsimp only; omega))

theorem blk2_1 (c : Dev nD) (t : Fin cfg0.N) (a : Fin 384) (b : Fin 512) :
    iblk m c 2 t (ix2 a ⟨256 + b.val, by omega⟩) = A2 m c (ix2 (row t a) b) := by
  refine Eq.trans ?_ (entry1_1 m c (row t a) b)
  blk_ext [iblk, idx_val t, row]

theorem blk5_1 (c : Dev nD) (t : Fin cfg0.N) (a : Fin 512) (b : Fin 1024) :
    iblk m c 5 t (ix2 ⟨256 + a.val, by omega⟩ b) = A8 m c (ix2 a b) := by
  refine Eq.trans ?_ (entry3_1 m c a b)
  blk_ext [iblk, idx_val t]

theorem entry1_2 (c : Dev nD) (r : Fin 4224) (b : Fin 256) :
    V m c main_v1 (ix2 r ⟨768 + b.val, by omega⟩) = A3 m c (ix2 r b) := by
  have hb := b.isLt
  entry_read
  pointwise []
  try (repeat (first | rw [dif_neg (by omega)] | rw [dif_pos (by omega)]))
  try exact congrArg (fun q => A3 m c (ix2 r q)) (Fin.ext (by dsimp only; omega))

theorem entry3_2 (c : Dev nD) (a : Fin 256) (b : Fin 1024) :
    V m c main_v3 (ix2 ⟨768 + a.val, by omega⟩ b) = A9 m c (ix2 a b) := by
  have ha := a.isLt
  entry_read
  pointwise []
  try (repeat (first | rw [dif_neg (by omega)] | rw [dif_pos (by omega)]))
  try exact congrArg (fun q => A9 m c (ix2 q b)) (Fin.ext (by dsimp only; omega))

theorem blk2_2 (c : Dev nD) (t : Fin cfg0.N) (a : Fin 384) (b : Fin 256) :
    iblk m c 2 t (ix2 a ⟨768 + b.val, by omega⟩) = A3 m c (ix2 (row t a) b) := by
  refine Eq.trans ?_ (entry1_2 m c (row t a) b)
  blk_ext [iblk, idx_val t, row]

theorem blk5_2 (c : Dev nD) (t : Fin cfg0.N) (a : Fin 256) (b : Fin 1024) :
    iblk m c 5 t (ix2 ⟨768 + a.val, by omega⟩ b) = A9 m c (ix2 a b) := by
  refine Eq.trans ?_ (entry3_2 m c a b)
  blk_ext [iblk, idx_val t]

theorem entry1_3 (c : Dev nD) (r : Fin 4224) (b : Fin 256) :
    V m c main_v1 (ix2 r ⟨1024 + b.val, by omega⟩) = A4 m c (ix2 r b) := by
  have hb := b.isLt
  entry_read
  pointwise []
  try (repeat (first | rw [dif_neg (by omega)] | rw [dif_pos (by omega)]))
  try exact congrArg (fun q => A4 m c (ix2 r q)) (Fin.ext (by dsimp only; omega))

theorem entry3_3 (c : Dev nD) (a : Fin 256) (b : Fin 1024) :
    V m c main_v3 (ix2 ⟨1024 + a.val, by omega⟩ b) = A10 m c (ix2 a b) := by
  have ha := a.isLt
  entry_read
  pointwise []
  try (repeat (first | rw [dif_neg (by omega)] | rw [dif_pos (by omega)]))
  try exact congrArg (fun q => A10 m c (ix2 q b)) (Fin.ext (by dsimp only; omega))

theorem blk2_3 (c : Dev nD) (t : Fin cfg0.N) (a : Fin 384) (b : Fin 256) :
    iblk m c 2 t (ix2 a ⟨1024 + b.val, by omega⟩) = A4 m c (ix2 (row t a) b) := by
  refine Eq.trans ?_ (entry1_3 m c (row t a) b)
  blk_ext [iblk, idx_val t, row]

theorem blk5_3 (c : Dev nD) (t : Fin cfg0.N) (a : Fin 256) (b : Fin 1024) :
    iblk m c 5 t (ix2 ⟨1024 + a.val, by omega⟩ b) = A10 m c (ix2 a b) := by
  refine Eq.trans ?_ (entry3_3 m c a b)
  blk_ext [iblk, idx_val t]

end Cert.KernelIdeal.Value
-- ==== Proof.Pay.lean ====
/-
  The kernel's payloads read at an element, in the row mathematics of Row.lean.
-/
module

public import proofs.«01_k».proof.Proof.Row
public import proofs.«01_k».proof.Proof.Gen.KernelIdeal.Skeleton
public import Idealize.ShloMosaic.Lib.Pointwise

@[expose] public section

set_option maxRecDepth 16384

noncomputable section

namespace Cert.KernelIdeal.Pay

open Cert.KernelIdeal Cert.KernelIdeal.Gen Cert.Row Idealize.ShloMosaic Idealize.ShloMosaic.TcCoe

variable (x dy : Vec Ideal S384x1024 .f32) (g : Vec Ideal S1x1024 .f32) (w : Vec Ideal S1024x1024 .bf16)

theorem do2_at (a : Fin 384) (b : Fin 1024) :
    k0_pay5 x dy g (ix2 a b)
      = dnorm (fun k => x (ix2 a k)) (fun k => dy (ix2 a k)) (fun k => g (ix2 0 k)) b := by
  pointwise [k0_pay5, k0_pay4, k0_pay3]
  rfl

theorem dm_at (a : Fin 384) (b : Fin 1024) :
    k0_pay7 x dy g w (ix2 a b)
      = dprod (fun k => x (ix2 a k)) (fun k => dy (ix2 a k)) (fun k => g (ix2 0 k)) (fun i k => w (ix2 i k)) b := by
  pointwise [k0_pay7]
  simp only [do2_at]
  rfl

theorem dg_at (b : Fin 1024) :
    k0_pay6 x dy (ix2 0 b) = ∑ a, dy (ix2 a b) * x (ix2 a b) * rs fun k => x (ix2 a k) := by
  pointwise [k0_pay6, k0_pay4, k0_pay3]
  rfl

theorem dg_add_at (v old : FVec Ideal S1x1024 .f32) (b : Fin 1024) : k0_pay2 v old (ix2 0 b) = old (ix2 0 b) + v (ix2 0 b) := by
  pointwise [k0_pay2]

section
variable (d z : Vec Ideal S384x1024 .f32) (u : Vec Ideal S384x256 .bf16) (v : Vec Ideal S256x1024 .bf16) (gb old : Vec Ideal S1x1024 .f32)

theorem gate0_at (a : Fin 384) (b : Fin 1024) : k0_pay8 z gb (ix2 a b) = Ideal.logistic (z (ix2 a b) + gb (ix2 0 b)) := by
  pointwise [k0_pay8]

theorem dgl0_f32_at (a : Fin 384) (b : Fin 1024) :
    k0_pay9 d u v z gb (ix2 a b)
      = dgate (d (ix2 a b)) (∑ k, u (ix2 a k) * v (ix2 k b)) (Ideal.logistic (z (ix2 a b) + gb (ix2 0 b))) := by
  pointwise [k0_pay9, k0_pay8]
  rfl

theorem dgl0_at (a : Fin 384) (b : Fin 1024) :
    k0_pay10 d u v z gb (ix2 a b)
      = dgate (d (ix2 a b)) (∑ k, u (ix2 a k) * v (ix2 k b)) (Ideal.logistic (z (ix2 a b) + gb (ix2 0 b))) := by
  pointwise [k0_pay10]
  exact dgl0_f32_at ..

theorem part0_at (b : Fin 1024) :
    k0_pay11 d u v z gb (ix2 0 b)
      = ∑ a, dgate (d (ix2 a b)) (∑ k, u (ix2 a k) * v (ix2 k b)) (Ideal.logistic (z (ix2 a b) + gb (ix2 0 b))) := by
  pointwise [k0_pay11]
  simp only [dgl0_f32_at]

theorem acc0_at (b : Fin 1024) :
    k0_pay12 d u v z gb old (ix2 0 b) = old (ix2 0 b)
      + ∑ a, dgate (d (ix2 a b)) (∑ k, u (ix2 a k) * v (ix2 k b)) (Ideal.logistic (z (ix2 a b) + gb (ix2 0 b))) := by
  pointwise [k0_pay12]
  rw [part0_at]

theorem dy0_at (a : Fin 384) (b : Fin 1024) :
    k0_pay13 d z gb (ix2 a b) = d (ix2 a b) * Ideal.logistic (z (ix2 a b) + gb (ix2 0 b)) := by
  pointwise [k0_pay13, k0_pay8]

theorem du0_at (a : Fin 384) (b : Fin 256) :
    k0_pay14 d z gb v (ix2 a b)
      = ∑ k, d (ix2 a k) * Ideal.logistic (z (ix2 a k) + gb (ix2 0 k)) * v (ix2 b k) := by
  pointwise [k0_pay14]
  simp only [dy0_at]

end

section
variable (d z : Vec Ideal S384x1024 .f32) (u : Vec Ideal S384x512 .bf16) (v : Vec Ideal S512x1024 .bf16) (gb old : Vec Ideal S1x1024 .f32)

theorem gate1_at (a : Fin 384) (b : Fin 1024) : k0_pay15 z gb (ix2 a b) = Ideal.logistic (z (ix2 a b) + gb (ix2 0 b)) := by
  pointwise [k0_pay15]

theorem dgl1_f32_at (a : Fin 384) (b : Fin 1024) :
    k0_pay16 d u v z gb (ix2 a b)
      = dgate (d (ix2 a b)) (∑ k, u (ix2 a k) * v (ix2 k b)) (Ideal.logistic (z (ix2 a b) + gb (ix2 0 b))) := by
  pointwise [k0_pay16, k0_pay15]
  rfl

theorem dgl1_at (a : Fin 384) (b : Fin 1024) :
    k0_pay17 d u v z gb (ix2 a b)
      = dgate (d (ix2 a b)) (∑ k, u (ix2 a k) * v (ix2 k b)) (Ideal.logistic (z (ix2 a b) + gb (ix2 0 b))) := by
  pointwise [k0_pay17]
  exact dgl1_f32_at ..

theorem part1_at (b : Fin 1024) :
    k0_pay18 d u v z gb (ix2 0 b)
      = ∑ a, dgate (d (ix2 a b)) (∑ k, u (ix2 a k) * v (ix2 k b)) (Ideal.logistic (z (ix2 a b) + gb (ix2 0 b))) := by
  pointwise [k0_pay18]
  simp only [dgl1_f32_at]

theorem acc1_at (b : Fin 1024) :
    k0_pay19 d u v z gb old (ix2 0 b) = old (ix2 0 b)
      + ∑ a, dgate (d (ix2 a b)) (∑ k, u (ix2 a k) * v (ix2 k b)) (Ideal.logistic (z (ix2 a b) + gb (ix2 0 b))) := by
  pointwise [k0_pay19]
  rw [part1_at]

theorem dy1_at (a : Fin 384) (b : Fin 1024) :
    k0_pay20 d z gb (ix2 a b) = d (ix2 a b) * Ideal.logistic (z (ix2 a b) + gb (ix2 0 b)) := by
  pointwise [k0_pay20, k0_pay15]

theorem du1_at (a : Fin 384) (b : Fin 512) :
    k0_pay21 d z gb v (ix2 a b)
      = ∑ k, d (ix2 a k) * Ideal.logistic (z (ix2 a k) + gb (ix2 0 k)) * v (ix2 b k) := by
  pointwise [k0_pay21]
  simp only [dy1_at]

end

section
variable (d z : Vec Ideal S384x1024 .f32) (u : Vec Ideal S384x256 .bf16) (v : Vec Ideal S256x1024 .bf16) (gb old : Vec Ideal S1x1024 .f32)

theorem gate2_at (a : Fin 384) (b : Fin 1024) : k0_pay22 z gb (ix2 a b) = Ideal.logistic (z (ix2 a b) + gb (ix2 0 b)) := by
  pointwise [k0_pay22]

theorem dgl2_f32_at (a : Fin 384) (b : Fin 1024) :
    k0_pay23 d u v z gb (ix2 a b)
      = dgate (d (ix2 a b)) (∑ k, u (ix2 a k) * v (ix2 k b)) (Ideal.logistic (z (ix2 a b) + gb (ix2 0 b))) := by
  pointwise [k0_pay23, k0_pay22]
  rfl

theorem dgl2_at (a : Fin 384) (b : Fin 1024) :
    k0_pay24 d u v z gb (ix2 a b)
      = dgate (d (ix2 a b)) (∑ k, u (ix2 a k) * v (ix2 k b)) (Ideal.logistic (z (ix2 a b) + gb (ix2 0 b))) := by
  pointwise [k0_pay24]
  exact dgl2_f32_at ..

theorem part2_at (b : Fin 1024) :
    k0_pay25 d u v z gb (ix2 0 b)
      = ∑ a, dgate (d (ix2 a b)) (∑ k, u (ix2 a k) * v (ix2 k b)) (Ideal.logistic (z (ix2 a b) + gb (ix2 0 b))) := by
  pointwise [k0_pay25]
  simp only [dgl2_f32_at]

theorem acc2_at (b : Fin 1024) :
    k0_pay26 d u v z gb old (ix2 0 b) = old (ix2 0 b)
      + ∑ a, dgate (d (ix2 a b)) (∑ k, u (ix2 a k) * v (ix2 k b)) (Ideal.logistic (z (ix2 a b) + gb (ix2 0 b))) := by
  pointwise [k0_pay26]
  rw [part2_at]

theorem dy2_at (a : Fin 384) (b : Fin 1024) :
    k0_pay27 d z gb (ix2 a b) = d (ix2 a b) * Ideal.logistic (z (ix2 a b) + gb (ix2 0 b)) := by
  pointwise [k0_pay27, k0_pay22]

theorem du2_at (a : Fin 384) (b : Fin 256) :
    k0_pay28 (k0_pay27 d z gb) v (ix2 a b)
      = ∑ k, d (ix2 a k) * Ideal.logistic (z (ix2 a k) + gb (ix2 0 k)) * v (ix2 b k) := by
  pointwise [k0_pay28]
  simp only [dy2_at]

end

section
variable (d z : Vec Ideal S384x1024 .f32) (u : Vec Ideal S384x256 .bf16) (v : Vec Ideal S256x1024 .bf16) (gb old : Vec Ideal S1x1024 .f32)

theorem gate3_at (a : Fin 384) (b : Fin 1024) : k0_pay29 z gb (ix2 a b) = Ideal.logistic (z (ix2 a b) + gb (ix2 0 b)) := by
  pointwise [k0_pay29]

theorem dgl3_f32_at (a : Fin 384) (b : Fin 1024) :
    k0_pay30 d u v z gb (ix2 a b)
      = dgate (d (ix2 a b)) (∑ k, u (ix2 a k) * v (ix2 k b)) (Ideal.logistic (z (ix2 a b) + gb (ix2 0 b))) := by
  pointwise [k0_pay30, k0_pay29]
  rfl

theorem dgl3_at (a : Fin 384) (b : Fin 1024) :
    k0_pay31 d u v z gb (ix2 a b)
      = dgate (d (ix2 a b)) (∑ k, u (ix2 a k) * v (ix2 k b)) (Ideal.logistic (z (ix2 a b) + gb (ix2 0 b))) := by
  pointwise [k0_pay31]
  exact dgl3_f32_at ..

theorem part3_at (b : Fin 1024) :
    k0_pay32 d u v z gb (ix2 0 b)
      = ∑ a, dgate (d (ix2 a b)) (∑ k, u (ix2 a k) * v (ix2 k b)) (Ideal.logistic (z (ix2 a b) + gb (ix2 0 b))) := by
  pointwise [k0_pay32]
  simp only [dgl3_f32_at]

theorem acc3_at (b : Fin 1024) :
    k0_pay33 d u v z gb old (ix2 0 b) = old (ix2 0 b)
      + ∑ a, dgate (d (ix2 a b)) (∑ k, u (ix2 a k) * v (ix2 k b)) (Ideal.logistic (z (ix2 a b) + gb (ix2 0 b))) := by
  pointwise [k0_pay33]
  rw [part3_at]

theorem dy3_at (a : Fin 384) (b : Fin 1024) :
    k0_pay34 d z gb (ix2 a b) = d (ix2 a b) * Ideal.logistic (z (ix2 a b) + gb (ix2 0 b)) := by
  pointwise [k0_pay34, k0_pay29]

theorem du3_at (a : Fin 384) (b : Fin 256) :
    k0_pay1 (k0_pay34 d z gb) v (ix2 a b)
      = ∑ k, d (ix2 a k) * Ideal.logistic (z (ix2 a k) + gb (ix2 0 k)) * v (ix2 b k) := by
  pointwise [k0_pay1]
  simp only [dy3_at]

end

end Cert.KernelIdeal.Pay
-- ==== Proof.Tiles.lean ====
/-
  The four column tiles of one grid point: what the body computes there, over the program's arguments.
-/
module

public import proofs.«01_k».proof.Proof.Blocks
public import proofs.«01_k».proof.Proof.Pay

@[expose] public section

set_option maxRecDepth 16384

noncomputable section

namespace Cert.KernelIdeal.Value

open Cert.KernelIdeal Cert.KernelIdeal.Gen Cert.Row Idealize.ShloMosaic Idealize.ShloMosaic.TcCoe Idealize.SL.Sem

variable (m : (ℓ : Loc nD τ sig) → Buf (Elt Ideal) ℓ)

/-- The gradient of the merged branches in a grid point's block. -/
abbrev dmb (c : Dev nD) (t : Fin cfg0.N) : FVec Ideal S384x1024 .f32 :=
  k0_pay7 (iblk m c 1 t) (iblk m c 0 t) (iblk m c 7 t) (iblk m c 6 t)

/-- The same over the arguments. -/
abbrev dma (c : Dev nD) (r : Fin 4224) (b : Fin 1024) : EReal :=
  RefRead.dmr (A0 m c) (A1 m c) (A2 m c) (A3 m c) (A4 m c) (A5 m c) (A6 m c) (A7 m c) (A8 m c) (A9 m c) (A10 m c) (A11 m c) (A12 m c) r b

/-- The gates over the arguments. -/
abbrev gta (c : Dev nD) (r : Fin 4224) (j : Fin 4096) : EReal := RefRead.gate (A5 m c) (A6 m c) r j

theorem idx2 {n k : ℕ} (x : (⟨2, ![n, k]⟩ : Shape).Idx) : ∃ (a : Fin n) (b : Fin k), x = ix2 a b :=
  ⟨x 0, x 1, by funext i; fin_cases i <;> rfl⟩

theorem dmb_at (c : Dev nD) (t : Fin cfg0.N) (a : Fin 384) (b : Fin 1024) :
    dmb m c t (ix2 a b) = dma m c (row t a) b := by
  refine (Pay.dm_at (iblk m c 1 t) (iblk m c 0 t) (iblk m c 7 t) (iblk m c 6 t) a b).trans ?_
  simp only [blk1, blk0, blk7, blk6]
  rfl

theorem do2_blk (c : Dev nD) (t : Fin cfg0.N) (a : Fin 384) (b : Fin 1024) :
    k0_pay5 (iblk m c 1 t) (iblk m c 0 t) (iblk m c 7 t) (ix2 a b)
      = Cert.ReferenceIdeal.Read.val_main_v100 (F := Ideal) (A0 m c) (A1 m c) (A2 m c) (A3 m c) (A4 m c) (A5 m c) (A6 m c) (A7 m c) (A8 m c) (A9 m c) (A10 m c) (A11 m c) (A12 m c) (ix2 (row t a) b) := by
  refine (Pay.do2_at (iblk m c 1 t) (iblk m c 0 t) (iblk m c 7 t) a b).trans ?_
  simp only [blk1, blk0, blk7]
  exact (RefRead.do2_bf16_at ..).symm

section
variable (c : Dev nD) (t : Fin cfg0.N)

abbrev z0 (h : ∀ a : Fin 2, (![0, 0] : Fin 2 → ℕ) a + (![384, 1024] : Fin 2 → ℕ) a ≤ S384x4096.size a) : FVec Ideal S384x1024 .f32 := View.ld (S := S384x4096) (X0_3 m c t) (Rect.unit ![0, 0] ![384, 1024] h)
abbrev b0 (h : ∀ a : Fin 2, (![0, 0] : Fin 2 → ℕ) a + (![1, 1024] : Fin 2 → ℕ) a ≤ S1x4096.size a) : FVec Ideal S1x1024 .f32 := View.ld (S := S1x4096) (iblk m c 4 t) (Rect.unit ![0, 0] ![1, 1024] h)
abbrev u0 (h : ∀ a : Fin 2, (![0, 0] : Fin 2 → ℕ) a + (![384, 256] : Fin 2 → ℕ) a ≤ S384x1280.size a) : FVec Ideal S384x256 .bf16 := View.ld (S := S384x1280) (iblk m c 2 t) (Rect.unit ![0, 0] ![384, 256] h)
abbrev w0 (h : ∀ a : Fin 2, (![0, 0] : Fin 2 → ℕ) a + (![256, 1024] : Fin 2 → ℕ) a ≤ S1280x1024.size a) : FVec Ideal S256x1024 .bf16 := View.ld (S := S1280x1024) (iblk m c 5 t) (Rect.unit ![0, 0] ![256, 1024] h)

theorem z0_at (h) (a : Fin 384) (b : Fin 1024) :
    z0 m c t h (ix2 a b) = A5 m c (ix2 (row t a) ⟨3232 + (b.val), by omega⟩) := by
  refine Eq.trans ?_ (blk3 m c t a ⟨b.val, by omega⟩)
  exact View.ld_unit_apply_of _ _ _ _ _ _ (fun i => by fin_cases i <;> simp)

theorem b0_at (h) (b : Fin 1024) : b0 m c t h (ix2 0 b) = A6 m c (ix1 ⟨b.val, by omega⟩) := by
  refine Eq.trans ?_ (blk4 m c t ⟨b.val, by omega⟩)
  exact View.ld_unit_apply_of _ _ _ _ _ _ (fun i => by fin_cases i <;> simp)

theorem u0_at (h) (a : Fin 384) (b : Fin 256) : u0 m c t h (ix2 a b) = A1 m c (ix2 (row t a) b) := by
  refine Eq.trans ?_ (blk2_0 m c t a b)
  exact View.ld_unit_apply_of _ _ _ _ _ _ (fun i => by fin_cases i <;> simp)

theorem w0_at (h) (a : Fin 256) (b : Fin 1024) : w0 m c t h (ix2 a b) = A7 m c (ix2 a b) := by
  refine Eq.trans ?_ (blk5_0 m c t a b)
  exact View.ld_unit_apply_of _ _ _ _ _ _ (fun i => by fin_cases i <;> simp)

theorem dgate0 (hz hb hu hw) (a : Fin 384) (b : Fin 1024) :
    dgate (dmb m c t (ix2 a b)) (∑ k, u0 m c t hu (ix2 a k) * w0 m c t hw (ix2 k b))
        (Ideal.logistic (z0 m c t hz (ix2 a b) + b0 m c t hb (ix2 0 b)))
      = Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨b.val, by omega⟩) := by
  refine Eq.trans ?_ (RefRead.dgl0_at (A0 m c) (A1 m c) (A2 m c) (A3 m c) (A4 m c) (A5 m c) (A6 m c) (A7 m c) (A8 m c) (A9 m c) (A10 m c) (A11 m c) (A12 m c) (row t a) b).symm
  rw [dmb_at, z0_at, b0_at]
  simp only [u0_at, w0_at]
  rfl

theorem dgl0_blk (hz hb hu hw) (x : S384x1024.Idx) :
    k0_pay10 (dmb m c t) (u0 m c t hu) (w0 m c t hw) (z0 m c t hz) (b0 m c t hb) x
      = Cert.ReferenceIdeal.Read.val_main_v101 (F := Ideal) (A0 m c) (A1 m c) (A2 m c) (A3 m c) (A4 m c) (A5 m c) (A6 m c) (A7 m c) (A8 m c) (A9 m c) (A10 m c) (A11 m c) (A12 m c)
          (ix2 (row t (x 0)) ⟨(x 1).val, by have := (x 1).isLt; change (x 1).val < 1024 at this; omega⟩) := by
  obtain ⟨a, b, rfl⟩ := idx2 x
  refine (Pay.dgl0_at ..).trans ?_
  refine (dgate0 m c t hz hb hu hw a b).trans ?_
  exact (RefRead.dgl_bf16_at ..).symm

theorem dy0_blk (hz hb) (x : S384x1024.Idx) :
    k0_pay13 (dmb m c t) (z0 m c t hz) (b0 m c t hb) x
      = Cert.ReferenceIdeal.Read.val_main_v103 (F := Ideal) (A0 m c) (A1 m c) (A2 m c) (A3 m c) (A4 m c) (A5 m c) (A6 m c) (A7 m c) (A8 m c) (A9 m c) (A10 m c) (A11 m c) (A12 m c)
          (ix2 (row t (x 0)) ⟨(x 1).val, by have := (x 1).isLt; change (x 1).val < 1024 at this; omega⟩) := by
  obtain ⟨a, b, rfl⟩ := idx2 x
  refine (Pay.dy0_at ..).trans ?_
  refine Eq.trans ?_ (RefRead.dyc0_at (A0 m c) (A1 m c) (A2 m c) (A3 m c) (A4 m c) (A5 m c) (A6 m c) (A7 m c) (A8 m c) (A9 m c) (A10 m c) (A11 m c) (A12 m c) (row t a) b).symm
  rw [dmb_at, z0_at, b0_at]
  rfl

theorem part0_blk (hz hb hu hw) (b : Fin 1024) :
    k0_pay11 (dmb m c t) (u0 m c t hu) (w0 m c t hw) (z0 m c t hz) (b0 m c t hb) (ix2 0 b)
      = ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨b.val, by omega⟩) := by
  refine (Pay.part0_at ..).trans ?_
  exact Finset.sum_congr rfl fun a _ => dgate0 m c t hz hb hu hw a b

theorem acc0_blk (hz hb hu hw) (old : FVec Ideal S1x1024 .f32) (b : Fin 1024) :
    k0_pay12 (dmb m c t) (u0 m c t hu) (w0 m c t hw) (z0 m c t hz) (b0 m c t hb) old (ix2 0 b)
      = old (ix2 0 b)
        + ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨b.val, by omega⟩) := by
  refine (Pay.acc0_at ..).trans ?_
  exact congrArg (_ + ·) (Finset.sum_congr rfl fun a _ => dgate0 m c t hz hb hu hw a b)

theorem du0_blk (hz hb hw) (x : S384x256.Idx) :
    k0_pay14 (dmb m c t) (z0 m c t hz) (b0 m c t hb) (w0 m c t hw) x
      = Cert.ReferenceIdeal.Read.val_main_v99 (F := Ideal) (A0 m c) (A1 m c) (A2 m c) (A3 m c) (A4 m c) (A5 m c) (A6 m c) (A7 m c) (A8 m c) (A9 m c) (A10 m c) (A11 m c) (A12 m c)
          (ix2 (row t (x 0)) ⟨(x 1).val, by have := (x 1).isLt; change (x 1).val < 256 at this; omega⟩) := by
  obtain ⟨a, b, rfl⟩ := idx2 x
  refine (Pay.du0_at ..).trans ?_
  refine Eq.trans ?_ (RefRead.du0_at (A0 m c) (A1 m c) (A2 m c) (A3 m c) (A4 m c) (A5 m c) (A6 m c) (A7 m c) (A8 m c) (A9 m c) (A10 m c) (A11 m c) (A12 m c) (row t a) b).symm
  refine Finset.sum_congr rfl fun k _ => ?_
  rw [dmb_at, z0_at, b0_at, w0_at]
  rfl

end

section
variable (c : Dev nD) (t : Fin cfg0.N)

abbrev z1 (h : ∀ a : Fin 2, (![0, 1024] : Fin 2 → ℕ) a + (![384, 1024] : Fin 2 → ℕ) a ≤ S384x4096.size a) : FVec Ideal S384x1024 .f32 := View.ld (S := S384x4096) (X0_3 m c t) (Rect.unit ![0, 1024] ![384, 1024] h)
abbrev b1 (h : ∀ a : Fin 2, (![0, 1024] : Fin 2 → ℕ) a + (![1, 1024] : Fin 2 → ℕ) a ≤ S1x4096.size a) : FVec Ideal S1x1024 .f32 := View.ld (S := S1x4096) (iblk m c 4 t) (Rect.unit ![0, 1024] ![1, 1024] h)
abbrev u1 (h : ∀ a : Fin 2, (![0, 256] : Fin 2 → ℕ) a + (![384, 512] : Fin 2 → ℕ) a ≤ S384x1280.size a) : FVec Ideal S384x512 .bf16 := View.ld (S := S384x1280) (iblk m c 2 t) (Rect.unit ![0, 256] ![384, 512] h)
abbrev w1 (h : ∀ a : Fin 2, (![256, 0] : Fin 2 → ℕ) a + (![512, 1024] : Fin 2 → ℕ) a ≤ S1280x1024.size a) : FVec Ideal S512x1024 .bf16 := View.ld (S := S1280x1024) (iblk m c 5 t) (Rect.unit ![256, 0] ![512, 1024] h)

theorem z1_at (h) (a : Fin 384) (b : Fin 1024) :
    z1 m c t h (ix2 a b) = A5 m c (ix2 (row t a) ⟨3232 + (1024 + b.val), by omega⟩) := by
  refine Eq.trans ?_ (blk3 m c t a ⟨1024 + b.val, by omega⟩)
  exact View.ld_unit_apply_of _ _ _ _ _ _ (fun i => by fin_cases i <;> simp)

theorem b1_at (h) (b : Fin 1024) : b1 m c t h (ix2 0 b) = A6 m c (ix1 ⟨1024 + b.val, by omega⟩) := by
  refine Eq.trans ?_ (blk4 m c t ⟨1024 + b.val, by omega⟩)
  exact View.ld_unit_apply_of _ _ _ _ _ _ (fun i => by fin_cases i <;> simp)

theorem u1_at (h) (a : Fin 384) (b : Fin 512) : u1 m c t h (ix2 a b) = A2 m c (ix2 (row t a) b) := by
  refine Eq.trans ?_ (blk2_1 m c t a b)
  exact View.ld_unit_apply_of _ _ _ _ _ _ (fun i => by fin_cases i <;> simp)

theorem w1_at (h) (a : Fin 512) (b : Fin 1024) : w1 m c t h (ix2 a b) = A8 m c (ix2 a b) := by
  refine Eq.trans ?_ (blk5_1 m c t a b)
  exact View.ld_unit_apply_of _ _ _ _ _ _ (fun i => by fin_cases i <;> simp)

theorem dgate1 (hz hb hu hw) (a : Fin 384) (b : Fin 1024) :
    dgate (dmb m c t (ix2 a b)) (∑ k, u1 m c t hu (ix2 a k) * w1 m c t hw (ix2 k b))
        (Ideal.logistic (z1 m c t hz (ix2 a b) + b1 m c t hb (ix2 0 b)))
      = Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨1024 + b.val, by omega⟩) := by
  refine Eq.trans ?_ (RefRead.dgl1_at (A0 m c) (A1 m c) (A2 m c) (A3 m c) (A4 m c) (A5 m c) (A6 m c) (A7 m c) (A8 m c) (A9 m c) (A10 m c) (A11 m c) (A12 m c) (row t a) b).symm
  rw [dmb_at, z1_at, b1_at]
  simp only [u1_at, w1_at]
  rfl

theorem dgl1_blk (hz hb hu hw) (x : S384x1024.Idx) :
    k0_pay17 (dmb m c t) (u1 m c t hu) (w1 m c t hw) (z1 m c t hz) (b1 m c t hb) x
      = Cert.ReferenceIdeal.Read.val_main_v101 (F := Ideal) (A0 m c) (A1 m c) (A2 m c) (A3 m c) (A4 m c) (A5 m c) (A6 m c) (A7 m c) (A8 m c) (A9 m c) (A10 m c) (A11 m c) (A12 m c)
          (ix2 (row t (x 0)) ⟨1024 + (x 1).val, by have := (x 1).isLt; change (x 1).val < 1024 at this; omega⟩) := by
  obtain ⟨a, b, rfl⟩ := idx2 x
  refine (Pay.dgl1_at ..).trans ?_
  refine (dgate1 m c t hz hb hu hw a b).trans ?_
  exact (RefRead.dgl_bf16_at ..).symm

theorem dy1_blk (hz hb) (x : S384x1024.Idx) :
    k0_pay20 (dmb m c t) (z1 m c t hz) (b1 m c t hb) x
      = Cert.ReferenceIdeal.Read.val_main_v103 (F := Ideal) (A0 m c) (A1 m c) (A2 m c) (A3 m c) (A4 m c) (A5 m c) (A6 m c) (A7 m c) (A8 m c) (A9 m c) (A10 m c) (A11 m c) (A12 m c)
          (ix2 (row t (x 0)) ⟨1024 + (x 1).val, by have := (x 1).isLt; change (x 1).val < 1024 at this; omega⟩) := by
  obtain ⟨a, b, rfl⟩ := idx2 x
  refine (Pay.dy1_at ..).trans ?_
  refine Eq.trans ?_ (RefRead.dyc1_at (A0 m c) (A1 m c) (A2 m c) (A3 m c) (A4 m c) (A5 m c) (A6 m c) (A7 m c) (A8 m c) (A9 m c) (A10 m c) (A11 m c) (A12 m c) (row t a) b).symm
  rw [dmb_at, z1_at, b1_at]
  rfl

theorem part1_blk (hz hb hu hw) (b : Fin 1024) :
    k0_pay18 (dmb m c t) (u1 m c t hu) (w1 m c t hw) (z1 m c t hz) (b1 m c t hb) (ix2 0 b)
      = ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨1024 + b.val, by omega⟩) := by
  refine (Pay.part1_at ..).trans ?_
  exact Finset.sum_congr rfl fun a _ => dgate1 m c t hz hb hu hw a b

theorem acc1_blk (hz hb hu hw) (old : FVec Ideal S1x1024 .f32) (b : Fin 1024) :
    k0_pay19 (dmb m c t) (u1 m c t hu) (w1 m c t hw) (z1 m c t hz) (b1 m c t hb) old (ix2 0 b)
      = old (ix2 0 b)
        + ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨1024 + b.val, by omega⟩) := by
  refine (Pay.acc1_at ..).trans ?_
  exact congrArg (_ + ·) (Finset.sum_congr rfl fun a _ => dgate1 m c t hz hb hu hw a b)

theorem du1_blk (hz hb hw) (x : S384x512.Idx) :
    k0_pay21 (dmb m c t) (z1 m c t hz) (b1 m c t hb) (w1 m c t hw) x
      = Cert.ReferenceIdeal.Read.val_main_v99 (F := Ideal) (A0 m c) (A1 m c) (A2 m c) (A3 m c) (A4 m c) (A5 m c) (A6 m c) (A7 m c) (A8 m c) (A9 m c) (A10 m c) (A11 m c) (A12 m c)
          (ix2 (row t (x 0)) ⟨256 + (x 1).val, by have := (x 1).isLt; change (x 1).val < 512 at this; omega⟩) := by
  obtain ⟨a, b, rfl⟩ := idx2 x
  refine (Pay.du1_at ..).trans ?_
  refine Eq.trans ?_ (RefRead.du1_at (A0 m c) (A1 m c) (A2 m c) (A3 m c) (A4 m c) (A5 m c) (A6 m c) (A7 m c) (A8 m c) (A9 m c) (A10 m c) (A11 m c) (A12 m c) (row t a) b).symm
  refine Finset.sum_congr rfl fun k _ => ?_
  rw [dmb_at, z1_at, b1_at, w1_at]
  rfl

end

section
variable (c : Dev nD) (t : Fin cfg0.N)

abbrev z2 (h : ∀ a : Fin 2, (![0, 2048] : Fin 2 → ℕ) a + (![384, 1024] : Fin 2 → ℕ) a ≤ S384x4096.size a) : FVec Ideal S384x1024 .f32 := View.ld (S := S384x4096) (X0_3 m c t) (Rect.unit ![0, 2048] ![384, 1024] h)
abbrev b2 (h : ∀ a : Fin 2, (![0, 2048] : Fin 2 → ℕ) a + (![1, 1024] : Fin 2 → ℕ) a ≤ S1x4096.size a) : FVec Ideal S1x1024 .f32 := View.ld (S := S1x4096) (iblk m c 4 t) (Rect.unit ![0, 2048] ![1, 1024] h)
abbrev u2 (h : ∀ a : Fin 2, (![0, 768] : Fin 2 → ℕ) a + (![384, 256] : Fin 2 → ℕ) a ≤ S384x1280.size a) : FVec Ideal S384x256 .bf16 := View.ld (S := S384x1280) (iblk m c 2 t) (Rect.unit ![0, 768] ![384, 256] h)
abbrev w2 (h : ∀ a : Fin 2, (![768, 0] : Fin 2 → ℕ) a + (![256, 1024] : Fin 2 → ℕ) a ≤ S1280x1024.size a) : FVec Ideal S256x1024 .bf16 := View.ld (S := S1280x1024) (iblk m c 5 t) (Rect.unit ![768, 0] ![256, 1024] h)

theorem z2_at (h) (a : Fin 384) (b : Fin 1024) :
    z2 m c t h (ix2 a b) = A5 m c (ix2 (row t a) ⟨3232 + (2048 + b.val), by omega⟩) := by
  refine Eq.trans ?_ (blk3 m c t a ⟨2048 + b.val, by omega⟩)
  exact View.ld_unit_apply_of _ _ _ _ _ _ (fun i => by fin_cases i <;> simp)

theorem b2_at (h) (b : Fin 1024) : b2 m c t h (ix2 0 b) = A6 m c (ix1 ⟨2048 + b.val, by omega⟩) := by
  refine Eq.trans ?_ (blk4 m c t ⟨2048 + b.val, by omega⟩)
  exact View.ld_unit_apply_of _ _ _ _ _ _ (fun i => by fin_cases i <;> simp)

theorem u2_at (h) (a : Fin 384) (b : Fin 256) : u2 m c t h (ix2 a b) = A3 m c (ix2 (row t a) b) := by
  refine Eq.trans ?_ (blk2_2 m c t a b)
  exact View.ld_unit_apply_of _ _ _ _ _ _ (fun i => by fin_cases i <;> simp)

theorem w2_at (h) (a : Fin 256) (b : Fin 1024) : w2 m c t h (ix2 a b) = A9 m c (ix2 a b) := by
  refine Eq.trans ?_ (blk5_2 m c t a b)
  exact View.ld_unit_apply_of _ _ _ _ _ _ (fun i => by fin_cases i <;> simp)

theorem dgate2 (hz hb hu hw) (a : Fin 384) (b : Fin 1024) :
    dgate (dmb m c t (ix2 a b)) (∑ k, u2 m c t hu (ix2 a k) * w2 m c t hw (ix2 k b))
        (Ideal.logistic (z2 m c t hz (ix2 a b) + b2 m c t hb (ix2 0 b)))
      = Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨2048 + b.val, by omega⟩) := by
  refine Eq.trans ?_ (RefRead.dgl2_at (A0 m c) (A1 m c) (A2 m c) (A3 m c) (A4 m c) (A5 m c) (A6 m c) (A7 m c) (A8 m c) (A9 m c) (A10 m c) (A11 m c) (A12 m c) (row t a) b).symm
  rw [dmb_at, z2_at, b2_at]
  simp only [u2_at, w2_at]
  rfl

theorem dgl2_blk (hz hb hu hw) (x : S384x1024.Idx) :
    k0_pay24 (dmb m c t) (u2 m c t hu) (w2 m c t hw) (z2 m c t hz) (b2 m c t hb) x
      = Cert.ReferenceIdeal.Read.val_main_v101 (F := Ideal) (A0 m c) (A1 m c) (A2 m c) (A3 m c) (A4 m c) (A5 m c) (A6 m c) (A7 m c) (A8 m c) (A9 m c) (A10 m c) (A11 m c) (A12 m c)
          (ix2 (row t (x 0)) ⟨2048 + (x 1).val, by have := (x 1).isLt; change (x 1).val < 1024 at this; omega⟩) := by
  obtain ⟨a, b, rfl⟩ := idx2 x
  refine (Pay.dgl2_at ..).trans ?_
  refine (dgate2 m c t hz hb hu hw a b).trans ?_
  exact (RefRead.dgl_bf16_at ..).symm

theorem dy2_blk (hz hb) (x : S384x1024.Idx) :
    k0_pay27 (dmb m c t) (z2 m c t hz) (b2 m c t hb) x
      = Cert.ReferenceIdeal.Read.val_main_v103 (F := Ideal) (A0 m c) (A1 m c) (A2 m c) (A3 m c) (A4 m c) (A5 m c) (A6 m c) (A7 m c) (A8 m c) (A9 m c) (A10 m c) (A11 m c) (A12 m c)
          (ix2 (row t (x 0)) ⟨2048 + (x 1).val, by have := (x 1).isLt; change (x 1).val < 1024 at this; omega⟩) := by
  obtain ⟨a, b, rfl⟩ := idx2 x
  refine (Pay.dy2_at ..).trans ?_
  refine Eq.trans ?_ (RefRead.dyc2_at (A0 m c) (A1 m c) (A2 m c) (A3 m c) (A4 m c) (A5 m c) (A6 m c) (A7 m c) (A8 m c) (A9 m c) (A10 m c) (A11 m c) (A12 m c) (row t a) b).symm
  rw [dmb_at, z2_at, b2_at]
  rfl

theorem part2_blk (hz hb hu hw) (b : Fin 1024) :
    k0_pay25 (dmb m c t) (u2 m c t hu) (w2 m c t hw) (z2 m c t hz) (b2 m c t hb) (ix2 0 b)
      = ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨2048 + b.val, by omega⟩) := by
  refine (Pay.part2_at ..).trans ?_
  exact Finset.sum_congr rfl fun a _ => dgate2 m c t hz hb hu hw a b

theorem acc2_blk (hz hb hu hw) (old : FVec Ideal S1x1024 .f32) (b : Fin 1024) :
    k0_pay26 (dmb m c t) (u2 m c t hu) (w2 m c t hw) (z2 m c t hz) (b2 m c t hb) old (ix2 0 b)
      = old (ix2 0 b)
        + ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨2048 + b.val, by omega⟩) := by
  refine (Pay.acc2_at ..).trans ?_
  exact congrArg (_ + ·) (Finset.sum_congr rfl fun a _ => dgate2 m c t hz hb hu hw a b)

theorem du2_blk (hz hb hw) (x : S384x256.Idx) :
    k0_pay28 (k0_pay27 (dmb m c t) (z2 m c t hz) (b2 m c t hb)) (w2 m c t hw) x
      = Cert.ReferenceIdeal.Read.val_main_v99 (F := Ideal) (A0 m c) (A1 m c) (A2 m c) (A3 m c) (A4 m c) (A5 m c) (A6 m c) (A7 m c) (A8 m c) (A9 m c) (A10 m c) (A11 m c) (A12 m c)
          (ix2 (row t (x 0)) ⟨768 + (x 1).val, by have := (x 1).isLt; change (x 1).val < 256 at this; omega⟩) := by
  obtain ⟨a, b, rfl⟩ := idx2 x
  refine (Pay.du2_at ..).trans ?_
  refine Eq.trans ?_ (RefRead.du2_at (A0 m c) (A1 m c) (A2 m c) (A3 m c) (A4 m c) (A5 m c) (A6 m c) (A7 m c) (A8 m c) (A9 m c) (A10 m c) (A11 m c) (A12 m c) (row t a) b).symm
  refine Finset.sum_congr rfl fun k _ => ?_
  rw [dmb_at, z2_at, b2_at, w2_at]
  rfl

end

section
variable (c : Dev nD) (t : Fin cfg0.N)

abbrev z3 (h : ∀ a : Fin 2, (![0, 3072] : Fin 2 → ℕ) a + (![384, 1024] : Fin 2 → ℕ) a ≤ S384x4096.size a) : FVec Ideal S384x1024 .f32 := View.ld (S := S384x4096) (X0_3 m c t) (Rect.unit ![0, 3072] ![384, 1024] h)
abbrev b3 (h : ∀ a : Fin 2, (![0, 3072] : Fin 2 → ℕ) a + (![1, 1024] : Fin 2 → ℕ) a ≤ S1x4096.size a) : FVec Ideal S1x1024 .f32 := View.ld (S := S1x4096) (iblk m c 4 t) (Rect.unit ![0, 3072] ![1, 1024] h)
abbrev u3 (h : ∀ a : Fin 2, (![0, 1024] : Fin 2 → ℕ) a + (![384, 256] : Fin 2 → ℕ) a ≤ S384x1280.size a) : FVec Ideal S384x256 .bf16 := View.ld (S := S384x1280) (iblk m c 2 t) (Rect.unit ![0, 1024] ![384, 256] h)
abbrev w3 (h : ∀ a : Fin 2, (![1024, 0] : Fin 2 → ℕ) a + (![256, 1024] : Fin 2 → ℕ) a ≤ S1280x1024.size a) : FVec Ideal S256x1024 .bf16 := View.ld (S := S1280x1024) (iblk m c 5 t) (Rect.unit ![1024, 0] ![256, 1024] h)

theorem z3_at (h) (a : Fin 384) (b : Fin 1024) :
    z3 m c t h (ix2 a b) = A5 m c (ix2 (row t a) ⟨3232 + (3072 + b.val), by omega⟩) := by
  refine Eq.trans ?_ (blk3 m c t a ⟨3072 + b.val, by omega⟩)
  exact View.ld_unit_apply_of _ _ _ _ _ _ (fun i => by fin_cases i <;> simp)

theorem b3_at (h) (b : Fin 1024) : b3 m c t h (ix2 0 b) = A6 m c (ix1 ⟨3072 + b.val, by omega⟩) := by
  refine Eq.trans ?_ (blk4 m c t ⟨3072 + b.val, by omega⟩)
  exact View.ld_unit_apply_of _ _ _ _ _ _ (fun i => by fin_cases i <;> simp)

theorem u3_at (h) (a : Fin 384) (b : Fin 256) : u3 m c t h (ix2 a b) = A4 m c (ix2 (row t a) b) := by
  refine Eq.trans ?_ (blk2_3 m c t a b)
  exact View.ld_unit_apply_of _ _ _ _ _ _ (fun i => by fin_cases i <;> simp)

theorem w3_at (h) (a : Fin 256) (b : Fin 1024) : w3 m c t h (ix2 a b) = A10 m c (ix2 a b) := by
  refine Eq.trans ?_ (blk5_3 m c t a b)
  exact View.ld_unit_apply_of _ _ _ _ _ _ (fun i => by fin_cases i <;> simp)

theorem dgate3 (hz hb hu hw) (a : Fin 384) (b : Fin 1024) :
    dgate (dmb m c t (ix2 a b)) (∑ k, u3 m c t hu (ix2 a k) * w3 m c t hw (ix2 k b))
        (Ideal.logistic (z3 m c t hz (ix2 a b) + b3 m c t hb (ix2 0 b)))
      = Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨3072 + b.val, by omega⟩) := by
  refine Eq.trans ?_ (RefRead.dgl3_at (A0 m c) (A1 m c) (A2 m c) (A3 m c) (A4 m c) (A5 m c) (A6 m c) (A7 m c) (A8 m c) (A9 m c) (A10 m c) (A11 m c) (A12 m c) (row t a) b).symm
  rw [dmb_at, z3_at, b3_at]
  simp only [u3_at, w3_at]
  rfl

theorem dgl3_blk (hz hb hu hw) (x : S384x1024.Idx) :
    k0_pay31 (dmb m c t) (u3 m c t hu) (w3 m c t hw) (z3 m c t hz) (b3 m c t hb) x
      = Cert.ReferenceIdeal.Read.val_main_v101 (F := Ideal) (A0 m c) (A1 m c) (A2 m c) (A3 m c) (A4 m c) (A5 m c) (A6 m c) (A7 m c) (A8 m c) (A9 m c) (A10 m c) (A11 m c) (A12 m c)
          (ix2 (row t (x 0)) ⟨3072 + (x 1).val, by have := (x 1).isLt; change (x 1).val < 1024 at this; omega⟩) := by
  obtain ⟨a, b, rfl⟩ := idx2 x
  refine (Pay.dgl3_at ..).trans ?_
  refine (dgate3 m c t hz hb hu hw a b).trans ?_
  exact (RefRead.dgl_bf16_at ..).symm

theorem dy3_blk (hz hb) (x : S384x1024.Idx) :
    k0_pay34 (dmb m c t) (z3 m c t hz) (b3 m c t hb) x
      = Cert.ReferenceIdeal.Read.val_main_v103 (F := Ideal) (A0 m c) (A1 m c) (A2 m c) (A3 m c) (A4 m c) (A5 m c) (A6 m c) (A7 m c) (A8 m c) (A9 m c) (A10 m c) (A11 m c) (A12 m c)
          (ix2 (row t (x 0)) ⟨3072 + (x 1).val, by have := (x 1).isLt; change (x 1).val < 1024 at this; omega⟩) := by
  obtain ⟨a, b, rfl⟩ := idx2 x
  refine (Pay.dy3_at ..).trans ?_
  refine Eq.trans ?_ (RefRead.dyc3_at (A0 m c) (A1 m c) (A2 m c) (A3 m c) (A4 m c) (A5 m c) (A6 m c) (A7 m c) (A8 m c) (A9 m c) (A10 m c) (A11 m c) (A12 m c) (row t a) b).symm
  rw [dmb_at, z3_at, b3_at]
  rfl

theorem part3_blk (hz hb hu hw) (b : Fin 1024) :
    k0_pay32 (dmb m c t) (u3 m c t hu) (w3 m c t hw) (z3 m c t hz) (b3 m c t hb) (ix2 0 b)
      = ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨3072 + b.val, by omega⟩) := by
  refine (Pay.part3_at ..).trans ?_
  exact Finset.sum_congr rfl fun a _ => dgate3 m c t hz hb hu hw a b

theorem acc3_blk (hz hb hu hw) (old : FVec Ideal S1x1024 .f32) (b : Fin 1024) :
    k0_pay33 (dmb m c t) (u3 m c t hu) (w3 m c t hw) (z3 m c t hz) (b3 m c t hb) old (ix2 0 b)
      = old (ix2 0 b)
        + ∑ a, Cert.ReferenceIdeal.Read.val_main_v91 (F := Ideal) (A0 m c) (A1 m c) (A2 m c) (A3 m c) (A4 m c) (A5 m c) (A6 m c) (A7 m c) (A8 m c) (A9 m c) (A10 m c) (A11 m c) (A12 m c) (ix2 (row t a) ⟨3072 + b.val, by omega⟩) := by
  refine (Pay.acc3_at ..).trans ?_
  exact congrArg (_ + ·) (Finset.sum_congr rfl fun a _ => dgate3 m c t hz hb hu hw a b)

theorem du3_blk (hz hb hw) (x : S384x256.Idx) :
    k0_pay1 (k0_pay34 (dmb m c t) (z3 m c t hz) (b3 m c t hb)) (w3 m c t hw) x
      = Cert.ReferenceIdeal.Read.val_main_v99 (F := Ideal) (A0 m c) (A1 m c) (A2 m c) (A3 m c) (A4 m c) (A5 m c) (A6 m c) (A7 m c) (A8 m c) (A9 m c) (A10 m c) (A11 m c) (A12 m c)
          (ix2 (row t (x 0)) ⟨1024 + (x 1).val, by have := (x 1).isLt; change (x 1).val < 256 at this; omega⟩) := by
  obtain ⟨a, b, rfl⟩ := idx2 x
  refine (Pay.du3_at ..).trans ?_
  refine Eq.trans ?_ (RefRead.du3_at (A0 m c) (A1 m c) (A2 m c) (A3 m c) (A4 m c) (A5 m c) (A6 m c) (A7 m c) (A8 m c) (A9 m c) (A10 m c) (A11 m c) (A12 m c) (row t a) b).symm
  refine Finset.sum_congr rfl fun k _ => ?_
  rw [dmb_at, z3_at, b3_at, w3_at]
  rfl

end

end Cert.KernelIdeal.Value
-- ==== Proof.Final.lean ====
/-
  The kernel's arrays after the run: the reference's results over the same arguments (the first three).
-/
module

public import proofs.«01_k».proof.Proof.Tiles

@[expose] public section

set_option maxRecDepth 16384

noncomputable section

namespace Cert.KernelIdeal.Value

open Cert.KernelIdeal Cert.KernelIdeal.Gen Cert.Row Idealize.ShloMosaic Idealize.ShloMosaic.TcCoe Idealize.SL.Sem

variable (m : (ℓ : Loc nD τ sig) → Buf (Elt Ideal) ℓ)

theorem first_iff (t : Fin cfg0.N) : t.val % 11 = 0 ↔ ¬ 1 ≤ t.val := by
  have := lt_of_lt_of_eq t.isLt N_0; omega

set_option maxHeartbeats 1600000 in
theorem final_8 (c : Dev nD) :
    (dats m 0 c).arrAt 8 (cfgs 0).N = Cert.ReferenceIdeal.Read.val_main_v100 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 8 _ (by decide +kernel) fun t hf y => ?_
  blk_simp; rw [after0_8]
  obtain ⟨a, b, rfl⟩ := idx2 y
  by_cases h : t.val % 11 = 0
  · have h' := (first_iff t).mp h
    rw [outsAt0_A m c t h h' h h' h h' h h' h h']; dsimp only; frame_out
    refine (do2_blk m c t a b).trans ?_
    blk_ext [idx_val t, row]
  · have h' : 1 ≤ t.val := by have := first_iff t; omega
    rw [outsAt0_B m c t h h' h h' h h' h h' h h']; dsimp only; frame_out
    refine (do2_blk m c t a b).trans ?_
    blk_ext [idx_val t, row]

set_option maxHeartbeats 1600000 in
theorem final_9 (c : Dev nD) :
    (dats m 0 c).arrAt 9 (cfgs 0).N = Cert.ReferenceIdeal.Read.val_main_v101 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 9 _ (by decide +kernel) fun t hf y => ?_
  blk_simp; rw [after0_9]
  by_cases h : t.val % 11 = 0
  · have h' := (first_iff t).mp h
    rw [outsAt0_A m c t h h' h h' h h' h h' h h']; dsimp only; frame_out
    canon_tiles x h0
    · exact (dgl3_blk m c t _ _ _ _ x).trans (by blk_ext [idx_val t, row])
    · exact (dgl2_blk m c t _ _ _ _ x).trans (by blk_ext [idx_val t, row])
    · exact (dgl1_blk m c t _ _ _ _ x).trans (by blk_ext [idx_val t, row])
    · exact (dgl0_blk m c t _ _ _ _ x).trans (by blk_ext [idx_val t, row])
  · have h' : 1 ≤ t.val := by have := first_iff t; omega
    rw [outsAt0_B m c t h h' h h' h h' h h' h h']; dsimp only; frame_out
    canon_tiles x h0
    · exact (dgl3_blk m c t _ _ _ _ x).trans (by blk_ext [idx_val t, row])
    · exact (dgl2_blk m c t _ _ _ _ x).trans (by blk_ext [idx_val t, row])
    · exact (dgl1_blk m c t _ _ _ _ x).trans (by blk_ext [idx_val t, row])
    · exact (dgl0_blk m c t _ _ _ _ x).trans (by blk_ext [idx_val t, row])

set_option maxHeartbeats 1600000 in
theorem final_10 (c : Dev nD) :
    (dats m 0 c).arrAt 10 (cfgs 0).N = Cert.ReferenceIdeal.Read.val_main_v103 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 10 _ (by decide +kernel) fun t hf y => ?_
  blk_simp; rw [after0_10]
  by_cases h : t.val % 11 = 0
  · have h' := (first_iff t).mp h
    rw [outsAt0_A m c t h h' h h' h h' h h' h h']; dsimp only; frame_out
    canon_tiles x h0
    · exact (dy3_blk m c t _ _ x).trans (by blk_ext [idx_val t, row])
    · exact (dy2_blk m c t _ _ x).trans (by blk_ext [idx_val t, row])
    · exact (dy1_blk m c t _ _ x).trans (by blk_ext [idx_val t, row])
    · exact (dy0_blk m c t _ _ x).trans (by blk_ext [idx_val t, row])
  · have h' : 1 ≤ t.val := by have := first_iff t; omega
    rw [outsAt0_B m c t h h' h h' h h' h h' h h']; dsimp only; frame_out
    canon_tiles x h0
    · exact (dy3_blk m c t _ _ x).trans (by blk_ext [idx_val t, row])
    · exact (dy2_blk m c t _ _ x).trans (by blk_ext [idx_val t, row])
    · exact (dy1_blk m c t _ _ x).trans (by blk_ext [idx_val t, row])
    · exact (dy0_blk m c t _ _ x).trans (by blk_ext [idx_val t, row])

end Cert.KernelIdeal.Value
-- ==== Proof.Sums.lean ====
/-
  The kernel's arrays after the run: the reference's results over the same arguments (the last three).
-/
module

public import proofs.«01_k».proof.Proof.Final

@[expose] public section

set_option maxRecDepth 16384

noncomputable section

namespace Cert.KernelIdeal.Value

open Cert.KernelIdeal Cert.KernelIdeal.Gen Cert.Row Idealize.ShloMosaic Idealize.ShloMosaic.TcCoe Idealize.SL.Sem

variable (m : (ℓ : Loc nD τ sig) → Buf (Elt Ideal) ℓ)

set_option maxHeartbeats 1600000 in
theorem final_11 (c : Dev nD) :
    (dats m 0 c).arrAt 11 (cfgs 0).N = Cert.ReferenceIdeal.Read.val_main_v99 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 11 _ (by decide +kernel) fun t hf y => ?_
  blk_simp; rw [after0_11]
  by_cases h : t.val % 11 = 0
  · have h' := (first_iff t).mp h
    rw [outsAt0_A m c t h h' h h' h h' h h' h h']; dsimp only; frame_out
    canon_tiles x h0 using View.cover_of_tiledBy _ ![384, 256] (by sl_kernel_rfl) _
    · exact (du3_blk m c t _ _ _ x).trans (by blk_ext [idx_val t, row])
    · exact (du2_blk m c t _ _ _ x).trans (by blk_ext [idx_val t, row])
    · exact (du1_blk m c t _ _ _ x).trans (by blk_ext [idx_val t, row])
    · exact (du0_blk m c t _ _ _ x).trans (by blk_ext [idx_val t, row])
  · have h' : 1 ≤ t.val := by have := first_iff t; omega
    rw [outsAt0_B m c t h h' h h' h h' h h' h h']; dsimp only; frame_out
    canon_tiles x h0 using View.cover_of_tiledBy _ ![384, 256] (by sl_kernel_rfl) _
    · exact (du3_blk m c t _ _ _ x).trans (by blk_ext [idx_val t, row])
    · exact (du2_blk m c t _ _ _ x).trans (by blk_ext [idx_val t, row])
    · exact (du1_blk m c t _ _ _ x).trans (by blk_ext [idx_val t, row])
    · exact (du0_blk m c t _ _ _ x).trans (by blk_ext [idx_val t, row])

/-- A block's sum of the gates' gradient over its rows, in one column. -/
abbrev gateSum (c : Dev nD) (t : Fin cfg0.N) (j : S1x4096.Idx) : EReal :=
  ∑ a : Fin 384, Cert.ReferenceIdeal.Read.val_main_v91 (F := Ideal) (A0 m c) (A1 m c) (A2 m c) (A3 m c) (A4 m c) (A5 m c) (A6 m c) (A7 m c) (A8 m c) (A9 m c) (A10 m c) (A11 m c) (A12 m c)
    (ix2 (row t a) (j 1))

theorem one_idx (x : S1x1024.Idx) : ∃ b, x = ix2 0 b := by
  obtain ⟨a, b, rfl⟩ := idx2 x
  exact ⟨b, by rw [Subsingleton.elim a 0]⟩

theorem col_sum (c : Dev nD) (t : Fin cfg0.N) (k k' : Fin 4096) (h : k.val = k'.val) :
    ∑ a : Fin 384, Cert.ReferenceIdeal.Read.val_main_v91 (F := Ideal) (A0 m c) (A1 m c) (A2 m c) (A3 m c) (A4 m c) (A5 m c) (A6 m c) (A7 m c) (A8 m c) (A9 m c) (A10 m c) (A11 m c) (A12 m c)
      (ix2 (row t a) k)
    = ∑ a : Fin 384, Cert.ReferenceIdeal.Read.val_main_v91 (F := Ideal) (A0 m c) (A1 m c) (A2 m c) (A3 m c) (A4 m c) (A5 m c) (A6 m c) (A7 m c) (A8 m c) (A9 m c) (A10 m c) (A11 m c) (A12 m c)
      (ix2 (row t a) k') := by rw [Fin.ext h]

set_option maxHeartbeats 1600000 in
theorem first_12 (c : Dev nD) (t : Fin cfg0.N) (h : t.val % 11 = 0) (j : S1x4096.Idx) :
    (outsAt0 m c t.val t.isLt).2.2.2.2.1 j = 0 + gateSum m c t j := by
  have h' := (first_iff t).mp h
  rw [outsAt0_A m c t h h' h h' h h' h h' h h']; dsimp only; frame_out
  rw [zero_add]
  canon_tiles x h0
  · obtain ⟨b, rfl⟩ := one_idx x
    exact (part3_blk m c t _ _ _ _ b).trans (col_sum m c t _ _ h01.symm)
  · obtain ⟨b, rfl⟩ := one_idx x
    exact (part2_blk m c t _ _ _ _ b).trans (col_sum m c t _ _ h01.symm)
  · obtain ⟨b, rfl⟩ := one_idx x
    exact (part1_blk m c t _ _ _ _ b).trans (col_sum m c t _ _ h01.symm)
  · obtain ⟨b, rfl⟩ := one_idx x
    exact (part0_blk m c t _ _ _ _ b).trans (col_sum m c t _ _ h01.symm)

set_option maxHeartbeats 1600000 in
theorem step_12 (c : Dev nD) (t : Fin cfg0.N) (h : ¬ t.val % 11 = 0) (j : S1x4096.Idx) :
    (outsAt0 m c t.val t.isLt).2.2.2.2.1 j
      = (outsAt0 m c (t.val - 1) (Nat.lt_of_le_of_lt (Nat.sub_le _ _) t.isLt)).2.2.2.2.1 j + gateSum m c t j := by
  have h' : 1 ≤ t.val := by have := first_iff t; omega
  rw [outsAt0_B m c t h h' h h' h h' h h' h h']; dsimp only; frame_out
  canon_tiles x h0
  · obtain ⟨b, rfl⟩ := one_idx x
    refine (acc3_blk m c t _ _ _ _ _ b).trans (congrArg₂ (· + ·) ?_ (col_sum m c t _ _ h01.symm))
    exact View.ld_unit_apply_of _ _ _ _ _ j fun i => by fin_cases i <;> simp_all
  · obtain ⟨b, rfl⟩ := one_idx x
    refine (acc2_blk m c t _ _ _ _ _ b).trans (congrArg₂ (· + ·) ?_ (col_sum m c t _ _ h01.symm))
    exact View.ld_unit_apply_of _ _ _ _ _ j fun i => by fin_cases i <;> simp_all
  · obtain ⟨b, rfl⟩ := one_idx x
    refine (acc1_blk m c t _ _ _ _ _ b).trans (congrArg₂ (· + ·) ?_ (col_sum m c t _ _ h01.symm))
    exact View.ld_unit_apply_of _ _ _ _ _ j fun i => by fin_cases i <;> simp_all
  · obtain ⟨b, rfl⟩ := one_idx x
    refine (acc0_blk m c t _ _ _ _ _ b).trans (congrArg₂ (· + ·) ?_ (col_sum m c t _ _ h01.symm))
    exact View.ld_unit_apply_of _ _ _ _ _ j fun i => by fin_cases i <;> simp_all

theorem final_12 (c : Dev nD) :
    (dats m 0 c).arrAt 12 (cfgs 0).N = Cert.ReferenceIdeal.Read.val_main_v104 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_after_last 12 t0_10 (by decide +kernel) _ fun j => ?_
  blk_simp
  rw [after0_12, Pipeline.eq_sum_fin_of_reset_step_apply_last (fun n h => (outsAt0 m c n h).2.2.2.2.1) 11 (fun _ => 0)
    (fun t j => gateSum m c t j) (fun t h j => first_12 m c t h j) (fun t h j => step_12 m c t h j)
    (le_of_eq N_0) t0_10 rfl j, zero_add]
  obtain ⟨a, b, rfl⟩ : ∃ (a : Fin 1) (b : Fin 4096), j = ix2 a b := ⟨j 0, j 1, by ext i; fin_cases i <;> rfl⟩
  obtain rfl : a = 0 := Subsingleton.elim _ _
  refine Eq.trans ?_ (RefRead.dgb_at ..).symm
  exact Fin.sum_mul_add_congr (S := cfg0.N) (n := 384) (L := 4224) (fun s k hl => rfl) (by rw [show cfg0.N = 11 from N_0])

/-- A block's sum of the norm weight's gradient over its rows, in one column. -/
abbrev normSum (c : Dev nD) (t : Fin cfg0.N) (j : S1x1024.Idx) : EReal :=
  ∑ a : Fin 384, A0 m c (ix2 (row t a) (j 1))
    * RefRead.o2 (A1 m c) (A2 m c) (A3 m c) (A4 m c) (A5 m c) (A6 m c) (A7 m c) (A8 m c) (A9 m c) (A10 m c) (A11 m c) (ix2 (row t a) (j 1))
    * rs fun k => RefRead.o2 (A1 m c) (A2 m c) (A3 m c) (A4 m c) (A5 m c) (A6 m c) (A7 m c) (A8 m c) (A9 m c) (A10 m c) (A11 m c) (ix2 (row t a) k)

theorem norm_part (c : Dev nD) (t : Fin cfg0.N) (b : Fin 1024) :
    k0_pay6 (iblk m c 1 t) (iblk m c 0 t) (ix2 0 b) = normSum m c t (ix2 0 b) := by
  refine (Pay.dg_at ..).trans (Finset.sum_congr rfl fun a _ => ?_)
  simp only [blk0, blk1]
  rfl

theorem first_13 (c : Dev nD) (t : Fin cfg0.N) (h : t.val % 11 = 0) (j : S1x1024.Idx) :
    (outsAt0 m c t.val t.isLt).2.2.2.2.2 j = 0 + normSum m c t j := by
  have h' := (first_iff t).mp h
  rw [outsAt0_A m c t h h' h h' h h' h h' h h']; dsimp only; frame_out
  obtain ⟨b, rfl⟩ := one_idx j
  rw [zero_add]
  exact norm_part m c t b

theorem step_13 (c : Dev nD) (t : Fin cfg0.N) (h : ¬ t.val % 11 = 0) (j : S1x1024.Idx) :
    (outsAt0 m c t.val t.isLt).2.2.2.2.2 j
      = (outsAt0 m c (t.val - 1) (Nat.lt_of_le_of_lt (Nat.sub_le _ _) t.isLt)).2.2.2.2.2 j + normSum m c t j := by
  have h' : 1 ≤ t.val := by have := first_iff t; omega
  rw [outsAt0_B m c t h h' h h' h h' h h' h h']; dsimp only; frame_out
  obtain ⟨b, rfl⟩ := one_idx j
  exact (Pay.dg_add_at ..).trans (congrArg (_ + ·) (norm_part m c t b))

theorem final_13 (c : Dev nD) :
    (dats m 0 c).arrAt 13 (cfgs 0).N = Cert.ReferenceIdeal.Read.val_main_v105 (F := Ideal) (A0 m c) (A1 m c) (A2 m c) (A3 m c) (A4 m c) (A5 m c) (A6 m c) (A7 m c) (A8 m c) (A9 m c) (A10 m c) (A11 m c) := by
  refine (dats m 0 c).arrAt_eq_of_after_last 13 t0_10 (by decide +kernel) _ fun j => ?_
  blk_simp
  rw [after0_13, Pipeline.eq_sum_fin_of_reset_step_apply_last (fun n h => (outsAt0 m c n h).2.2.2.2.2) 11 (fun _ => 0)
    (fun t j => normSum m c t j) (fun t h j => first_13 m c t h j) (fun t h j => step_13 m c t h j)
    (le_of_eq N_0) t0_10 rfl j, zero_add]
  obtain ⟨b, rfl⟩ := one_idx j
  refine Eq.trans ?_ (RefRead.dg_at ..).symm
  exact Fin.sum_mul_add_congr (S := cfg0.N) (n := 384) (L := 4224)
    (f := fun a : Fin 4224 => A0 m c (ix2 a b)
      * RefRead.o2 (A1 m c) (A2 m c) (A3 m c) (A4 m c) (A5 m c) (A6 m c) (A7 m c) (A8 m c) (A9 m c) (A10 m c) (A11 m c) (ix2 a b)
      * rs fun k => RefRead.o2 (A1 m c) (A2 m c) (A3 m c) (A4 m c) (A5 m c) (A6 m c) (A7 m c) (A8 m c) (A9 m c) (A10 m c) (A11 m c) (ix2 a k))
    (fun s k hl => rfl) (by rw [show cfg0.N = 11 from N_0])

end Cert.KernelIdeal.Value
-- ==== Proof.Run2.lean ====
/-
  The reference's run with its results named.
-/
module

public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Reference2Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
        = Read.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39)
        = Read.val_main_v39 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (Read.val_main_v38_eq _ _), (h c).2.1.trans (Read.val_main_v39_eq _ _ _), (h c).2.2⟩)
    (Value.run m ρ)

end Cert.Reference2Ideal
-- ==== Proof.Packed.lean ====
/-
  A sum over the columns of the input projection's outputs, and the same sum over the columns as the kernels pack them:
  the gates' 4096 columns, then 512 with two gaps of zeros, then the other 2816.
-/
module

public import proofs.«01_k».proof.Proof.Row

@[expose] public section

set_option maxRecDepth 16384

noncomputable section

namespace Cert.Row

/-- A sum over the first `a + b` numbers, cut at `a`. -/
theorem sum_cut (f : ℕ → EReal) (a b : ℕ) :
    ∑ k ∈ Finset.range (a + b), f k = ∑ k ∈ Finset.range a, f k + ∑ k ∈ Finset.range b, f (a + k) :=
  Finset.sum_range_add f a b

theorem packed_nat (F G H : ℕ → EReal)
    (g0 : ∀ q, q < 384 → G q = F (512 + q)) (g1 : ∀ q, q < 64 → G (384 + q) = 0)
    (g2 : ∀ q, q < 32 → G (448 + q) = F (896 + q)) (g3 : ∀ q, q < 32 → G (480 + q) = 0)
    (h0 : ∀ q, q < 512 → H q = F q) (h1 : ∀ q, q < 2304 → H (512 + q) = F (928 + q)) :
    ∑ k ∈ Finset.range 4096, F (3232 + k) + ∑ k ∈ Finset.range 512, G k + ∑ k ∈ Finset.range 2816, H k
      = ∑ k ∈ Finset.range 7328, F k := by
  have eG : ∑ k ∈ Finset.range 512, G k
      = ∑ k ∈ Finset.range 384, F (512 + k) + ∑ k ∈ Finset.range 32, F (896 + k) := by
    rw [show 512 = 384 + (64 + (32 + 32)) from rfl, sum_cut, sum_cut, sum_cut,
      Finset.sum_congr rfl fun k hk => g0 k (Finset.mem_range.mp hk),
      Finset.sum_congr rfl fun k hk => g1 k (Finset.mem_range.mp hk)]
    have e2 : ∑ k ∈ Finset.range 32, G (384 + (64 + k)) = ∑ k ∈ Finset.range 32, F (896 + k) :=
      Finset.sum_congr rfl fun k hk => by rw [← g2 k (Finset.mem_range.mp hk)]; congr 1; omega
    have e3 : ∑ k ∈ Finset.range 32, G (384 + (64 + (32 + k))) = 0 :=
      Finset.sum_eq_zero fun k hk => by rw [← g3 k (Finset.mem_range.mp hk)]; congr 1; omega
    rw [e2, e3, Finset.sum_const_zero, zero_add, add_zero]
  have eH : ∑ k ∈ Finset.range 2816, H k
      = ∑ k ∈ Finset.range 512, F k + ∑ k ∈ Finset.range 2304, F (928 + k) := by
    rw [show 2816 = 512 + 2304 from rfl, sum_cut,
      Finset.sum_congr rfl fun k hk => h0 k (Finset.mem_range.mp hk),
      Finset.sum_congr rfl fun k hk => h1 k (Finset.mem_range.mp hk)]
  have eF : ∑ k ∈ Finset.range 7328, F k = ∑ k ∈ Finset.range 512, F k
      + (∑ k ∈ Finset.range 384, F (512 + k) + (∑ k ∈ Finset.range 32, F (896 + k)
      + (∑ k ∈ Finset.range 2304, F (928 + k) + ∑ k ∈ Finset.range 4096, F (3232 + k)))) := by
    rw [show 7328 = 512 + (384 + (32 + (2304 + 4096))) from rfl, sum_cut, sum_cut, sum_cut, sum_cut]
    refine congrArg₂ (· + ·) rfl (congrArg₂ (· + ·) rfl (congrArg₂ (· + ·) ?_ (congrArg₂ (· + ·) ?_ ?_))) <;>
      exact Finset.sum_congr rfl fun k _ => congrArg F (by omega)
  rw [eG, eH, eF]
  ac_rfl

/-- The packed sum is the sum. -/
theorem packed (F : Fin 7328 → EReal) (E : Fin 4096 → EReal) (G : Fin 512 → EReal) (H : Fin 2816 → EReal)
    (e0 : ∀ q : Fin 4096, E q = F ⟨3232 + q.val, by omega⟩)
    (g0 : ∀ q : Fin 384, G ⟨q.val, by omega⟩ = F ⟨512 + q.val, by omega⟩)
    (g1 : ∀ q : Fin 64, G ⟨384 + q.val, by omega⟩ = 0)
    (g2 : ∀ q : Fin 32, G ⟨448 + q.val, by omega⟩ = F ⟨896 + q.val, by omega⟩)
    (g3 : ∀ q : Fin 32, G ⟨480 + q.val, by omega⟩ = 0)
    (h0 : ∀ q : Fin 512, H ⟨q.val, by omega⟩ = F ⟨q.val, by omega⟩)
    (h1 : ∀ q : Fin 2304, H ⟨512 + q.val, by omega⟩ = F ⟨928 + q.val, by omega⟩) :
    ∑ k, E k + ∑ k, G k + ∑ k, H k = ∑ k, F k := by
  let F' : ℕ → EReal := fun k => if h : k < 7328 then F ⟨k, h⟩ else 0
  let G' : ℕ → EReal := fun k => if h : k < 512 then G ⟨k, h⟩ else 0
  let H' : ℕ → EReal := fun k => if h : k < 2816 then H ⟨k, h⟩ else 0
  have f' : ∀ k (h : k < 7328), F' k = F ⟨k, h⟩ := fun k h => dif_pos h
  have g' : ∀ k (h : k < 512), G' k = G ⟨k, h⟩ := fun k h => dif_pos h
  have h' : ∀ k (h : k < 2816), H' k = H ⟨k, h⟩ := fun k h => dif_pos h
  have sE : ∑ k, E k = ∑ k ∈ Finset.range 4096, F' (3232 + k) := by
    rw [← Fin.sum_univ_eq_sum_range (fun k => F' (3232 + k))]
    exact Finset.sum_congr rfl fun k _ => (e0 k).trans (f' _ (by omega)).symm
  have sG : ∑ k, G k = ∑ k ∈ Finset.range 512, G' k := by
    rw [← Fin.sum_univ_eq_sum_range G']
    exact Finset.sum_congr rfl fun k _ => (g' _ k.isLt).symm
  have sH : ∑ k, H k = ∑ k ∈ Finset.range 2816, H' k := by
    rw [← Fin.sum_univ_eq_sum_range H']
    exact Finset.sum_congr rfl fun k _ => (h' _ k.isLt).symm
  have sF : ∑ k, F k = ∑ k ∈ Finset.range 7328, F' k := by
    rw [← Fin.sum_univ_eq_sum_range F']
    exact Finset.sum_congr rfl fun k _ => (f' _ k.isLt).symm
  rw [sE, sG, sH, sF]
  refine packed_nat F' G' H' ?_ ?_ ?_ ?_ ?_ ?_
  · exact fun q h => (g' q (by omega)).trans ((g0 ⟨q, h⟩).trans (f' _ (by omega)).symm)
  · exact fun q h => (g' _ (by omega)).trans (g1 ⟨q, h⟩)
  · exact fun q h => (g' _ (by omega)).trans ((g2 ⟨q, h⟩).trans (f' _ (by omega)).symm)
  · exact fun q h => (g' _ (by omega)).trans (g3 ⟨q, h⟩)
  · exact fun q h => (h' q (by omega)).trans ((h0 ⟨q, h⟩).trans (f' _ (by omega)).symm)
  · exact fun q h => (h' _ (by omega)).trans ((h1 ⟨q, h⟩).trans (f' _ (by omega)).symm)

end Cert.Row
-- ==== Proof.Ref2.lean ====
/-
  The second reference's results read at an element: the gradient of the input projection and of the norm before it.
-/
module

public import proofs.«01_k».proof.Proof.Row
public import proofs.«01_k».proof.Proof.Gen.Reference2Ideal.Read
public import Idealize.ShloMosaic.Lib.Pointwise

@[expose] public section

set_option maxRecDepth 16384

noncomputable section

namespace Cert.RefRead2

open Cert.Reference2Ideal Cert.Reference2Ideal.Read Cert.Row Idealize.ShloMosaic Idealize.ShloMosaic.TcCoe

variable (x0 : FVec Ideal S4224x7328 .f32) (x1 : FVec Ideal S4224x1024 .f32) (x2 : FVec Ideal S1024 .f32)
  (x3 : FVec Ideal S1024x7328 .f32) (x4 : FVec Ideal S4224x1024 .f32)

/-- The gradient of the norm's output, row `a`, column `b`: the outputs' gradient times the transposed weights. -/
def dhr (a : Fin 4224) (b : Fin 1024) : EReal := ∑ k, x0 (ix2 a k) * x3 (ix2 b k)

theorem dh_at (a : Fin 4224) (b : Fin 1024) : val_main_v17 (F := Ideal) x0 x3 (ix2 a b) = dhr x0 x3 a b := by
  pointwise [val_main_v17]
  rfl

theorem dx_at (a : Fin 4224) (b : Fin 1024) :
    val_main_v38 (F := Ideal) x0 x1 x2 x3 x4 (ix2 a b)
      = x4 (ix2 a b) + dnorm (fun k => x1 (ix2 a k)) (fun k => dhr x0 x3 a k) (fun k => x2 (ix1 k)) b := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v14, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [zero_add, Fin.sum_univ_one, ofBits_half, Finset.univ_unique, Finset.sum_singleton, dh_at]
  rw [norm_grad (var_pos fun k => x1 (ix2 a k))]
  unfold dnorm rs
  refine congrArg₂ (· + ·) rfl (congrArg₂ (· - ·) rfl (congrArg₂ (· * ·) rfl (congrArg (Ideal.div · c1024) (Finset.sum_congr rfl fun k _ => ?_))))
  rw [mul_comm]

theorem dg_at (b : Fin 1024) :
    val_main_v39 (F := Ideal) x0 x1 x3 (ix2 0 b)
      = ∑ a, dhr x0 x3 a b * x1 (ix2 a b) * rs fun k => x1 (ix2 a k) := by
  pointwise [val_main_v39, val_main_v23, val_main_v20, val_main_v19, val_main_v18, val_main_v12, val_main_v11, val_main_v7, val_main_v6, val_main_v5, val_main_v4, val_main_v3, val_main_v2, val_main_v1, val_main_v0, val_main_cst, val_main_cst_0, val_main_cst_1, val_main_cst_3, val_main_cst_4]
  simp only [zero_add, Finset.univ_unique, Finset.sum_singleton, dh_at]
  refine Finset.sum_congr rfl fun a _ => ?_
  rw [mul_comm, ← mul_assoc]
  rfl

end Cert.RefRead2
-- ==== Proof.Pay2.lean ====
/-
  The second kernel's payloads read at an element.
-/
module

public import proofs.«01_k».proof.Proof.Row
public import proofs.«01_k».proof.Proof.Gen.Kernel2Ideal.Skeleton
public import Idealize.ShloMosaic.Lib.Pointwise

@[expose] public section

set_option maxRecDepth 16384

noncomputable section

namespace Cert.Kernel2Ideal.Pay

open Cert.Kernel2Ideal Cert.Kernel2Ideal.Gen Cert.Row Idealize.ShloMosaic Idealize.ShloMosaic.TcCoe

variable (z0 : Vec Ideal S384x4096 .bf16) (w0 : Vec Ideal S1024x4096 .bf16) (z1 : Vec Ideal S384x512 .bf16)
  (w1 : Vec Ideal S1024x512 .bf16) (z2 : Vec Ideal S384x2816 .bf16) (w2 : Vec Ideal S1024x2816 .bf16)
  (x dxi : Vec Ideal S384x1024 .f32) (g : Vec Ideal S1x1024 .f32)

theorem dh_at (a : Fin 384) (b : Fin 1024) :
    k0_pay4 z0 w0 z1 w1 z2 w2 (ix2 a b)
      = ∑ k, z0 (ix2 a k) * w0 (ix2 b k) + ∑ k, z1 (ix2 a k) * w1 (ix2 b k) + ∑ k, z2 (ix2 a k) * w2 (ix2 b k) := by
  pointwise [k0_pay4]

theorem dx_at (a : Fin 384) (b : Fin 1024) :
    k0_pay1 x (k0_pay5 x) (k0_pay6 z0 w0 z1 w1 z2 w2 g) (k0_pay7 z0 w0 z1 w1 z2 w2 x g dxi) (k0_pay8 x) (ix2 a b)
      = dxi (ix2 a b) + rs (fun k => x (ix2 a k)) * (k0_pay4 z0 w0 z1 w1 z2 w2 (ix2 a b) * g (ix2 0 b))
        - x (ix2 a b) * (rs (fun k => x (ix2 a k)) * rs (fun k => x (ix2 a k)) * rs (fun k => x (ix2 a k)))
          * Ideal.div (∑ k, k0_pay4 z0 w0 z1 w1 z2 w2 (ix2 a k) * g (ix2 0 k) * x (ix2 a k)) c1024 := by
  pointwise [k0_pay1, k0_pay5, k0_pay6, k0_pay7, k0_pay8]
  rfl

theorem dg_at (d : FVec Ideal S384x1024 .f32) (b : Fin 1024) :
    k0_pay2 d x (k0_pay5 x) (ix2 0 b) = ∑ a, d (ix2 a b) * x (ix2 a b) * rs fun k => x (ix2 a k) := by
  pointwise [k0_pay2, k0_pay5]
  rfl

theorem dg_add_at (d : FVec Ideal S384x1024 .f32) (r : FVec Ideal S384x1 .f32) (old : Vec Ideal S1x1024 .f32) (b : Fin 1024) :
    k0_pay3 d x r old (ix2 0 b) = old (ix2 0 b) + k0_pay2 d x r (ix2 0 b) := by
  pointwise [k0_pay3]

end Cert.Kernel2Ideal.Pay
-- ==== Proof.Blocks2.lean ====
/-
  The second kernel's input blocks read at an element, over the program's arguments.
-/
module

public import proofs.«01_k».proof.Proof.Gen.Kernel2Ideal.Value
public import Idealize.ShloMosaic.Lib.Pipeline.ValueKit
public import Idealize.ShloMosaic.Lib.Claim
public import Idealize.ShloMosaic.Lib.Pointwise
public import Idealize.ShloMosaic.Lib.StableHlo.RunRead
public import proofs.«01_k».proof.Proof.Gen.Reference2Ideal

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference2Ideal.S4224x7328 .f32 := m ((c : Thread nD τ).loc main_arg0)
/-- Argument 1 of the program. -/
abbrev A1 (c : Dev nD) : FVec Ideal Cert.Reference2Ideal.S4224x1024 .f32 := m ((c : Thread nD τ).loc main_arg1)
/-- Argument 2 of the program. -/
abbrev A2 (c : Dev nD) : FVec Ideal Cert.Reference2Ideal.S1024 .f32 := m ((c : Thread nD τ).loc main_arg2)
/-- Argument 3 of the program. -/
abbrev A3 (c : Dev nD) : FVec Ideal Cert.Reference2Ideal.S1024x7328 .f32 := m ((c : Thread nD τ).loc main_arg3)
/-- Argument 4 of the program. -/
abbrev A4 (c : Dev nD) : FVec Ideal Cert.Reference2Ideal.S4224x1024 .f32 := m ((c : Thread nD τ).loc main_arg4)

theorem upto_v7 (c : Dev nD) : StableHlo.upto hostOps0 (fun b => m (c, b)) 10 main_v7 = V m c main_v7 :=
  (StableHlo.upto_last_write (i := 9) [] rfl rfl (by decide) _).trans
  (StableHlo.after_last_write (i := 9) [main_v8, main_v9, main_v10, main_v11, main_v12, main_v13, main_cst_1, main_v14, main_v15, main_cst_2, main_v16, main_v17, main_v18, main_v19, main_v20, main_v21] rfl rfl (by decide) _).symm

theorem entry_v8 (c : Dev nD) : V m c main_v8 = V m c main_v7 := by
  have e := StableHlo.after_last_write (ops := (hostOps0 : List (HloOp τ sig (Elt Ideal)))) (i := 10) (r := main_v8)
    [main_v9, main_v10, main_v11, main_v12, main_v13, main_cst_1, main_v14, main_v15, main_cst_2, main_v16, main_v17, main_v18, main_v19, main_v20, main_v21] rfl rfl (by decide) (fun b => m (c, b))
  rw [StableHlo.unary_result'] at e
  rw [← upto_v7]
  exact e

theorem src_v0 (c : Dev nD) (r : Fin 4224) (j : Fin 4096) : V m c main_v0 (ix2 r j) = A0 m c (ix2 r ⟨3232 + j.val, by omega⟩) := by
  entry_read
  pointwise []

theorem upto_v0 (c : Dev nD) : StableHlo.upto hostOps0 (fun b => m (c, b)) 9 main_v0 = V m c main_v0 :=
  (StableHlo.upto_last_write (i := 0) [main_v1, main_cst, main_v2, main_v3, main_cst_0, main_v4, main_v5, main_v6] rfl rfl (by decide) _).trans
  (StableHlo.after_last_write (i := 0) [main_v1, main_cst, main_v2, main_v3, main_cst_0, main_v4, main_v5, main_v6, main_v7, main_v8, main_v9, main_v10, main_v11, main_v12, main_v13, main_cst_1, main_v14, main_v15, main_cst_2, main_v16, main_v17, main_v18, main_v19, main_v20, main_v21] rfl rfl (by decide) _).symm

theorem cat_v0 (c : Dev nD) (r : Fin 4224) (j : Fin 4096) :
    V m c main_v7 (ix2 r ⟨j.val, by omega⟩) = A0 m c (ix2 r ⟨3232 + j.val, by omega⟩) := by
  refine Eq.trans ?_ (src_v0 m c r j)
  rw [← upto_v0]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 0) (pre := 0) (s₁ := S4224x4096) (hr := rfl) (i := ix2 r j)
    (x₁ := StableHlo.upto hostOps0 (fun b => m (c, b)) 9 main_v0)
  · rfl
  · rfl
  · intro b hb
    fin_cases b
    · rfl
    · exact absurd rfl hb
  · exact Nat.zero_add _
  · exact (by decide : 0 < 7)

theorem src_v1 (c : Dev nD) (r : Fin 4224) (j : Fin 384) : V m c main_v1 (ix2 r j) = A0 m c (ix2 r ⟨512 + j.val, by omega⟩) := by
  entry_read
  pointwise []

theorem upto_v1 (c : Dev nD) : StableHlo.upto hostOps0 (fun b => m (c, b)) 9 main_v1 = V m c main_v1 :=
  (StableHlo.upto_last_write (i := 1) [main_cst, main_v2, main_v3, main_cst_0, main_v4, main_v5, main_v6] rfl rfl (by decide) _).trans
  (StableHlo.after_last_write (i := 1) [main_cst, main_v2, main_v3, main_cst_0, main_v4, main_v5, main_v6, main_v7, main_v8, main_v9, main_v10, main_v11, main_v12, main_v13, main_cst_1, main_v14, main_v15, main_cst_2, main_v16, main_v17, main_v18, main_v19, main_v20, main_v21] rfl rfl (by decide) _).symm

theorem cat_v1 (c : Dev nD) (r : Fin 4224) (j : Fin 384) :
    V m c main_v7 (ix2 r ⟨4096 + j.val, by omega⟩) = A0 m c (ix2 r ⟨512 + j.val, by omega⟩) := by
  refine Eq.trans ?_ (src_v1 m c r j)
  rw [← upto_v1]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 1) (pre := 4096) (s₁ := S4224x384) (hr := rfl) (i := ix2 r j)
    (x₁ := StableHlo.upto hostOps0 (fun b => m (c, b)) 9 main_v1)
  · rfl
  · rfl
  · intro b hb
    fin_cases b
    · rfl
    · exact absurd rfl hb
  · exact rfl
  · exact (by decide : 1 < 7)

theorem src_v2 (c : Dev nD) (r : Fin 4224) (j : Fin 64) : V m c main_v2 (ix2 r j) = (0 : EReal) := by
  entry_read
  pointwise []

theorem upto_v2 (c : Dev nD) : StableHlo.upto hostOps0 (fun b => m (c, b)) 9 main_v2 = V m c main_v2 :=
  (StableHlo.upto_last_write (i := 3) [main_v3, main_cst_0, main_v4, main_v5, main_v6] rfl rfl (by decide) _).trans
  (StableHlo.after_last_write (i := 3) [main_v3, main_cst_0, main_v4, main_v5, main_v6, main_v7, main_v8, main_v9, main_v10, main_v11, main_v12, main_v13, main_cst_1, main_v14, main_v15, main_cst_2, main_v16, main_v17, main_v18, main_v19, main_v20, main_v21] rfl rfl (by decide) _).symm

theorem cat_v2 (c : Dev nD) (r : Fin 4224) (j : Fin 64) :
    V m c main_v7 (ix2 r ⟨4480 + j.val, by omega⟩) = (0 : EReal) := by
  refine Eq.trans ?_ (src_v2 m c r j)
  rw [← upto_v2]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 2) (pre := 4480) (s₁ := S4224x64) (hr := rfl) (i := ix2 r j)
    (x₁ := StableHlo.upto hostOps0 (fun b => m (c, b)) 9 main_v2)
  · rfl
  · rfl
  · intro b hb
    fin_cases b
    · rfl
    · exact absurd rfl hb
  · exact rfl
  · exact (by decide : 2 < 7)

theorem src_v3 (c : Dev nD) (r : Fin 4224) (j : Fin 32) : V m c main_v3 (ix2 r j) = A0 m c (ix2 r ⟨896 + j.val, by omega⟩) := by
  entry_read
  pointwise []

theorem upto_v3 (c : Dev nD) : StableHlo.upto hostOps0 (fun b => m (c, b)) 9 main_v3 = V m c main_v3 :=
  (StableHlo.upto_last_write (i := 4) [main_cst_0, main_v4, main_v5, main_v6] rfl rfl (by decide) _).trans
  (StableHlo.after_last_write (i := 4) [main_cst_0, main_v4, main_v5, main_v6, main_v7, main_v8, main_v9, main_v10, main_v11, main_v12, main_v13, main_cst_1, main_v14, main_v15, main_cst_2, main_v16, main_v17, main_v18, main_v19, main_v20, main_v21] rfl rfl (by decide) _).symm

theorem cat_v3 (c : Dev nD) (r : Fin 4224) (j : Fin 32) :
    V m c main_v7 (ix2 r ⟨4544 + j.val, by omega⟩) = A0 m c (ix2 r ⟨896 + j.val, by omega⟩) := by
  refine Eq.trans ?_ (src_v3 m c r j)
  rw [← upto_v3]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 3) (pre := 4544) (s₁ := S4224x32) (hr := rfl) (i := ix2 r j)
    (x₁ := StableHlo.upto hostOps0 (fun b => m (c, b)) 9 main_v3)
  · rfl
  · rfl
  · intro b hb
    fin_cases b
    · rfl
    · exact absurd rfl hb
  · exact rfl
  · exact (by decide : 3 < 7)

theorem src_v4 (c : Dev nD) (r : Fin 4224) (j : Fin 32) : V m c main_v4 (ix2 r j) = (0 : EReal) := by
  entry_read
  pointwise []

theorem upto_v4 (c : Dev nD) : StableHlo.upto hostOps0 (fun b => m (c, b)) 9 main_v4 = V m c main_v4 :=
  (StableHlo.upto_last_write (i := 6) [main_v5, main_v6] rfl rfl (by decide) _).trans
  (StableHlo.after_last_write (i := 6) [main_v5, main_v6, main_v7, main_v8, main_v9, main_v10, main_v11, main_v12, main_v13, main_cst_1, main_v14, main_v15, main_cst_2, main_v16, main_v17, main_v18, main_v19, main_v20, main_v21] rfl rfl (by decide) _).symm

theorem cat_v4 (c : Dev nD) (r : Fin 4224) (j : Fin 32) :
    V m c main_v7 (ix2 r ⟨4576 + j.val, by omega⟩) = (0 : EReal) := by
  refine Eq.trans ?_ (src_v4 m c r j)
  rw [← upto_v4]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 4) (pre := 4576) (s₁ := S4224x32) (hr := rfl) (i := ix2 r j)
    (x₁ := StableHlo.upto hostOps0 (fun b => m (c, b)) 9 main_v4)
  · rfl
  · rfl
  · intro b hb
    fin_cases b
    · rfl
    · exact absurd rfl hb
  · exact rfl
  · exact (by decide : 4 < 7)

theorem src_v5 (c : Dev nD) (r : Fin 4224) (j : Fin 512) : V m c main_v5 (ix2 r j) = A0 m c (ix2 r ⟨j.val, by omega⟩) := by
  entry_read
  pointwise []

theorem upto_v5 (c : Dev nD) : StableHlo.upto hostOps0 (fun b => m (c, b)) 9 main_v5 = V m c main_v5 :=
  (StableHlo.upto_last_write (i := 7) [main_v6] rfl rfl (by decide) _).trans
  (StableHlo.after_last_write (i := 7) [main_v6, main_v7, main_v8, main_v9, main_v10, main_v11, main_v12, main_v13, main_cst_1, main_v14, main_v15, main_cst_2, main_v16, main_v17, main_v18, main_v19, main_v20, main_v21] rfl rfl (by decide) _).symm

theorem cat_v5 (c : Dev nD) (r : Fin 4224) (j : Fin 512) :
    V m c main_v7 (ix2 r ⟨4608 + j.val, by omega⟩) = A0 m c (ix2 r ⟨j.val, by omega⟩) := by
  refine Eq.trans ?_ (src_v5 m c r j)
  rw [← upto_v5]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 5) (pre := 4608) (s₁ := S4224x512) (hr := rfl) (i := ix2 r j)
    (x₁ := StableHlo.upto hostOps0 (fun b => m (c, b)) 9 main_v5)
  · rfl
  · rfl
  · intro b hb
    fin_cases b
    · rfl
    · exact absurd rfl hb
  · exact rfl
  · exact (by decide : 5 < 7)

theorem src_v6 (c : Dev nD) (r : Fin 4224) (j : Fin 2304) : V m c main_v6 (ix2 r j) = A0 m c (ix2 r ⟨928 + j.val, by omega⟩) := by
  entry_read
  pointwise []

theorem upto_v6 (c : Dev nD) : StableHlo.upto hostOps0 (fun b => m (c, b)) 9 main_v6 = V m c main_v6 :=
  (StableHlo.upto_last_write (i := 8) [] rfl rfl (by decide) _).trans
  (StableHlo.after_last_write (i := 8) [main_v7, main_v8, main_v9, main_v10, main_v11, main_v12, main_v13, main_cst_1, main_v14, main_v15, main_cst_2, main_v16, main_v17, main_v18, main_v19, main_v20, main_v21] rfl rfl (by decide) _).symm

theorem cat_v6 (c : Dev nD) (r : Fin 4224) (j : Fin 2304) :
    V m c main_v7 (ix2 r ⟨5120 + j.val, by omega⟩) = A0 m c (ix2 r ⟨928 + j.val, by omega⟩) := by
  refine Eq.trans ?_ (src_v6 m c r j)
  rw [← upto_v6]
  have e := StableHlo.after_last_write (ops := (hostOps0 : List (HloOp τ sig (Elt Ideal)))) (i := 9) (r := main_v7)
    [main_v8, main_v9, main_v10, main_v11, main_v12, main_v13, main_cst_1, main_v14, main_v15, main_cst_2, main_v16, main_v17, main_v18, main_v19, main_v20, main_v21] rfl rfl (by decide) (fun b => m (c, b))
  rw [StableHlo.nary_result'] at e
  refine (congrFun e _).trans ?_
  apply concatenate_apply_piece (α := Elt Ideal .f32) (t := S4224x7424) (k := 6) (pre := 5120) (s₁ := S4224x2304) (hr := rfl) (i := ix2 r j)
    (x₁ := StableHlo.upto hostOps0 (fun b => m (c, b)) 9 main_v6)
  · rfl
  · rfl
  · intro b hb
    fin_cases b
    · rfl
    · exact absurd rfl hb
  · exact rfl
  · exact (by decide : 6 < 7)

theorem upto_v19 (c : Dev nD) : StableHlo.upto hostOps0 (fun b => m (c, b)) 24 main_v19 = V m c main_v19 :=
  (StableHlo.upto_last_write (i := 23) [] rfl rfl (by decide) _).trans
  (StableHlo.after_last_write (i := 23) [main_v20, main_v21] rfl rfl (by decide) _).symm

theorem entry_v20 (c : Dev nD) : V m c main_v20 = V m c main_v19 := by
  have e := StableHlo.after_last_write (ops := (hostOps0 : List (HloOp τ sig (Elt Ideal)))) (i := 24) (r := main_v20)
    [main_v21] rfl rfl (by decide) (fun b => m (c, b))
  rw [StableHlo.unary_result'] at e
  rw [← upto_v19]
  exact e

theorem src_v12 (c : Dev nD) (r : Fin 1024) (j : Fin 4096) : V m c main_v12 (ix2 r j) = A3 m c (ix2 r ⟨3232 + j.val, by omega⟩) := by
  entry_read
  pointwise []

theorem upto_v12 (c : Dev nD) : StableHlo.upto hostOps0 (fun b => m (c, b)) 23 main_v12 = V m c main_v12 :=
  (StableHlo.upto_last_write (i := 14) [main_v13, main_cst_1, main_v14, main_v15, main_cst_2, main_v16, main_v17, main_v18] rfl rfl (by decide) _).trans
  (StableHlo.after_last_write (i := 14) [main_v13, main_cst_1, main_v14, main_v15, main_cst_2, main_v16, main_v17, main_v18, main_v19, main_v20, main_v21] rfl rfl (by decide) _).symm

theorem cat_v12 (c : Dev nD) (r : Fin 1024) (j : Fin 4096) :
    V m c main_v19 (ix2 r ⟨j.val, by omega⟩) = A3 m c (ix2 r ⟨3232 + j.val, by omega⟩) := by
  refine Eq.trans ?_ (src_v12 m c r j)
  rw [← upto_v12]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 0) (pre := 0) (s₁ := S1024x4096) (hr := rfl) (i := ix2 r j)
    (x₁ := StableHlo.upto hostOps0 (fun b => m (c, b)) 23 main_v12)
  · rfl
  · rfl
  · intro b hb
    fin_cases b
    · rfl
    · exact absurd rfl hb
  · exact Nat.zero_add _
  · exact (by decide : 0 < 7)

theorem src_v13 (c : Dev nD) (r : Fin 1024) (j : Fin 384) : V m c main_v13 (ix2 r j) = A3 m c (ix2 r ⟨512 + j.val, by omega⟩) := by
  entry_read
  pointwise []

theorem upto_v13 (c : Dev nD) : StableHlo.upto hostOps0 (fun b => m (c, b)) 23 main_v13 = V m c main_v13 :=
  (StableHlo.upto_last_write (i := 15) [main_cst_1, main_v14, main_v15, main_cst_2, main_v16, main_v17, main_v18] rfl rfl (by decide) _).trans
  (StableHlo.after_last_write (i := 15) [main_cst_1, main_v14, main_v15, main_cst_2, main_v16, main_v17, main_v18, main_v19, main_v20, main_v21] rfl rfl (by decide) _).symm

theorem cat_v13 (c : Dev nD) (r : Fin 1024) (j : Fin 384) :
    V m c main_v19 (ix2 r ⟨4096 + j.val, by omega⟩) = A3 m c (ix2 r ⟨512 + j.val, by omega⟩) := by
  refine Eq.trans ?_ (src_v13 m c r j)
  rw [← upto_v13]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 1) (pre := 4096) (s₁ := S1024x384) (hr := rfl) (i := ix2 r j)
    (x₁ := StableHlo.upto hostOps0 (fun b => m (c, b)) 23 main_v13)
  · rfl
  · rfl
  · intro b hb
    fin_cases b
    · rfl
    · exact absurd rfl hb
  · exact rfl
  · exact (by decide : 1 < 7)

theorem src_v14 (c : Dev nD) (r : Fin 1024) (j : Fin 64) : V m c main_v14 (ix2 r j) = (0 : EReal) := by
  entry_read
  pointwise []

theorem upto_v14 (c : Dev nD) : StableHlo.upto hostOps0 (fun b => m (c, b)) 23 main_v14 = V m c main_v14 :=
  (StableHlo.upto_last_write (i := 17) [main_v15, main_cst_2, main_v16, main_v17, main_v18] rfl rfl (by decide) _).trans
  (StableHlo.after_last_write (i := 17) [main_v15, main_cst_2, main_v16, main_v17, main_v18, main_v19, main_v20, main_v21] rfl rfl (by decide) _).symm

theorem cat_v14 (c : Dev nD) (r : Fin 1024) (j : Fin 64) :
    V m c main_v19 (ix2 r ⟨4480 + j.val, by omega⟩) = (0 : EReal) := by
  refine Eq.trans ?_ (src_v14 m c r j)
  rw [← upto_v14]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 2) (pre := 4480) (s₁ := S1024x64) (hr := rfl) (i := ix2 r j)
    (x₁ := StableHlo.upto hostOps0 (fun b => m (c, b)) 23 main_v14)
  · rfl
  · rfl
  · intro b hb
    fin_cases b
    · rfl
    · exact absurd rfl hb
  · exact rfl
  · exact (by decide : 2 < 7)

theorem src_v15 (c : Dev nD) (r : Fin 1024) (j : Fin 32) : V m c main_v15 (ix2 r j) = A3 m c (ix2 r ⟨896 + j.val, by omega⟩) := by
  entry_read
  pointwise []

theorem upto_v15 (c : Dev nD) : StableHlo.upto hostOps0 (fun b => m (c, b)) 23 main_v15 = V m c main_v15 :=
  (StableHlo.upto_last_write (i := 18) [main_cst_2, main_v16, main_v17, main_v18] rfl rfl (by decide) _).trans
  (StableHlo.after_last_write (i := 18) [main_cst_2, main_v16, main_v17, main_v18, main_v19, main_v20, main_v21] rfl rfl (by decide) _).symm

theorem cat_v15 (c : Dev nD) (r : Fin 1024) (j : Fin 32) :
    V m c main_v19 (ix2 r ⟨4544 + j.val, by omega⟩) = A3 m c (ix2 r ⟨896 + j.val, by omega⟩) := by
  refine Eq.trans ?_ (src_v15 m c r j)
  rw [← upto_v15]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 3) (pre := 4544) (s₁ := S1024x32) (hr := rfl) (i := ix2 r j)
    (x₁ := StableHlo.upto hostOps0 (fun b => m (c, b)) 23 main_v15)
  · rfl
  · rfl
  · intro b hb
    fin_cases b
    · rfl
    · exact absurd rfl hb
  · exact rfl
  · exact (by decide : 3 < 7)

theorem src_v16 (c : Dev nD) (r : Fin 1024) (j : Fin 32) : V m c main_v16 (ix2 r j) = (0 : EReal) := by
  entry_read
  pointwise []

theorem upto_v16 (c : Dev nD) : StableHlo.upto hostOps0 (fun b => m (c, b)) 23 main_v16 = V m c main_v16 :=
  (StableHlo.upto_last_write (i := 20) [main_v17, main_v18] rfl rfl (by decide) _).trans
  (StableHlo.after_last_write (i := 20) [main_v17, main_v18, main_v19, main_v20, main_v21] rfl rfl (by decide) _).symm

theorem cat_v16 (c : Dev nD) (r : Fin 1024) (j : Fin 32) :
    V m c main_v19 (ix2 r ⟨4576 + j.val, by omega⟩) = (0 : EReal) := by
  refine Eq.trans ?_ (src_v16 m c r j)
  rw [← upto_v16]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 4) (pre := 4576) (s₁ := S1024x32) (hr := rfl) (i := ix2 r j)
    (x₁ := StableHlo.upto hostOps0 (fun b => m (c, b)) 23 main_v16)
  · rfl
  · rfl
  · intro b hb
    fin_cases b
    · rfl
    · exact absurd rfl hb
  · exact rfl
  · exact (by decide : 4 < 7)

theorem src_v17 (c : Dev nD) (r : Fin 1024) (j : Fin 512) : V m c main_v17 (ix2 r j) = A3 m c (ix2 r ⟨j.val, by omega⟩) := by
  entry_read
  pointwise []

theorem upto_v17 (c : Dev nD) : StableHlo.upto hostOps0 (fun b => m (c, b)) 23 main_v17 = V m c main_v17 :=
  (StableHlo.upto_last_write (i := 21) [main_v18] rfl rfl (by decide) _).trans
  (StableHlo.after_last_write (i := 21) [main_v18, main_v19, main_v20, main_v21] rfl rfl (by decide) _).symm

theorem cat_v17 (c : Dev nD) (r : Fin 1024) (j : Fin 512) :
    V m c main_v19 (ix2 r ⟨4608 + j.val, by omega⟩) = A3 m c (ix2 r ⟨j.val, by omega⟩) := by
  refine Eq.trans ?_ (src_v17 m c r j)
  rw [← upto_v17]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 5) (pre := 4608) (s₁ := S1024x512) (hr := rfl) (i := ix2 r j)
    (x₁ := StableHlo.upto hostOps0 (fun b => m (c, b)) 23 main_v17)
  · rfl
  · rfl
  · intro b hb
    fin_cases b
    · rfl
    · exact absurd rfl hb
  · exact rfl
  · exact (by decide : 5 < 7)

theorem src_v18 (c : Dev nD) (r : Fin 1024) (j : Fin 2304) : V m c main_v18 (ix2 r j) = A3 m c (ix2 r ⟨928 + j.val, by omega⟩) := by
  entry_read
  pointwise []

theorem upto_v18 (c : Dev nD) : StableHlo.upto hostOps0 (fun b => m (c, b)) 23 main_v18 = V m c main_v18 :=
  (StableHlo.upto_last_write (i := 22) [] rfl rfl (by decide) _).trans
  (StableHlo.after_last_write (i := 22) [main_v19, main_v20, main_v21] rfl rfl (by decide) _).symm

theorem cat_v18 (c : Dev nD) (r : Fin 1024) (j : Fin 2304) :
    V m c main_v19 (ix2 r ⟨5120 + j.val, by omega⟩) = A3 m c (ix2 r ⟨928 + j.val, by omega⟩) := by
  refine Eq.trans ?_ (src_v18 m c r j)
  rw [← upto_v18]
  have e := StableHlo.after_last_write (ops := (hostOps0 : List (HloOp τ sig (Elt Ideal)))) (i := 23) (r := main_v19)
    [main_v20, main_v21] rfl rfl (by decide) (fun b => m (c, b))
  rw [StableHlo.nary_result'] at e
  refine (congrFun e _).trans ?_
  apply concatenate_apply_piece (α := Elt Ideal .f32) (t := S1024x7424) (k := 6) (pre := 5120) (s₁ := S1024x2304) (hr := rfl) (i := ix2 r j)
    (x₁ := StableHlo.upto hostOps0 (fun b => m (c, b)) 23 main_v18)
  · rfl
  · rfl
  · intro b hb
    fin_cases b
    · rfl
    · exact absurd rfl hb
  · exact rfl
  · exact (by decide : 6 < 7)

theorem idx_val : ∀ t : Fin cfg0.N, win0_0.index t = ![t.val, 0] ∧ win0_1.index t = ![t.val, 0]
    ∧ win0_2.index t = ![t.val, 0] ∧ win0_3.index t = ![0, 0] ∧ win0_4.index t = ![t.val, 0] ∧ win0_5.index t = ![0, 0]
    ∧ win0_6.index t = ![t.val, 0] ∧ win0_7.index t = ![t.val, 0] ∧ win0_8.index t = ![0, 0] :=
  (by decide +kernel : ∀ t : Fin grid0.N, _)

/-- The row of the whole array that row `a` of point `t`'s block is. -/
def row (t : Fin cfg0.N) (a : Fin 384) : Fin 4224 :=
  ⟨t.val * 384 + a.val, by have := lt_of_lt_of_eq t.isLt N_0; omega⟩

theorem entry_v21 (c : Dev nD) (b : Fin 1024) : V m c main_v21 (ix2 0 b) = A2 m c (ix1 b) := by
  entry_read
  pointwise []

theorem blk3 (c : Dev nD) (t : Fin cfg0.N) (a : Fin 1024) (j : Fin 7424) :
    iblk m c 3 t (ix2 a j) = V m c main_v19 (ix2 a j) := by
  refine Eq.trans ?_ (congrFun (entry_v20 m c) (ix2 a j))
  blk_ext [iblk, idx_val t]

theorem blk4 (c : Dev nD) (t : Fin cfg0.N) (a : Fin 384) (b : Fin 1024) :
    iblk m c 4 t (ix2 a b) = A1 m c (ix2 (row t a) b) := by
  blk_ext [iblk, V, idx_val t, row]

theorem blk5 (c : Dev nD) (t : Fin cfg0.N) (b : Fin 1024) : iblk m c 5 t (ix2 0 b) = A2 m c (ix1 b) := by
  refine Eq.trans ?_ (entry_v21 m c b)
  blk_ext [iblk, idx_val t]

theorem blk6 (c : Dev nD) (t : Fin cfg0.N) (a : Fin 384) (b : Fin 1024) :
    iblk m c 6 t (ix2 a b) = A4 m c (ix2 (row t a) b) := by
  blk_ext [iblk, V, idx_val t, row]

theorem upto_v8_11 (c : Dev nD) : StableHlo.upto hostOps0 (fun b => m (c, b)) 11 main_v8 = V m c main_v8 :=
  (StableHlo.upto_last_write (i := 10) [] rfl rfl (by decide) _).trans
  (StableHlo.after_last_write (i := 10) [main_v9, main_v10, main_v11, main_v12, main_v13, main_cst_1, main_v14, main_v15, main_cst_2, main_v16, main_v17, main_v18, main_v19, main_v20, main_v21] rfl rfl (by decide) _).symm

theorem entry_v9 (c : Dev nD) (r : Fin 4224) (q : Fin 4096) (p : Fin 7424) (h : p.val = 0 + q.val) :
    V m c main_v9 (ix2 r q) = V m c main_v7 (ix2 r p) := by
  have e := StableHlo.after_last_write (ops := (hostOps0 : List (HloOp τ sig (Elt Ideal)))) (i := 11) (r := main_v9)
    [main_v10, main_v11, main_v12, main_v13, main_cst_1, main_v14, main_v15, main_cst_2, main_v16, main_v17, main_v18, main_v19, main_v20, main_v21] rfl rfl (by decide) (fun b => m (c, b))
  rw [StableHlo.unary_result', upto_v8_11] at e
  refine (congrFun e _).trans ?_
  refine Eq.trans ?_ (congrFun (entry_v8 m c) (ix2 r p))
  rw [show p = ⟨0 + q.val, by omega⟩ from Fin.ext h]
  pointwise []

theorem blk0 (c : Dev nD) (t : Fin cfg0.N) (a : Fin 384) (q : Fin 4096) (p : Fin 7424) (h : p.val = 0 + q.val) :
    iblk m c 0 t (ix2 a q) = V m c main_v7 (ix2 (row t a) p) := by
  refine Eq.trans ?_ (entry_v9 m c (row t a) q p h)
  blk_ext [iblk, idx_val t, row]

theorem upto_v8_12 (c : Dev nD) : StableHlo.upto hostOps0 (fun b => m (c, b)) 12 main_v8 = V m c main_v8 :=
  (StableHlo.upto_last_write (i := 10) [main_v9] rfl rfl (by decide) _).trans
  (StableHlo.after_last_write (i := 10) [main_v9, main_v10, main_v11, main_v12, main_v13, main_cst_1, main_v14, main_v15, main_cst_2, main_v16, main_v17, main_v18, main_v19, main_v20, main_v21] rfl rfl (by decide) _).symm

theorem entry_v10 (c : Dev nD) (r : Fin 4224) (q : Fin 512) (p : Fin 7424) (h : p.val = 4096 + q.val) :
    V m c main_v10 (ix2 r q) = V m c main_v7 (ix2 r p) := by
  have e := StableHlo.after_last_write (ops := (hostOps0 : List (HloOp τ sig (Elt Ideal)))) (i := 12) (r := main_v10)
    [main_v11, main_v12, main_v13, main_cst_1, main_v14, main_v15, main_cst_2, main_v16, main_v17, main_v18, main_v19, main_v20, main_v21] rfl rfl (by decide) (fun b => m (c, b))
  rw [StableHlo.unary_result', upto_v8_12] at e
  refine (congrFun e _).trans ?_
  refine Eq.trans ?_ (congrFun (entry_v8 m c) (ix2 r p))
  rw [show p = ⟨4096 + q.val, by omega⟩ from Fin.ext h]
  pointwise []

theorem blk1 (c : Dev nD) (t : Fin cfg0.N) (a : Fin 384) (q : Fin 512) (p : Fin 7424) (h : p.val = 4096 + q.val) :
    iblk m c 1 t (ix2 a q) = V m c main_v7 (ix2 (row t a) p) := by
  refine Eq.trans ?_ (entry_v10 m c (row t a) q p h)
  blk_ext [iblk, idx_val t, row]

theorem upto_v8_13 (c : Dev nD) : StableHlo.upto hostOps0 (fun b => m (c, b)) 13 main_v8 = V m c main_v8 :=
  (StableHlo.upto_last_write (i := 10) [main_v9, main_v10] rfl rfl (by decide) _).trans
  (StableHlo.after_last_write (i := 10) [main_v9, main_v10, main_v11, main_v12, main_v13, main_cst_1, main_v14, main_v15, main_cst_2, main_v16, main_v17, main_v18, main_v19, main_v20, main_v21] rfl rfl (by decide) _).symm

theorem entry_v11 (c : Dev nD) (r : Fin 4224) (q : Fin 2816) (p : Fin 7424) (h : p.val = 4608 + q.val) :
    V m c main_v11 (ix2 r q) = V m c main_v7 (ix2 r p) := by
  have e := StableHlo.after_last_write (ops := (hostOps0 : List (HloOp τ sig (Elt Ideal)))) (i := 13) (r := main_v11)
    [main_v12, main_v13, main_cst_1, main_v14, main_v15, main_cst_2, main_v16, main_v17, main_v18, main_v19, main_v20, main_v21] rfl rfl (by decide) (fun b => m (c, b))
  rw [StableHlo.unary_result', upto_v8_13] at e
  refine (congrFun e _).trans ?_
  refine Eq.trans ?_ (congrFun (entry_v8 m c) (ix2 r p))
  rw [show p = ⟨4608 + q.val, by omega⟩ from Fin.ext h]
  pointwise []

theorem blk2 (c : Dev nD) (t : Fin cfg0.N) (a : Fin 384) (q : Fin 2816) (p : Fin 7424) (h : p.val = 4608 + q.val) :
    iblk m c 2 t (ix2 a q) = V m c main_v7 (ix2 (row t a) p) := by
  refine Eq.trans ?_ (entry_v11 m c (row t a) q p h)
  blk_ext [iblk, idx_val t, row]

end Cert.Kernel2Ideal.Value
-- ==== Proof.Final2.lean ====
/-
  The second kernel's arrays after the run: the second reference's results over the same arguments.
-/
module

public import proofs.«01_k».proof.Proof.Packed
public import proofs.«01_k».proof.Proof.Ref2
public import proofs.«01_k».proof.Proof.Pay2
public import proofs.«01_k».proof.Proof.Blocks2

@[expose] public section

set_option maxRecDepth 16384

noncomputable section

namespace Cert.Kernel2Ideal.Value

open Cert.Kernel2Ideal Cert.Kernel2Ideal.Gen Cert.Row Idealize.ShloMosaic Idealize.ShloMosaic.TcCoe Idealize.SL.Sem

variable (m : (ℓ : Loc nD τ sig) → Buf (Elt Ideal) ℓ)

theorem idx2 {n k : ℕ} (x : (⟨2, ![n, k]⟩ : Shape).Idx) : ∃ (a : Fin n) (b : Fin k), x = ix2 a b :=
  ⟨x 0, x 1, by funext i; fin_cases i <;> rfl⟩

theorem one_idx (x : S1x1024.Idx) : ∃ b, x = ix2 0 b := by
  obtain ⟨a, b, rfl⟩ := idx2 x
  exact ⟨b, by rw [Subsingleton.elim a 0]⟩

theorem zero_left {x y : EReal} (h : x = 0) : x * y = 0 := by rw [h, zero_mul]

theorem first_iff (t : Fin cfg0.N) : t.val % 11 = 0 ↔ ¬ 1 ≤ t.val := by
  have := lt_of_lt_of_eq t.isLt N_0; omega

section
variable (c : Dev nD) (t : Fin cfg0.N)

abbrev w0 (h : ∀ a : Fin 2, (![0, 0] : Fin 2 → ℕ) a + (![1024, 4096] : Fin 2 → ℕ) a ≤ S1024x7424.size a) : FVec Ideal S1024x4096 .bf16 := View.ld (S := S1024x7424) (iblk m c 3 t) (Rect.unit ![0, 0] ![1024, 4096] h)

theorem w0_at (h) (b : Fin 1024) (q : Fin 4096) (p : Fin 7424) (hp : p.val = 0 + q.val) :
    w0 m c t h (ix2 b q) = V m c main_v19 (ix2 b p) := by
  rw [show p = ⟨0 + q.val, by omega⟩ from Fin.ext hp]
  refine Eq.trans ?_ (blk3 m c t b ⟨0 + q.val, by omega⟩)
  exact View.ld_unit_apply_of _ _ _ _ _ _ (fun i => by fin_cases i <;> simp)

abbrev w1 (h : ∀ a : Fin 2, (![0, 4096] : Fin 2 → ℕ) a + (![1024, 512] : Fin 2 → ℕ) a ≤ S1024x7424.size a) : FVec Ideal S1024x512 .bf16 := View.ld (S := S1024x7424) (iblk m c 3 t) (Rect.unit ![0, 4096] ![1024, 512] h)

theorem w1_at (h) (b : Fin 1024) (q : Fin 512) (p : Fin 7424) (hp : p.val = 4096 + q.val) :
    w1 m c t h (ix2 b q) = V m c main_v19 (ix2 b p) := by
  rw [show p = ⟨4096 + q.val, by omega⟩ from Fin.ext hp]
  refine Eq.trans ?_ (blk3 m c t b ⟨4096 + q.val, by omega⟩)
  exact View.ld_unit_apply_of _ _ _ _ _ _ (fun i => by fin_cases i <;> simp)

abbrev w2 (h : ∀ a : Fin 2, (![0, 4608] : Fin 2 → ℕ) a + (![1024, 2816] : Fin 2 → ℕ) a ≤ S1024x7424.size a) : FVec Ideal S1024x2816 .bf16 := View.ld (S := S1024x7424) (iblk m c 3 t) (Rect.unit ![0, 4608] ![1024, 2816] h)

theorem w2_at (h) (b : Fin 1024) (q : Fin 2816) (p : Fin 7424) (hp : p.val = 4608 + q.val) :
    w2 m c t h (ix2 b q) = V m c main_v19 (ix2 b p) := by
  rw [show p = ⟨4608 + q.val, by omega⟩ from Fin.ext hp]
  refine Eq.trans ?_ (blk3 m c t b ⟨4608 + q.val, by omega⟩)
  exact View.ld_unit_apply_of _ _ _ _ _ _ (fun i => by fin_cases i <;> simp)

theorem dhb_at (h0 h1 h2) (a : Fin 384) (b : Fin 1024) :
    k0_pay4 (iblk m c 0 t) (w0 m c t h0) (iblk m c 1 t) (w1 m c t h1) (iblk m c 2 t) (w2 m c t h2) (ix2 a b)
      = RefRead2.dhr (A0 m c) (A3 m c) (row t a) b := by
  refine (Pay.dh_at ..).trans (packed (fun k => A0 m c (ix2 (row t a) k) * A3 m c (ix2 b k)) _ _ _ ?_ ?_ ?_ ?_ ?_ ?_ ?_)
  · exact fun q => congrArg₂ (· * ·) ((blk0 m c t a q ⟨q.val, by omega⟩ (by first | rfl | omega | (dsimp only; omega))).trans (cat_v0 m c (row t a) q))
      ((w0_at m c t _ b q ⟨q.val, by omega⟩ (by first | rfl | omega | (dsimp only; omega))).trans (cat_v12 m c b q))
  · exact fun q => congrArg₂ (· * ·) ((blk1 m c t a ⟨q.val, by omega⟩ ⟨4096 + q.val, by omega⟩ (by first | rfl | omega | (dsimp only; omega))).trans (cat_v1 m c (row t a) q))
      ((w1_at m c t _ b ⟨q.val, by omega⟩ ⟨4096 + q.val, by omega⟩ (by first | rfl | omega | (dsimp only; omega))).trans (cat_v13 m c b q))
  · exact fun q => zero_left ((blk1 m c t a ⟨384 + q.val, by omega⟩ ⟨4480 + q.val, by omega⟩ (by first | rfl | omega | (dsimp only; omega))).trans (cat_v2 m c (row t a) q))
  · exact fun q => congrArg₂ (· * ·) ((blk1 m c t a ⟨448 + q.val, by omega⟩ ⟨4544 + q.val, by omega⟩ (by first | rfl | omega | (dsimp only; omega))).trans (cat_v3 m c (row t a) q))
      ((w1_at m c t _ b ⟨448 + q.val, by omega⟩ ⟨4544 + q.val, by omega⟩ (by first | rfl | omega | (dsimp only; omega))).trans (cat_v15 m c b q))
  · exact fun q => zero_left ((blk1 m c t a ⟨480 + q.val, by omega⟩ ⟨4576 + q.val, by omega⟩ (by first | rfl | omega | (dsimp only; omega))).trans (cat_v4 m c (row t a) q))
  · exact fun q => congrArg₂ (· * ·) ((blk2 m c t a ⟨q.val, by omega⟩ ⟨4608 + q.val, by omega⟩ (by first | rfl | omega | (dsimp only; omega))).trans (cat_v5 m c (row t a) q))
      ((w2_at m c t _ b ⟨q.val, by omega⟩ ⟨4608 + q.val, by omega⟩ (by first | rfl | omega | (dsimp only; omega))).trans (cat_v17 m c b q))
  · exact fun q => congrArg₂ (· * ·) ((blk2 m c t a ⟨512 + q.val, by omega⟩ ⟨5120 + q.val, by omega⟩ (by first | rfl | omega | (dsimp only; omega))).trans (cat_v6 m c (row t a) q))
      ((w2_at m c t _ b ⟨512 + q.val, by omega⟩ ⟨5120 + q.val, by omega⟩ (by first | rfl | omega | (dsimp only; omega))).trans (cat_v18 m c b q))

theorem dx_blk (h0 h1 h2) (a : Fin 384) (b : Fin 1024) :
    k0_pay1 (iblk m c 4 t) (k0_pay5 (iblk m c 4 t))
        (k0_pay6 (iblk m c 0 t) (w0 m c t h0) (iblk m c 1 t) (w1 m c t h1) (iblk m c 2 t) (w2 m c t h2) (iblk m c 5 t))
        (k0_pay7 (iblk m c 0 t) (w0 m c t h0) (iblk m c 1 t) (w1 m c t h1) (iblk m c 2 t) (w2 m c t h2) (iblk m c 4 t) (iblk m c 5 t) (iblk m c 6 t))
        (k0_pay8 (iblk m c 4 t)) (ix2 a b)
      = Cert.Reference2Ideal.Read.val_main_v38 (F := Ideal) (A0 m c) (A1 m c) (A2 m c) (A3 m c) (A4 m c) (ix2 (row t a) b) := by
  refine (Pay.dx_at ..).trans (Eq.trans ?_ (RefRead2.dx_at ..).symm)
  have e : ∀ k, k0_pay4 (iblk m c 0 t) (w0 m c t h0) (iblk m c 1 t) (w1 m c t h1) (iblk m c 2 t) (w2 m c t h2) (ix2 a k)
      = RefRead2.dhr (A0 m c) (A3 m c) (row t a) k := fun k => dhb_at m c t h0 h1 h2 a k
  simp only [e, blk4, blk5, blk6]
  rw [sub_eq_add_neg, add_assoc, ← sub_eq_add_neg]
  rfl

/-- A block's sum of the norm weight's gradient over its rows, in one column. -/
abbrev normSum (j : S1x1024.Idx) : EReal :=
  ∑ a : Fin 384, RefRead2.dhr (A0 m c) (A3 m c) (row t a) (j 1) * A1 m c (ix2 (row t a) (j 1))
    * rs fun k => A1 m c (ix2 (row t a) k)

theorem norm_part (h0 h1 h2) (b : Fin 1024) :
    k0_pay2 (k0_pay4 (iblk m c 0 t) (w0 m c t h0) (iblk m c 1 t) (w1 m c t h1) (iblk m c 2 t) (w2 m c t h2)) (iblk m c 4 t)
      (k0_pay5 (iblk m c 4 t)) (ix2 0 b) = normSum m c t (ix2 0 b) := by
  refine (Pay.dg_at ..).trans (Finset.sum_congr rfl fun a _ => ?_)
  exact congrArg₂ (· * ·) (congrArg₂ (· * ·) (dhb_at m c t h0 h1 h2 a b) (blk4 m c t a b))
    (congrArg rs (funext fun k => blk4 m c t a k))

end

set_option maxHeartbeats 1600000 in
theorem final_7 (c : Dev nD) :
    (dats m 0 c).arrAt 7 (cfgs 0).N = Cert.Reference2Ideal.Read.val_main_v38 (F := Ideal) (A0 m c) (A1 m c) (A2 m c) (A3 m c) (A4 m c) := by
  refine (dats m 0 c).arrAt_eq_of_covers 7 _ (by decide +kernel) fun t hf y => ?_
  blk_simp; rw [after0_7]
  obtain ⟨a, b, rfl⟩ := idx2 y
  by_cases h : t.val % 11 = 0
  · have h' := (first_iff t).mp h
    rw [outsAt0_A m c t h h']; dsimp only; frame_out
    refine (dx_blk m c t _ _ _ a b).trans ?_
    blk_ext [idx_val t, row]
  · have h' : 1 ≤ t.val := by have := first_iff t; omega
    rw [outsAt0_B m c t h h']; dsimp only; frame_out
    refine (dx_blk m c t _ _ _ a b).trans ?_
    blk_ext [idx_val t, row]

theorem first_8 (c : Dev nD) (t : Fin cfg0.N) (h : t.val % 11 = 0) (j : S1x1024.Idx) :
    (outsAt0 m c t.val t.isLt).2 j = 0 + normSum m c t j := by
  have h' := (first_iff t).mp h
  rw [outsAt0_A m c t h h']; dsimp only; frame_out
  obtain ⟨b, rfl⟩ := one_idx j
  rw [zero_add]
  exact norm_part m c t _ _ _ b

theorem step_8 (c : Dev nD) (t : Fin cfg0.N) (h : ¬ t.val % 11 = 0) (j : S1x1024.Idx) :
    (outsAt0 m c t.val t.isLt).2 j
      = (outsAt0 m c (t.val - 1) (Nat.lt_of_le_of_lt (Nat.sub_le _ _) t.isLt)).2 j + normSum m c t j := by
  have h' : 1 ≤ t.val := by have := first_iff t; omega
  rw [outsAt0_B m c t h h']; dsimp only; frame_out
  obtain ⟨b, rfl⟩ := one_idx j
  exact (Pay.dg_add_at ..).trans (congrArg (_ + ·) (norm_part m c t _ _ _ b))

theorem final_8 (c : Dev nD) :
    (dats m 0 c).arrAt 8 (cfgs 0).N = Cert.Reference2Ideal.Read.val_main_v39 (F := Ideal) (A0 m c) (A1 m c) (A3 m c) := by
  refine (dats m 0 c).arrAt_eq_of_after_last 8 t0_10 (by decide +kernel) _ fun j => ?_
  blk_simp
  rw [after0_8, Pipeline.eq_sum_fin_of_reset_step_apply_last (fun n h => (outsAt0 m c n h).2) 11 (fun _ => 0)
    (fun t j => normSum m c t j) (fun t h j => first_8 m c t h j) (fun t h j => step_8 m c t h j)
    (le_of_eq N_0) t0_10 rfl j, zero_add]
  obtain ⟨b, rfl⟩ := one_idx j
  refine Eq.trans ?_ (RefRead2.dg_at ..).symm
  exact Fin.sum_mul_add_congr (S := cfg0.N) (n := 384) (L := 4224)
    (f := fun a : Fin 4224 => RefRead2.dhr (A0 m c) (A3 m c) a b * A1 m c (ix2 a b) * rs fun k => A1 m c (ix2 a k))
    (fun s k hl => rfl) (by rw [show cfg0.N = 11 from N_0])

end Cert.Kernel2Ideal.Value
-- ==== Proof.Run3.lean ====
/-
  The reference's run with its results named.
-/
module

public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init

@[expose] public section

noncomputable section

namespace Cert.Reference3Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (Read.val_main_v5_eq _ _), (h c).2⟩)
    (Value.run m ρ)

end Cert.Reference3Ideal
-- ==== Proof.Thirds.lean ====
/-
  A sum over the rows in three parts, and two-axis indices.
-/
module

public import proofs.«01_k».proof.Proof.Row
public import Idealize.ShloMosaic.Lib.Pipeline.ValueKit

@[expose] public section

noncomputable section

namespace Cert.Row

open Idealize.ShloMosaic

/-- The sum over the rows of third `s`. -/
def third (f : Fin 4224 → EReal) (s : Fin 3) : EReal := ∑ k : Fin 1408, f ⟨s.val * 1408 + k.val, by omega⟩

theorem thirds (f : Fin 4224 → EReal) : third f 0 + third f 1 + third f 2 = ∑ k, f k := by
  rw [← Fin.sum_univ_three (f := fun s => third f s)]
  exact Fin.sum_mul_add_congr (S := 3) (n := 1408) (L := 4224) (f := f) (fun s k hl => rfl) rfl

theorem ix2_of {n k : ℕ} (x : (⟨2, ![n, k]⟩ : Shape).Idx) : ∃ (a : Fin n) (b : Fin k), x = ix2 a b :=
  ⟨x 0, x 1, by funext i; fin_cases i <;> rfl⟩

end Cert.Row
-- ==== Proof.Final3.lean ====
/-
  The gradient of the input projection's gate columns: the third kernel's array is the third reference's result.
-/
module

public import proofs.«01_k».proof.Proof.Thirds
public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel3Ideal.Value

open Cert.Kernel3Ideal Cert.Kernel3Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference3Ideal.S4224x1024 .f32 := m ((c : Thread nD τ).loc main_arg0)
/-- Argument 1 of the program. -/
abbrev A1 (c : Dev nD) : FVec Ideal Cert.Reference3Ideal.S4224x7328 .f32 := m ((c : Thread nD τ).loc main_arg1)

/-- The column of the projection that the gates' column `j` is. -/
def col (j : Fin 4096) : Fin 7328 := ⟨3232 + j.val, by omega⟩

/-- The terms of the sum that output element `i` is. -/
def term (c : Dev nD) (i : S1024x4096.Idx) (k : Fin 4224) : EReal := A0 m c (ix2 k (i 0)) * A1 m c (ix2 k (col (i 1)))

theorem entry_B (c : Dev nD) (r : Fin 4224) (j : Fin 4096) : V m c main_v2 (ix2 r j) = A1 m c (ix2 r (col j)) := by
  entry_read
  pointwise [col]

theorem idx_val : ∀ t : Fin cfg0.N, win0_0.index t = ![t.val % 3, 0] ∧ win0_1.index t = ![t.val % 3, t.val / 3]
    ∧ win0_2.index t = ![0, t.val / 3] :=
  (by decide +kernel : ∀ t : Fin grid0.N, _)

section
variable (c : Dev nD) (t : Fin cfg0.N)

theorem points : t.val < 12 := lt_of_lt_of_eq t.isLt N_0

/-- The element of the whole array that element `j` of point `t`'s block is. -/
def loc (j : S1024x1024.Idx) : S1024x4096.Idx :=
  ix2 ⟨(0) * 1024 + (j 0).val, by have h0 : (j 0).val < 1024 := (j 0).isLt; have := points t; omega⟩
    ⟨(t.val / 3) * 1024 + (j 1).val, by have h0 : (j 1).val < 1024 := (j 1).isLt; have := points t; omega⟩

theorem loc_prev (h : ¬t.val % 3 = 0) (j : S1024x1024.Idx) : loc ⟨t.val - 1, by omega⟩ j = loc t j := by
  have e : (t.val - 1) / 3 = t.val / 3 := by omega
  simp only [loc, e]

/-- The row of the whole array that row `k` of point `t`'s blocks is. -/
def row (k : Fin 1408) : Fin 4224 := ⟨t.val % 3 * 1408 + k.val, by omega⟩

theorem entry_A (r : Fin 4224) (j : Fin 1024) : V m c main_v0 (ix2 r j) = A0 m c (ix2 r j) := by
  entry_read
  pointwise []

theorem blk0 (k : Fin 1408) (a : Fin 1024) (b : Fin 1024) :
    iblk m c 0 t (ix2 k a) = A0 m c (ix2 (row t k) (loc t (ix2 a b) 0)) := by
  refine Eq.trans ?_ (entry_A m c (row t k) _)
  blk_ext [iblk, idx_val t, row, loc]

theorem blk1 (k : Fin 1408) (a : Fin 1024) (b : Fin 1024) :
    iblk m c 1 t (ix2 k b) = A1 m c (ix2 (row t k) (col (loc t (ix2 a b) 1))) := by
  refine Eq.trans ?_ (entry_B m c (row t k) _)
  blk_ext [iblk, idx_val t, row, loc]

theorem pay_at (x : Vec Ideal S1408x1024 .bf16) (y : Vec Ideal S1408x1024 .bf16) (a : Fin 1024) (b : Fin 1024) :
    k0_pay1 x y (ix2 a b) = ∑ k, x (ix2 k a) * y (ix2 k b) := by
  pointwise [k0_pay1]

theorem pay_blk (a : Fin 1024) (b : Fin 1024) :
    k0_pay1 (iblk m c 0 t) (iblk m c 1 t) (ix2 a b) = third (term m c (loc t (ix2 a b))) ⟨t.val % 3, Nat.mod_lt _ (by decide)⟩ := by
  refine (pay_at ..).trans (Finset.sum_congr rfl fun k _ => ?_)
  exact congrArg₂ (· * ·) (blk0 m c t k a b) (blk1 m c t k a b)

theorem first (h : t.val % 3 = 0) (j : S1024x1024.Idx) :
    (outsAt0 m c t.val t.isLt).2 j = third (term m c (loc t j)) ⟨t.val % 3, Nat.mod_lt _ (by decide)⟩ := by
  rw [outsAt0_A m c t h (by omega) (by omega)]; dsimp only; frame_out
  obtain ⟨a, b, rfl⟩ := ix2_of j
  refine Eq.trans ?_ (pay_blk m c t a b)
  pointwise [k0_pay2]

theorem pay3_at (acc : Vec Ideal S1024x1024 .f32) (a : Fin 1024) (b : Fin 1024) :
    k0_pay3 (iblk m c 0 t) (iblk m c 1 t) acc (ix2 a b)
      = acc (ix2 a b) + third (term m c (loc t (ix2 a b))) ⟨t.val % 3, Nat.mod_lt _ (by decide)⟩ := by
  rw [← pay_blk]
  pointwise [k0_pay3]

theorem step (h : ¬t.val % 3 = 0) (j : S1024x1024.Idx) :
    (outsAt0 m c t.val t.isLt).2 j
      = (outsAt0 m c (t.val - 1) (Nat.lt_of_le_of_lt (Nat.sub_le _ _) t.isLt)).2 j
        + third (term m c (loc t j)) ⟨t.val % 3, Nat.mod_lt _ (by decide)⟩ := by
  obtain ⟨a, b, rfl⟩ := ix2_of j
  by_cases h2 : t.val % 3 = 2
  · rw [outsAt0_C m c t h (by omega) h2]; dsimp only; frame_out
    exact (pay3_at m c t _ a b).trans (congrArg (· + _) (congrFun (Memref.IsWhole.read_unread _ _) _))
  · rw [outsAt0_B m c t h (by omega) h2]; dsimp only; frame_out
    exact (pay3_at m c t _ a b).trans (congrArg (· + _) (congrFun (Memref.IsWhole.read_unread _ _) _))

theorem out_last (h : t.val % 3 = 2) (j : S1024x1024.Idx) :
    (outsAt0 m c t.val t.isLt).1 j = (outsAt0 m c t.val t.isLt).2 j := by
  obtain ⟨a, b, rfl⟩ := ix2_of j
  rw [outsAt0_C m c t (by omega) (by omega) h]; dsimp only; frame_out
  pointwise [k0_pay4]

theorem block_at (h : t.val % 3 = 2) (j : S1024x1024.Idx) :
    (outsAt0 m c t.val t.isLt).1 j = ∑ k, term m c (loc t j) k := by
  have e1 := step m c ⟨t.val - 1, by omega⟩ (show ¬(t.val - 1) % 3 = 0 by omega) j
  have e0 := first m c ⟨t.val - 1 - 1, by omega⟩ (show (t.val - 1 - 1) % 3 = 0 by omega) j
  have l1 := loc_prev t (by omega) j
  have l0 := loc_prev ⟨t.val - 1, by omega⟩ (show ¬(t.val - 1) % 3 = 0 by omega) j
  rw [out_last m c t h, step m c t (by omega), ← thirds]
  refine congrArg₂ (· + ·) (e1.trans (congrArg₂ (· + ·) (e0.trans ?_) ?_)) ?_
  · rw [l0, l1]; exact congrArg _ (Fin.ext (show (t.val - 1 - 1) % 3 = 0 by omega))
  · rw [l1]; exact congrArg _ (Fin.ext (show (t.val - 1) % 3 = 1 by omega))
  · exact congrArg _ (Fin.ext h)

end

theorem result_at (c : Dev nD) (i : S1024x4096.Idx) :
    Cert.Reference3Ideal.Read.val_main_v5 (F := Ideal) (A0 m c) (A1 m c) i = ∑ k, term m c i k := by
  obtain ⟨a, b, rfl⟩ := ix2_of i
  pointwise [Cert.Reference3Ideal.Read.val_main_v5, Cert.Reference3Ideal.Read.val_main_v4, Cert.Reference3Ideal.Read.val_main_v3, Cert.Reference3Ideal.Read.val_main_v2]
  exact Finset.sum_congr rfl fun k _ => mul_comm _ _

set_option maxHeartbeats 1600000 in
theorem final_2 (c : Dev nD) :
    (dats m 0 c).arrAt 2 (cfgs 0).N = Cert.Reference3Ideal.Read.val_main_v5 (F := Ideal) (A0 m c) (A1 m c) := by
  refine (dats m 0 c).arrAt_eq_of_covers 2 _ (by decide +kernel) fun t hf y => ?_
  blk_simp; rw [after0_2]
  have h : t.val % 3 = 2 := (flush0_2 t).mp hf
  obtain ⟨a, b, rfl⟩ := ix2_of y
  refine (block_at m c t h (ix2 a b)).trans ((result_at m c (loc t (ix2 a b))).symm.trans ?_)
  blk_ext [idx_val t, loc]

end Cert.Kernel3Ideal.Value
-- ==== Proof.Run4.lean ====
/-
  The reference's run with its results named.
-/
module

public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Reference4Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = Read.val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (Read.val_main_v7_eq _ _), (h c).2⟩)
    (Value.run m ρ)

end Cert.Reference4Ideal
-- ==== Proof.Final4.lean ====
/-
  The gradient of the input projection's state columns: the fourth kernel's array is the fourth reference's result.
-/
module

public import proofs.«01_k».proof.Proof.Thirds
public import proofs.«01_k».proof.Proof.Gen.Kernel4Ideal.Value
public import proofs.«01_k».proof.Proof.Gen.Reference4Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel4Ideal.Value

open Cert.Kernel4Ideal Cert.Kernel4Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference4Ideal.S4224x1024 .f32 := m ((c : Thread nD τ).loc main_arg0)
/-- Argument 1 of the program. -/
abbrev A1 (c : Dev nD) : FVec Ideal Cert.Reference4Ideal.S4224x7328 .f32 := m ((c : Thread nD τ).loc main_arg1)

/-- The column of the projection that packed column `j` is. -/
def col (j : Fin 2816) : Fin 7328 := ⟨if j.val < 512 then j.val else 416 + j.val, by split <;> omega⟩

/-- The terms of the sum that output element `i` is. -/
def term (c : Dev nD) (i : S1024x2816.Idx) (k : Fin 4224) : EReal := A0 m c (ix2 k (i 0)) * A1 m c (ix2 k (col (i 1)))

theorem cat_in {α : Type} (x : (⟨2, ![4224, 512]⟩ : Shape).Idx → α) (y : (⟨2, ![4224, 2304]⟩ : Shape).Idx → α) (h : Shape.Concatenates [⟨2, ![4224, 512]⟩, ⟨2, ![4224, 2304]⟩] ⟨2, ![4224, 2816]⟩ 1) (r : Fin 4224) (j : Fin 2816) :
    concatenate ⟨2, ![4224, 2816]⟩ 1 [⟨⟨2, ![4224, 512]⟩, x⟩, ⟨⟨2, ![4224, 2304]⟩, y⟩] h (ix2 r j)
      = if hj : j.val < 512 then x (ix2 r ⟨j.val, hj⟩) else y (ix2 r ⟨j.val - 512, by omega⟩) := by
  split
  next hj =>
    apply concatenate_apply_piece (t := ⟨2, ![4224, 2816]⟩) (k := 0) (pre := 0) (s₁ := ⟨2, ![4224, 512]⟩) (hr := rfl) (i := ix2 r ⟨j.val, hj⟩) (x₁ := x)
    · rfl
    · rfl
    · intro b hb
      fin_cases b
      · rfl
      · exact absurd rfl hb
    · exact Nat.zero_add _
    · exact (by decide : 0 < 2)
  next hj =>
    refine concatenate_apply_piece (t := ⟨2, ![4224, 2816]⟩) 1 [⟨⟨2, ![4224, 512]⟩, x⟩, ⟨⟨2, ![4224, 2304]⟩, y⟩] h (ix2 r j) 1 (Nat.lt_succ_self 1) ⟨2, ![4224, 2304]⟩ y rfl rfl 512 rfl (ix2 r ⟨j.val - 512, by omega⟩) ?_ ?_
    · intro b hb
      fin_cases b
      · rfl
      · exact absurd rfl hb
    · show 512 + (j.val - 512) = j.val
      omega

theorem cat_out {α : Type} (x : (⟨2, ![1024, 512]⟩ : Shape).Idx → α) (y : (⟨2, ![1024, 2304]⟩ : Shape).Idx → α) (h : Shape.Concatenates [⟨2, ![1024, 512]⟩, ⟨2, ![1024, 2304]⟩] ⟨2, ![1024, 2816]⟩ 1) (r : Fin 1024) (j : Fin 2816) :
    concatenate ⟨2, ![1024, 2816]⟩ 1 [⟨⟨2, ![1024, 512]⟩, x⟩, ⟨⟨2, ![1024, 2304]⟩, y⟩] h (ix2 r j)
      = if hj : j.val < 512 then x (ix2 r ⟨j.val, hj⟩) else y (ix2 r ⟨j.val - 512, by omega⟩) := by
  split
  next hj =>
    apply concatenate_apply_piece (t := ⟨2, ![1024, 2816]⟩) (k := 0) (pre := 0) (s₁ := ⟨2, ![1024, 512]⟩) (hr := rfl) (i := ix2 r ⟨j.val, hj⟩) (x₁ := x)
    · rfl
    · rfl
    · intro b hb
      fin_cases b
      · rfl
      · exact absurd rfl hb
    · exact Nat.zero_add _
    · exact (by decide : 0 < 2)
  next hj =>
    refine concatenate_apply_piece (t := ⟨2, ![1024, 2816]⟩) 1 [⟨⟨2, ![1024, 512]⟩, x⟩, ⟨⟨2, ![1024, 2304]⟩, y⟩] h (ix2 r j) 1 (Nat.lt_succ_self 1) ⟨2, ![1024, 2304]⟩ y rfl rfl 512 rfl (ix2 r ⟨j.val - 512, by omega⟩) ?_ ?_
    · intro b hb
      fin_cases b
      · rfl
      · exact absurd rfl hb
    · show 512 + (j.val - 512) = j.val
      omega

theorem entry_B (c : Dev nD) (r : Fin 4224) (j : Fin 2816) : V m c main_v4 (ix2 r j) = A1 m c (ix2 r (col j)) := by
  entry_read
  have e := cat_in (α := EReal) (extractStridedSlice S4224x512 ![0, 0] (A1 m c) slices_S4224x7328_S4224x512_0_0)
    (extractStridedSlice S4224x2304 ![0, 928] (A1 m c) slices_S4224x7328_S4224x2304_0_928) concatenates_S4224x512_S4224x2304_S4224x2816_d1 r j
  refine Eq.trans (show _ = _ from e) ?_
  by_cases hj : j.val < 512
  · rw [dif_pos hj, show col j = ⟨j.val, by omega⟩ from Fin.ext (if_pos hj)]
    pointwise []
  · rw [dif_neg hj, show col j = ⟨928 + (⟨j.val - 512, by omega⟩ : Fin 2304).val, by omega⟩ from Fin.ext ((if_neg hj).trans (by show 416 + j.val = 928 + (j.val - 512); omega))]
    pointwise []

theorem idx_val : ∀ t : Fin cfg0.N, win0_0.index t = ![t.val % 3, 0] ∧ win0_1.index t = ![t.val % 3, t.val / 3]
    ∧ win0_2.index t = ![0, t.val / 3] :=
  (by decide +kernel : ∀ t : Fin grid0.N, _)

section
variable (c : Dev nD) (t : Fin cfg0.N)

theorem points : t.val < 6 := lt_of_lt_of_eq t.isLt N_0

/-- The element of the whole array that element `j` of point `t`'s block is. -/
def loc (j : S1024x1408.Idx) : S1024x2816.Idx :=
  ix2 ⟨(0) * 1024 + (j 0).val, by have h0 : (j 0).val < 1024 := (j 0).isLt; have := points t; omega⟩
    ⟨(t.val / 3) * 1408 + (j 1).val, by have h0 : (j 1).val < 1408 := (j 1).isLt; have := points t; omega⟩

theorem loc_prev (h : ¬t.val % 3 = 0) (j : S1024x1408.Idx) : loc ⟨t.val - 1, by omega⟩ j = loc t j := by
  have e : (t.val - 1) / 3 = t.val / 3 := by omega
  simp only [loc, e]

/-- The row of the whole array that row `k` of point `t`'s blocks is. -/
def row (k : Fin 1408) : Fin 4224 := ⟨t.val % 3 * 1408 + k.val, by omega⟩

theorem entry_A (r : Fin 4224) (j : Fin 1024) : V m c main_v3 (ix2 r j) = A0 m c (ix2 r j) := by
  entry_read
  pointwise []

theorem blk0 (k : Fin 1408) (a : Fin 1024) (b : Fin 1408) :
    iblk m c 0 t (ix2 k a) = A0 m c (ix2 (row t k) (loc t (ix2 a b) 0)) := by
  refine Eq.trans ?_ (entry_A m c (row t k) _)
  blk_ext [iblk, idx_val t, row, loc]

theorem blk1 (k : Fin 1408) (a : Fin 1024) (b : Fin 1408) :
    iblk m c 1 t (ix2 k b) = A1 m c (ix2 (row t k) (col (loc t (ix2 a b) 1))) := by
  refine Eq.trans ?_ (entry_B m c (row t k) _)
  blk_ext [iblk, idx_val t, row, loc]

theorem pay_at (x : Vec Ideal S1408x1024 .bf16) (y : Vec Ideal S1408x1408 .bf16) (a : Fin 1024) (b : Fin 1408) :
    k0_pay1 x y (ix2 a b) = ∑ k, x (ix2 k a) * y (ix2 k b) := by
  pointwise [k0_pay1]

theorem pay_blk (a : Fin 1024) (b : Fin 1408) :
    k0_pay1 (iblk m c 0 t) (iblk m c 1 t) (ix2 a b) = third (term m c (loc t (ix2 a b))) ⟨t.val % 3, Nat.mod_lt _ (by decide)⟩ := by
  refine (pay_at ..).trans (Finset.sum_congr rfl fun k _ => ?_)
  exact congrArg₂ (· * ·) (blk0 m c t k a b) (blk1 m c t k a b)

theorem first (h : t.val % 3 = 0) (j : S1024x1408.Idx) :
    (outsAt0 m c t.val t.isLt).2 j = third (term m c (loc t j)) ⟨t.val % 3, Nat.mod_lt _ (by decide)⟩ := by
  rw [outsAt0_A m c t h (by omega) (by omega)]; dsimp only; frame_out
  obtain ⟨a, b, rfl⟩ := ix2_of j
  refine Eq.trans ?_ (pay_blk m c t a b)
  pointwise [k0_pay2]

theorem pay3_at (acc : Vec Ideal S1024x1408 .f32) (a : Fin 1024) (b : Fin 1408) :
    k0_pay3 (iblk m c 0 t) (iblk m c 1 t) acc (ix2 a b)
      = acc (ix2 a b) + third (term m c (loc t (ix2 a b))) ⟨t.val % 3, Nat.mod_lt _ (by decide)⟩ := by
  rw [← pay_blk]
  pointwise [k0_pay3]

theorem step (h : ¬t.val % 3 = 0) (j : S1024x1408.Idx) :
    (outsAt0 m c t.val t.isLt).2 j
      = (outsAt0 m c (t.val - 1) (Nat.lt_of_le_of_lt (Nat.sub_le _ _) t.isLt)).2 j
        + third (term m c (loc t j)) ⟨t.val % 3, Nat.mod_lt _ (by decide)⟩ := by
  obtain ⟨a, b, rfl⟩ := ix2_of j
  by_cases h2 : t.val % 3 = 2
  · rw [outsAt0_C m c t h (by omega) h2]; dsimp only; frame_out
    exact (pay3_at m c t _ a b).trans (congrArg (· + _) (congrFun (Memref.IsWhole.read_unread _ _) _))
  · rw [outsAt0_B m c t h (by omega) h2]; dsimp only; frame_out
    exact (pay3_at m c t _ a b).trans (congrArg (· + _) (congrFun (Memref.IsWhole.read_unread _ _) _))

theorem out_last (h : t.val % 3 = 2) (j : S1024x1408.Idx) :
    (outsAt0 m c t.val t.isLt).1 j = (outsAt0 m c t.val t.isLt).2 j := by
  obtain ⟨a, b, rfl⟩ := ix2_of j
  rw [outsAt0_C m c t (by omega) (by omega) h]; dsimp only; frame_out
  pointwise [k0_pay4]

theorem block_at (h : t.val % 3 = 2) (j : S1024x1408.Idx) :
    (outsAt0 m c t.val t.isLt).1 j = ∑ k, term m c (loc t j) k := by
  have e1 := step m c ⟨t.val - 1, by omega⟩ (show ¬(t.val - 1) % 3 = 0 by omega) j
  have e0 := first m c ⟨t.val - 1 - 1, by omega⟩ (show (t.val - 1 - 1) % 3 = 0 by omega) j
  have l1 := loc_prev t (by omega) j
  have l0 := loc_prev ⟨t.val - 1, by omega⟩ (show ¬(t.val - 1) % 3 = 0 by omega) j
  rw [out_last m c t h, step m c t (by omega), ← thirds]
  refine congrArg₂ (· + ·) (e1.trans (congrArg₂ (· + ·) (e0.trans ?_) ?_)) ?_
  · rw [l0, l1]; exact congrArg _ (Fin.ext (show (t.val - 1 - 1) % 3 = 0 by omega))
  · rw [l1]; exact congrArg _ (Fin.ext (show (t.val - 1) % 3 = 1 by omega))
  · exact congrArg _ (Fin.ext h)

end

theorem result_at (c : Dev nD) (i : S1024x2816.Idx) :
    Cert.Reference4Ideal.Read.val_main_v7 (F := Ideal) (A0 m c) (A1 m c) i = ∑ k, term m c i k := by
  obtain ⟨a, b, rfl⟩ := ix2_of i
  have e := cat_out (α := EReal) (Cert.Reference4Ideal.Read.val_main_v4 (F := Ideal) (A0 m c) (A1 m c))
    (Cert.Reference4Ideal.Read.val_main_v5 (F := Ideal) (A0 m c) (A1 m c)) Cert.Reference4Ideal.Facts₀.concatenates_S1024x512_S1024x2304_S1024x2816_d1 a b
  refine Eq.trans e ?_
  by_cases hj : b.val < 512
  · rw [dif_pos hj]
    refine Eq.trans ?_ (Finset.sum_congr rfl fun k _ => congrArg (fun q : Fin 7328 => A0 m c (ix2 k a) * A1 m c (ix2 k q)) (show (⟨b.val, by omega⟩ : Fin 7328) = col b from Fin.ext (if_pos hj).symm))
    pointwise [Cert.Reference4Ideal.Read.val_main_v4, Cert.Reference4Ideal.Read.val_main_v3, Cert.Reference4Ideal.Read.val_main_v2]
    exact Finset.sum_congr rfl fun k _ => mul_comm _ _
  · rw [dif_neg hj]
    refine Eq.trans ?_ (Finset.sum_congr rfl fun k _ => congrArg (fun q : Fin 7328 => A0 m c (ix2 k a) * A1 m c (ix2 k q)) (show (⟨928 + (⟨b.val - 512, by omega⟩ : Fin 2304).val, by omega⟩ : Fin 7328) = col b from Fin.ext ((if_neg hj).trans (by show 416 + b.val = 928 + (b.val - 512); omega)).symm))
    pointwise [Cert.Reference4Ideal.Read.val_main_v5, Cert.Reference4Ideal.Read.val_main_v3, Cert.Reference4Ideal.Read.val_main_v2]
    exact Finset.sum_congr rfl fun k _ => mul_comm _ _

set_option maxHeartbeats 1600000 in
theorem final_2 (c : Dev nD) :
    (dats m 0 c).arrAt 2 (cfgs 0).N = Cert.Reference4Ideal.Read.val_main_v7 (F := Ideal) (A0 m c) (A1 m c) := by
  refine (dats m 0 c).arrAt_eq_of_covers 2 _ (by decide +kernel) fun t hf y => ?_
  blk_simp; rw [after0_2]
  have h : t.val % 3 = 2 := (flush0_2 t).mp hf
  obtain ⟨a, b, rfl⟩ := ix2_of y
  refine (block_at m c t h (ix2 a b)).trans ((result_at m c (loc t (ix2 a b))).symm.trans ?_)
  blk_ext [idx_val t, loc]

end Cert.Kernel4Ideal.Value
-- ==== Proof.Run5.lean ====
/-
  The reference's run with its results named.
-/
module

public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Reference5Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
        = Read.val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans (Read.val_main_v21_eq _ _ _ _ _), (h c).2⟩)
    (Value.run m ρ)

end Cert.Reference5Ideal
-- ==== Proof.Final5.lean ====
/-
  The gradient of the branches' output weights: the fifth kernel's array is the fifth reference's result.
-/
module

public import proofs.«01_k».proof.Proof.Thirds
public import proofs.«01_k».proof.Proof.Gen.Kernel5Ideal.Value
public import proofs.«01_k».proof.Proof.Gen.Reference5Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel5Ideal.Value

open Cert.Kernel5Ideal Cert.Kernel5Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference5Ideal.S4224x256 .f32 := m ((c : Thread nD τ).loc main_arg0)
/-- Argument 1 of the program. -/
abbrev A1 (c : Dev nD) : FVec Ideal Cert.Reference5Ideal.S4224x512 .f32 := m ((c : Thread nD τ).loc main_arg1)
/-- Argument 2 of the program. -/
abbrev A2 (c : Dev nD) : FVec Ideal Cert.Reference5Ideal.S4224x256 .f32 := m ((c : Thread nD τ).loc main_arg2)
/-- Argument 3 of the program. -/
abbrev A3 (c : Dev nD) : FVec Ideal Cert.Reference5Ideal.S4224x256 .f32 := m ((c : Thread nD τ).loc main_arg3)
/-- Argument 4 of the program. -/
abbrev A4 (c : Dev nD) : FVec Ideal Cert.Reference5Ideal.S4224x4096 .f32 := m ((c : Thread nD τ).loc main_arg4)

/-- The column of the branches' gradients that goes with element `i` of the packed weights: the columns of the branch its row is of. -/
def col (i : S1280x1024.Idx) : Fin 4096 :=
  ⟨(if (i 0).val < 256 then 0 else if (i 0).val < 768 then 1024 else if (i 0).val < 1024 then 2048 else 3072) + (i 1).val, by
    have h1 : (i 1).val < 1024 := (i 1).isLt
    split_ifs <;> omega⟩

/-- The terms of the sum that output element `i` is. -/
def term (c : Dev nD) (i : S1280x1024.Idx) (k : Fin 4224) : EReal :=
  (show EReal from V m c main_v1 (ix2 k (⟨(i 0).val, (i 0).isLt⟩ : Fin 1280))) * A4 m c (ix2 k (col i))

theorem idx_val : ∀ t : Fin cfg0.N, win0_0.index t = ![t.val % 3, 0] ∧ win0_1.index t = ![t.val % 3, 0] ∧ win0_2.index t = ![0, 0] :=
  (by decide +kernel : ∀ t : Fin grid0.N, _)

section
variable (c : Dev nD) (t : Fin cfg0.N)

theorem points : t.val < 3 := lt_of_lt_of_eq t.isLt N_0

/-- The row of the whole array that row `k` of point `t`'s blocks is. -/
def row (k : Fin 1408) : Fin 4224 := ⟨t.val % 3 * 1408 + k.val, by omega⟩

theorem entry_dy (r : Fin 4224) (j : Fin 4096) : V m c main_v2 (ix2 r j) = A4 m c (ix2 r j) := by
  entry_read
  pointwise []

theorem blk0 (k : Fin 1408) (a : Fin 1280) : iblk m c 0 t (ix2 k a) = V m c main_v1 (ix2 (row t k) a) := by
  blk_ext [iblk, idx_val t, row]

theorem blk1 (k : Fin 1408) (b : Fin 4096) : iblk m c 1 t (ix2 k b) = A4 m c (ix2 (row t k) b) := by
  refine Eq.trans ?_ (entry_dy m c (row t k) b)
  blk_ext [iblk, idx_val t, row]

theorem prod0_at (x : Vec Ideal S1408x256 .bf16) (y : Vec Ideal S1408x1024 .bf16) (a : Fin 256) (b : Fin 1024) :
    k0_pay7 x y (ix2 a b) = ∑ k, x (ix2 k a) * y (ix2 k b) := by
  pointwise [k0_pay7]

/-- Branch 0's product at a point: a third of the sum. -/
theorem part0 (hu hy) (a : Fin 256) (b : Fin 1024) (i : S1280x1024.Idx) (h0 : (i 0).val = 0 + a.val) (h1 : (i 1).val = b.val) :
    k0_pay7 (View.ld (S := S1408x1280) (iblk m c 0 t) (Rect.unit ![0, 0] ![1408, 256] hu))
      (View.ld (S := S1408x4096) (iblk m c 1 t) (Rect.unit ![0, 0] ![1408, 1024] hy)) (ix2 a b)
      = third (term m c i) ⟨t.val % 3, Nat.mod_lt _ (by decide)⟩ := by
  refine (prod0_at ..).trans (Finset.sum_congr rfl fun k _ => congrArg₂ (· * ·) ?_ ?_)
  · refine Eq.trans ?_ ((blk0 m c t k ⟨0 + a.val, by omega⟩).trans ?_)
    · exact View.ld_unit_apply_of _ _ _ _ _ _ (fun i => by fin_cases i <;> simp)
    · rw [show (⟨0 + a.val, by omega⟩ : Fin 1280) = ⟨(i 0).val, (i 0).isLt⟩ from Fin.ext h0.symm]
      rfl
  · refine Eq.trans ?_ ((blk1 m c t k ⟨0 + b.val, by omega⟩).trans ?_)
    · exact View.ld_unit_apply_of _ _ _ _ _ _ (fun i => by fin_cases i <;> simp)
    · rw [show (⟨0 + b.val, by omega⟩ : Fin 4096) = col i from Fin.ext (congrArg₂ (· + ·) (if_pos (by omega) : (if (i 0).val < 256 then 0 else if (i 0).val < 768 then 1024 else if (i 0).val < 1024 then 2048 else 3072) = 0).symm h1.symm)]
      rfl

theorem first0_at (x : Vec Ideal S1408x256 .bf16) (y : Vec Ideal S1408x1024 .bf16) (a : Fin 256) (b : Fin 1024) :
    k0_pay8 x y (ix2 a b) = k0_pay7 x y (ix2 a b) := by
  pointwise [k0_pay8]

theorem acc0_at (x : Vec Ideal S1408x256 .bf16) (y : Vec Ideal S1408x1024 .bf16) (acc : FVec Ideal S256x1024 .f32) (a : Fin 256) (b : Fin 1024) :
    k0_pay9 x y acc (ix2 a b) = acc (ix2 a b) + k0_pay7 x y (ix2 a b) := by
  pointwise [k0_pay9]

theorem prod1_at (x : Vec Ideal S1408x512 .bf16) (y : Vec Ideal S1408x1024 .bf16) (a : Fin 512) (b : Fin 1024) :
    k0_pay10 x y (ix2 a b) = ∑ k, x (ix2 k a) * y (ix2 k b) := by
  pointwise [k0_pay10]

/-- Branch 1's product at a point: a third of the sum. -/
theorem part1 (hu hy) (a : Fin 512) (b : Fin 1024) (i : S1280x1024.Idx) (h0 : (i 0).val = 256 + a.val) (h1 : (i 1).val = b.val) :
    k0_pay10 (View.ld (S := S1408x1280) (iblk m c 0 t) (Rect.unit ![0, 256] ![1408, 512] hu))
      (View.ld (S := S1408x4096) (iblk m c 1 t) (Rect.unit ![0, 1024] ![1408, 1024] hy)) (ix2 a b)
      = third (term m c i) ⟨t.val % 3, Nat.mod_lt _ (by decide)⟩ := by
  refine (prod1_at ..).trans (Finset.sum_congr rfl fun k _ => congrArg₂ (· * ·) ?_ ?_)
  · refine Eq.trans ?_ ((blk0 m c t k ⟨256 + a.val, by omega⟩).trans ?_)
    · exact View.ld_unit_apply_of _ _ _ _ _ _ (fun i => by fin_cases i <;> simp)
    · rw [show (⟨256 + a.val, by omega⟩ : Fin 1280) = ⟨(i 0).val, (i 0).isLt⟩ from Fin.ext h0.symm]
      rfl
  · refine Eq.trans ?_ ((blk1 m c t k ⟨1024 + b.val, by omega⟩).trans ?_)
    · exact View.ld_unit_apply_of _ _ _ _ _ _ (fun i => by fin_cases i <;> simp)
    · rw [show (⟨1024 + b.val, by omega⟩ : Fin 4096) = col i from Fin.ext (congrArg₂ (· + ·) ((if_neg (by omega)).trans (if_pos (by omega)) : (if (i 0).val < 256 then 0 else if (i 0).val < 768 then 1024 else if (i 0).val < 1024 then 2048 else 3072) = 1024).symm h1.symm)]
      rfl

theorem first1_at (x : Vec Ideal S1408x512 .bf16) (y : Vec Ideal S1408x1024 .bf16) (a : Fin 512) (b : Fin 1024) :
    k0_pay11 x y (ix2 a b) = k0_pay10 x y (ix2 a b) := by
  pointwise [k0_pay11]

theorem acc1_at (x : Vec Ideal S1408x512 .bf16) (y : Vec Ideal S1408x1024 .bf16) (acc : FVec Ideal S512x1024 .f32) (a : Fin 512) (b : Fin 1024) :
    k0_pay12 x y acc (ix2 a b) = acc (ix2 a b) + k0_pay10 x y (ix2 a b) := by
  pointwise [k0_pay12]

theorem prod2_at (x : Vec Ideal S1408x256 .bf16) (y : Vec Ideal S1408x1024 .bf16) (a : Fin 256) (b : Fin 1024) :
    k0_pay13 x y (ix2 a b) = ∑ k, x (ix2 k a) * y (ix2 k b) := by
  pointwise [k0_pay13]

/-- Branch 2's product at a point: a third of the sum. -/
theorem part2 (hu hy) (a : Fin 256) (b : Fin 1024) (i : S1280x1024.Idx) (h0 : (i 0).val = 768 + a.val) (h1 : (i 1).val = b.val) :
    k0_pay13 (View.ld (S := S1408x1280) (iblk m c 0 t) (Rect.unit ![0, 768] ![1408, 256] hu))
      (View.ld (S := S1408x4096) (iblk m c 1 t) (Rect.unit ![0, 2048] ![1408, 1024] hy)) (ix2 a b)
      = third (term m c i) ⟨t.val % 3, Nat.mod_lt _ (by decide)⟩ := by
  refine (prod2_at ..).trans (Finset.sum_congr rfl fun k _ => congrArg₂ (· * ·) ?_ ?_)
  · refine Eq.trans ?_ ((blk0 m c t k ⟨768 + a.val, by omega⟩).trans ?_)
    · exact View.ld_unit_apply_of _ _ _ _ _ _ (fun i => by fin_cases i <;> simp)
    · rw [show (⟨768 + a.val, by omega⟩ : Fin 1280) = ⟨(i 0).val, (i 0).isLt⟩ from Fin.ext h0.symm]
      rfl
  · refine Eq.trans ?_ ((blk1 m c t k ⟨2048 + b.val, by omega⟩).trans ?_)
    · exact View.ld_unit_apply_of _ _ _ _ _ _ (fun i => by fin_cases i <;> simp)
    · rw [show (⟨2048 + b.val, by omega⟩ : Fin 4096) = col i from Fin.ext (congrArg₂ (· + ·) ((if_neg (by omega)).trans ((if_neg (by omega)).trans (if_pos (by omega))) : (if (i 0).val < 256 then 0 else if (i 0).val < 768 then 1024 else if (i 0).val < 1024 then 2048 else 3072) = 2048).symm h1.symm)]
      rfl

theorem first2_at (x : FVec Ideal S256x1024 .f32) (a : Fin 256) (b : Fin 1024) : k0_pay1 x (ix2 a b) = x (ix2 a b) := by
  pointwise [k0_pay1]

theorem acc2_at (x acc : FVec Ideal S256x1024 .f32) (a : Fin 256) (b : Fin 1024) : k0_pay2 x acc (ix2 a b) = acc (ix2 a b) + x (ix2 a b) := by
  pointwise [k0_pay2]

theorem prod3_at (x : Vec Ideal S1408x256 .bf16) (y : Vec Ideal S1408x1024 .bf16) (a : Fin 256) (b : Fin 1024) :
    k0_pay3 x y (ix2 a b) = ∑ k, x (ix2 k a) * y (ix2 k b) := by
  pointwise [k0_pay3]

/-- Branch 3's product at a point: a third of the sum. -/
theorem part3 (hu hy) (a : Fin 256) (b : Fin 1024) (i : S1280x1024.Idx) (h0 : (i 0).val = 1024 + a.val) (h1 : (i 1).val = b.val) :
    k0_pay3 (View.ld (S := S1408x1280) (iblk m c 0 t) (Rect.unit ![0, 1024] ![1408, 256] hu))
      (View.ld (S := S1408x4096) (iblk m c 1 t) (Rect.unit ![0, 3072] ![1408, 1024] hy)) (ix2 a b)
      = third (term m c i) ⟨t.val % 3, Nat.mod_lt _ (by decide)⟩ := by
  refine (prod3_at ..).trans (Finset.sum_congr rfl fun k _ => congrArg₂ (· * ·) ?_ ?_)
  · refine Eq.trans ?_ ((blk0 m c t k ⟨1024 + a.val, by omega⟩).trans ?_)
    · exact View.ld_unit_apply_of _ _ _ _ _ _ (fun i => by fin_cases i <;> simp)
    · rw [show (⟨1024 + a.val, by omega⟩ : Fin 1280) = ⟨(i 0).val, (i 0).isLt⟩ from Fin.ext h0.symm]
      rfl
  · refine Eq.trans ?_ ((blk1 m c t k ⟨3072 + b.val, by omega⟩).trans ?_)
    · exact View.ld_unit_apply_of _ _ _ _ _ _ (fun i => by fin_cases i <;> simp)
    · rw [show (⟨3072 + b.val, by omega⟩ : Fin 4096) = col i from Fin.ext (congrArg₂ (· + ·) ((if_neg (by omega)).trans ((if_neg (by omega)).trans (if_neg (by omega))) : (if (i 0).val < 256 then 0 else if (i 0).val < 768 then 1024 else if (i 0).val < 1024 then 2048 else 3072) = 3072).symm h1.symm)]
      rfl

theorem first3_at (x : Vec Ideal S1408x256 .bf16) (y : Vec Ideal S1408x1024 .bf16) (a : Fin 256) (b : Fin 1024) :
    k0_pay4 x y (ix2 a b) = k0_pay3 x y (ix2 a b) := by
  pointwise [k0_pay4]

theorem acc3_at (x : Vec Ideal S1408x256 .bf16) (y : Vec Ideal S1408x1024 .bf16) (acc : FVec Ideal S256x1024 .f32) (a : Fin 256) (b : Fin 1024) :
    k0_pay5 x y acc (ix2 a b) = acc (ix2 a b) + k0_pay3 x y (ix2 a b) := by
  pointwise [k0_pay5]

set_option maxHeartbeats 1600000 in
theorem first (h : t.val % 3 = 0) (j : S1280x1024.Idx) :
    (outsAt0 m c t.val t.isLt).2 j = third (term m c j) ⟨t.val % 3, Nat.mod_lt _ (by decide)⟩ := by
  have := points t
  rw [outsAt0_A m c t h (by omega) (by omega) (by omega) (by omega) (by omega) (by omega) (by omega) (by omega)]; dsimp only; frame_out
  canon_tiles x h0 using View.cover_of_tiledBy _ ![256, 1024] (by sl_kernel_rfl) _
  · obtain ⟨a, b, rfl⟩ := ix2_of x
    exact (first3_at ..).trans (part3 m c t _ _ a b j (by simp_all) (by simp_all))
  · obtain ⟨a, b, rfl⟩ := ix2_of x
    exact (first2_at ..).trans (part2 m c t _ _ a b j (by simp_all) (by simp_all))
  · obtain ⟨a, b, rfl⟩ := ix2_of x
    exact (first1_at ..).trans (part1 m c t _ _ a b j (by simp_all) (by simp_all))
  · obtain ⟨a, b, rfl⟩ := ix2_of x
    exact (first0_at ..).trans (part0 m c t _ _ a b j (by simp_all) (by simp_all))

set_option maxHeartbeats 3200000 in
theorem step (h : ¬t.val % 3 = 0) (j : S1280x1024.Idx) :
    (outsAt0 m c t.val t.isLt).2 j
      = (outsAt0 m c (t.val - 1) (Nat.lt_of_le_of_lt (Nat.sub_le _ _) t.isLt)).2 j
        + third (term m c j) ⟨t.val % 3, Nat.mod_lt _ (by decide)⟩ := by
  have := points t
  by_cases h2 : t.val % 3 = 2
  · rw [outsAt0_C m c t (by omega) (by omega) (by omega) (by omega) (by omega) (by omega) (by omega) (by omega) h2]; dsimp only; frame_out
    canon_tiles x h0 using View.cover_of_tiledBy _ ![256, 1024] (by sl_kernel_rfl) _
    · obtain ⟨a, b, rfl⟩ := ix2_of x
      refine (acc3_at ..).trans (congrArg₂ (· + ·) ?_ (part3 m c t _ _ a b j (by simp_all) (by simp_all)))
      refine (View.ld_unit_apply_of _ _ _ _ _ j fun i => by fin_cases i <;> simp_all).trans ?_
      exact congrFun (Memref.IsWhole.read_unread _ _) _
    · obtain ⟨a, b, rfl⟩ := ix2_of x
      refine (acc2_at ..).trans (congrArg₂ (· + ·) ?_ (part2 m c t _ _ a b j (by simp_all) (by simp_all)))
      refine (View.ld_unit_apply_of _ _ _ _ _ j fun i => by fin_cases i <;> simp_all).trans ?_
      exact congrFun (Memref.IsWhole.read_unread _ _) _
    · obtain ⟨a, b, rfl⟩ := ix2_of x
      refine (acc1_at ..).trans (congrArg₂ (· + ·) ?_ (part1 m c t _ _ a b j (by simp_all) (by simp_all)))
      refine (View.ld_unit_apply_of _ _ _ _ _ j fun i => by fin_cases i <;> simp_all).trans ?_
      exact congrFun (Memref.IsWhole.read_unread _ _) _
    · obtain ⟨a, b, rfl⟩ := ix2_of x
      refine (acc0_at ..).trans (congrArg₂ (· + ·) ?_ (part0 m c t _ _ a b j (by simp_all) (by simp_all)))
      refine (View.ld_unit_apply_of _ _ _ _ _ j fun i => by fin_cases i <;> simp_all).trans ?_
      exact congrFun (Memref.IsWhole.read_unread _ _) _
  · rw [outsAt0_B m c t (by omega) (by omega) (by omega) (by omega) (by omega) (by omega) (by omega) (by omega) h2]; dsimp only; frame_out
    canon_tiles x h0 using View.cover_of_tiledBy _ ![256, 1024] (by sl_kernel_rfl) _
    · obtain ⟨a, b, rfl⟩ := ix2_of x
      refine (acc3_at ..).trans (congrArg₂ (· + ·) ?_ (part3 m c t _ _ a b j (by simp_all) (by simp_all)))
      refine (View.ld_unit_apply_of _ _ _ _ _ j fun i => by fin_cases i <;> simp_all).trans ?_
      exact congrFun (Memref.IsWhole.read_unread _ _) _
    · obtain ⟨a, b, rfl⟩ := ix2_of x
      refine (acc2_at ..).trans (congrArg₂ (· + ·) ?_ (part2 m c t _ _ a b j (by simp_all) (by simp_all)))
      refine (View.ld_unit_apply_of _ _ _ _ _ j fun i => by fin_cases i <;> simp_all).trans ?_
      exact congrFun (Memref.IsWhole.read_unread _ _) _
    · obtain ⟨a, b, rfl⟩ := ix2_of x
      refine (acc1_at ..).trans (congrArg₂ (· + ·) ?_ (part1 m c t _ _ a b j (by simp_all) (by simp_all)))
      refine (View.ld_unit_apply_of _ _ _ _ _ j fun i => by fin_cases i <;> simp_all).trans ?_
      exact congrFun (Memref.IsWhole.read_unread _ _) _
    · obtain ⟨a, b, rfl⟩ := ix2_of x
      refine (acc0_at ..).trans (congrArg₂ (· + ·) ?_ (part0 m c t _ _ a b j (by simp_all) (by simp_all)))
      refine (View.ld_unit_apply_of _ _ _ _ _ j fun i => by fin_cases i <;> simp_all).trans ?_
      exact congrFun (Memref.IsWhole.read_unread _ _) _

theorem last_at (L : List (View.Piece (Elt Ideal) S1280x1024 .f32)) (h) (j : S1280x1024.Idx) :
    k0_pay6 ((View.whole cc0_scratch0).readCov L (Rect.unit (s := S1280x1024) ![0, 0] ![1280, 1024] h).toLoadRect) j = View.canon L j := by
  rw [View.readCov_eq_canon']
  exact congrArg (View.canon L) (funext fun a => by fin_cases a <;> exact Fin.ext (by simp))

theorem out_last (h : t.val % 3 = 2) (j : S1280x1024.Idx) :
    (outsAt0 m c t.val t.isLt).1 j = (outsAt0 m c t.val t.isLt).2 j := by
  have := points t
  rw [outsAt0_C m c t (by omega) (by omega) (by omega) (by omega) (by omega) (by omega) (by omega) (by omega) h]; dsimp only; frame_out
  exact last_at _ _ j

theorem block_at (h : t.val % 3 = 2) (j : S1280x1024.Idx) :
    (outsAt0 m c t.val t.isLt).1 j = ∑ k, term m c j k := by
  have e1 := step m c ⟨t.val - 1, by omega⟩ (show ¬(t.val - 1) % 3 = 0 by omega) j
  have e0 := first m c ⟨t.val - 1 - 1, by omega⟩ (show (t.val - 1 - 1) % 3 = 0 by omega) j
  rw [out_last m c t h, step m c t (by omega), ← thirds]
  refine congrArg₂ (· + ·) (e1.trans (congrArg₂ (· + ·) (e0.trans ?_) ?_)) ?_
  · exact congrArg _ (Fin.ext (show (t.val - 1 - 1) % 3 = 0 by omega))
  · exact congrArg _ (Fin.ext (show (t.val - 1) % 3 = 1 by omega))
  · exact congrArg _ (Fin.ext h)

end

theorem cats (c : Dev nD) (r : Fin 4224) (j : Fin 1280) :
    V m c main_v1 (ix2 r j) = concatenate (α := EReal) S4224x1280 1 [⟨S4224x256, A0 m c⟩, ⟨S4224x512, A1 m c⟩, ⟨S4224x256, A2 m c⟩, ⟨S4224x256, A3 m c⟩]
      concatenates_S4224x256_S4224x512_S4224x256_S4224x256_S4224x1280_d1 (ix2 r j) := by
  entry_read
  rfl

theorem entry_u0 (c : Dev nD) (r : Fin 4224) (j : Fin 256) : V m c main_v1 (ix2 r (⟨0 + j.val, by omega⟩ : Fin 1280)) = A0 m c (ix2 r j) := by
  refine (cats m c r _).trans ?_
  refine concatenate_apply_piece (α := EReal) (t := S4224x1280) 1 [⟨S4224x256, A0 m c⟩, ⟨S4224x512, A1 m c⟩, ⟨S4224x256, A2 m c⟩, ⟨S4224x256, A3 m c⟩]
    concatenates_S4224x256_S4224x512_S4224x256_S4224x256_S4224x1280_d1 (ix2 r ⟨0 + j.val, by omega⟩) 0 (by show 0 < 4; decide) S4224x256 (A0 m c) rfl rfl 0 rfl (ix2 r j) ?_ ?_
  · intro b hb
    fin_cases b
    · rfl
    · exact absurd rfl hb
  · rfl

theorem entry_u1 (c : Dev nD) (r : Fin 4224) (j : Fin 512) : V m c main_v1 (ix2 r (⟨256 + j.val, by omega⟩ : Fin 1280)) = A1 m c (ix2 r j) := by
  refine (cats m c r _).trans ?_
  refine concatenate_apply_piece (α := EReal) (t := S4224x1280) 1 [⟨S4224x256, A0 m c⟩, ⟨S4224x512, A1 m c⟩, ⟨S4224x256, A2 m c⟩, ⟨S4224x256, A3 m c⟩]
    concatenates_S4224x256_S4224x512_S4224x256_S4224x256_S4224x1280_d1 (ix2 r ⟨256 + j.val, by omega⟩) 1 (by show 1 < 4; decide) S4224x512 (A1 m c) rfl rfl 256 rfl (ix2 r j) ?_ ?_
  · intro b hb
    fin_cases b
    · rfl
    · exact absurd rfl hb
  · rfl

theorem entry_u2 (c : Dev nD) (r : Fin 4224) (j : Fin 256) : V m c main_v1 (ix2 r (⟨768 + j.val, by omega⟩ : Fin 1280)) = A2 m c (ix2 r j) := by
  refine (cats m c r _).trans ?_
  refine concatenate_apply_piece (α := EReal) (t := S4224x1280) 1 [⟨S4224x256, A0 m c⟩, ⟨S4224x512, A1 m c⟩, ⟨S4224x256, A2 m c⟩, ⟨S4224x256, A3 m c⟩]
    concatenates_S4224x256_S4224x512_S4224x256_S4224x256_S4224x1280_d1 (ix2 r ⟨768 + j.val, by omega⟩) 2 (by show 2 < 4; decide) S4224x256 (A2 m c) rfl rfl 768 rfl (ix2 r j) ?_ ?_
  · intro b hb
    fin_cases b
    · rfl
    · exact absurd rfl hb
  · rfl

theorem entry_u3 (c : Dev nD) (r : Fin 4224) (j : Fin 256) : V m c main_v1 (ix2 r (⟨1024 + j.val, by omega⟩ : Fin 1280)) = A3 m c (ix2 r j) := by
  refine (cats m c r _).trans ?_
  refine concatenate_apply_piece (α := EReal) (t := S4224x1280) 1 [⟨S4224x256, A0 m c⟩, ⟨S4224x512, A1 m c⟩, ⟨S4224x256, A2 m c⟩, ⟨S4224x256, A3 m c⟩]
    concatenates_S4224x256_S4224x512_S4224x256_S4224x256_S4224x1280_d1 (ix2 r ⟨1024 + j.val, by omega⟩) 3 (by show 3 < 4; decide) S4224x256 (A3 m c) rfl rfl 1024 rfl (ix2 r j) ?_ ?_
  · intro b hb
    fin_cases b
    · rfl
    · exact absurd rfl hb
  · rfl

variable (c : Dev nD)

theorem result0 (a : Fin 256) (b : Fin 1024) :
    Cert.Reference5Ideal.Read.val_main_v21 (F := Ideal) (A0 m c) (A1 m c) (A2 m c) (A3 m c) (A4 m c) (ix2 (⟨0 + a.val, by omega⟩ : Fin 1280) b)
      = ∑ k, A0 m c (ix2 k a) * A4 m c (ix2 k ⟨0 + b.val, by omega⟩) := by
  refine Eq.trans (show _ = _ from concatenate_apply_piece (α := EReal) (t := Cert.Reference5Ideal.S1280x1024) 0 [⟨Cert.Reference5Ideal.S256x1024, Cert.Reference5Ideal.Read.val_main_v19 (F := Ideal) (A0 m c) (A4 m c)⟩, ⟨Cert.Reference5Ideal.S512x1024, Cert.Reference5Ideal.Read.val_main_v17 (F := Ideal) (A1 m c) (A4 m c)⟩, ⟨Cert.Reference5Ideal.S256x1024, Cert.Reference5Ideal.Read.val_main_v15 (F := Ideal) (A2 m c) (A4 m c)⟩, ⟨Cert.Reference5Ideal.S256x1024, Cert.Reference5Ideal.Read.val_main_v13 (F := Ideal) (A3 m c) (A4 m c)⟩]
    Cert.Reference5Ideal.Facts₀.concatenates_S256x1024_S512x1024_S256x1024_S256x1024_S1280x1024_d0 (ix2 ⟨0 + a.val, by omega⟩ b) 0 (by show 0 < 4; decide)
    Cert.Reference5Ideal.S256x1024 (Cert.Reference5Ideal.Read.val_main_v19 (F := Ideal) (A0 m c) (A4 m c)) rfl rfl 0 rfl (ix2 a b) ?_ ?_) ?_
  · intro q hq
    fin_cases q
    · exact absurd rfl hq
    · rfl
  · rfl
  · pointwise [Cert.Reference5Ideal.Read.val_main_v19, Cert.Reference5Ideal.Read.val_main_v18, Cert.Reference5Ideal.Read.val_main_v8]
    exact Finset.sum_congr rfl fun k _ => mul_comm _ _

theorem result1 (a : Fin 512) (b : Fin 1024) :
    Cert.Reference5Ideal.Read.val_main_v21 (F := Ideal) (A0 m c) (A1 m c) (A2 m c) (A3 m c) (A4 m c) (ix2 (⟨256 + a.val, by omega⟩ : Fin 1280) b)
      = ∑ k, A1 m c (ix2 k a) * A4 m c (ix2 k ⟨1024 + b.val, by omega⟩) := by
  refine Eq.trans (show _ = _ from concatenate_apply_piece (α := EReal) (t := Cert.Reference5Ideal.S1280x1024) 0 [⟨Cert.Reference5Ideal.S256x1024, Cert.Reference5Ideal.Read.val_main_v19 (F := Ideal) (A0 m c) (A4 m c)⟩, ⟨Cert.Reference5Ideal.S512x1024, Cert.Reference5Ideal.Read.val_main_v17 (F := Ideal) (A1 m c) (A4 m c)⟩, ⟨Cert.Reference5Ideal.S256x1024, Cert.Reference5Ideal.Read.val_main_v15 (F := Ideal) (A2 m c) (A4 m c)⟩, ⟨Cert.Reference5Ideal.S256x1024, Cert.Reference5Ideal.Read.val_main_v13 (F := Ideal) (A3 m c) (A4 m c)⟩]
    Cert.Reference5Ideal.Facts₀.concatenates_S256x1024_S512x1024_S256x1024_S256x1024_S1280x1024_d0 (ix2 ⟨256 + a.val, by omega⟩ b) 1 (by show 1 < 4; decide)
    Cert.Reference5Ideal.S512x1024 (Cert.Reference5Ideal.Read.val_main_v17 (F := Ideal) (A1 m c) (A4 m c)) rfl rfl 256 rfl (ix2 a b) ?_ ?_) ?_
  · intro q hq
    fin_cases q
    · exact absurd rfl hq
    · rfl
  · rfl
  · pointwise [Cert.Reference5Ideal.Read.val_main_v17, Cert.Reference5Ideal.Read.val_main_v16, Cert.Reference5Ideal.Read.val_main_v9]
    exact Finset.sum_congr rfl fun k _ => mul_comm _ _

theorem result2 (a : Fin 256) (b : Fin 1024) :
    Cert.Reference5Ideal.Read.val_main_v21 (F := Ideal) (A0 m c) (A1 m c) (A2 m c) (A3 m c) (A4 m c) (ix2 (⟨768 + a.val, by omega⟩ : Fin 1280) b)
      = ∑ k, A2 m c (ix2 k a) * A4 m c (ix2 k ⟨2048 + b.val, by omega⟩) := by
  refine Eq.trans (show _ = _ from concatenate_apply_piece (α := EReal) (t := Cert.Reference5Ideal.S1280x1024) 0 [⟨Cert.Reference5Ideal.S256x1024, Cert.Reference5Ideal.Read.val_main_v19 (F := Ideal) (A0 m c) (A4 m c)⟩, ⟨Cert.Reference5Ideal.S512x1024, Cert.Reference5Ideal.Read.val_main_v17 (F := Ideal) (A1 m c) (A4 m c)⟩, ⟨Cert.Reference5Ideal.S256x1024, Cert.Reference5Ideal.Read.val_main_v15 (F := Ideal) (A2 m c) (A4 m c)⟩, ⟨Cert.Reference5Ideal.S256x1024, Cert.Reference5Ideal.Read.val_main_v13 (F := Ideal) (A3 m c) (A4 m c)⟩]
    Cert.Reference5Ideal.Facts₀.concatenates_S256x1024_S512x1024_S256x1024_S256x1024_S1280x1024_d0 (ix2 ⟨768 + a.val, by omega⟩ b) 2 (by show 2 < 4; decide)
    Cert.Reference5Ideal.S256x1024 (Cert.Reference5Ideal.Read.val_main_v15 (F := Ideal) (A2 m c) (A4 m c)) rfl rfl 768 rfl (ix2 a b) ?_ ?_) ?_
  · intro q hq
    fin_cases q
    · exact absurd rfl hq
    · rfl
  · rfl
  · pointwise [Cert.Reference5Ideal.Read.val_main_v15, Cert.Reference5Ideal.Read.val_main_v14, Cert.Reference5Ideal.Read.val_main_v10]
    exact Finset.sum_congr rfl fun k _ => mul_comm _ _

theorem result3 (a : Fin 256) (b : Fin 1024) :
    Cert.Reference5Ideal.Read.val_main_v21 (F := Ideal) (A0 m c) (A1 m c) (A2 m c) (A3 m c) (A4 m c) (ix2 (⟨1024 + a.val, by omega⟩ : Fin 1280) b)
      = ∑ k, A3 m c (ix2 k a) * A4 m c (ix2 k ⟨3072 + b.val, by omega⟩) := by
  refine Eq.trans (show _ = _ from concatenate_apply_piece (α := EReal) (t := Cert.Reference5Ideal.S1280x1024) 0 [⟨Cert.Reference5Ideal.S256x1024, Cert.Reference5Ideal.Read.val_main_v19 (F := Ideal) (A0 m c) (A4 m c)⟩, ⟨Cert.Reference5Ideal.S512x1024, Cert.Reference5Ideal.Read.val_main_v17 (F := Ideal) (A1 m c) (A4 m c)⟩, ⟨Cert.Reference5Ideal.S256x1024, Cert.Reference5Ideal.Read.val_main_v15 (F := Ideal) (A2 m c) (A4 m c)⟩, ⟨Cert.Reference5Ideal.S256x1024, Cert.Reference5Ideal.Read.val_main_v13 (F := Ideal) (A3 m c) (A4 m c)⟩]
    Cert.Reference5Ideal.Facts₀.concatenates_S256x1024_S512x1024_S256x1024_S256x1024_S1280x1024_d0 (ix2 ⟨1024 + a.val, by omega⟩ b) 3 (by show 3 < 4; decide)
    Cert.Reference5Ideal.S256x1024 (Cert.Reference5Ideal.Read.val_main_v13 (F := Ideal) (A3 m c) (A4 m c)) rfl rfl 1024 rfl (ix2 a b) ?_ ?_) ?_
  · intro q hq
    fin_cases q
    · exact absurd rfl hq
    · rfl
  · rfl
  · pointwise [Cert.Reference5Ideal.Read.val_main_v13, Cert.Reference5Ideal.Read.val_main_v12, Cert.Reference5Ideal.Read.val_main_v11]
    exact Finset.sum_congr rfl fun k _ => mul_comm _ _

theorem strip (n off : ℕ) (h : off + n ≤ 1280) (a : Fin 1280) (h0 : off ≤ a.val) (h1 : a.val < off + n) : ∃ q : Fin n, a = ⟨off + q.val, Nat.lt_of_lt_of_le (Nat.add_lt_add_left q.isLt off) h⟩ :=
  ⟨⟨a.val - off, by omega⟩, Fin.ext (by show a.val = off + (a.val - off); omega)⟩

theorem result_at (i : S1280x1024.Idx) :
    Cert.Reference5Ideal.Read.val_main_v21 (F := Ideal) (A0 m c) (A1 m c) (A2 m c) (A3 m c) (A4 m c) i = ∑ k, term m c i k := by
  obtain ⟨a, b, rfl⟩ := ix2_of i
  have hb : b.val < 1024 := b.isLt
  by_cases k0 : a.val < 256
  · obtain ⟨q, rfl⟩ := strip 256 0 (by decide) a (by omega) (by omega)
    refine (result0 m c q b).trans (Finset.sum_congr rfl fun k _ => congrArg₂ (· * ·) (entry_u0 m c k q).symm (congrArg (fun l : Fin 4096 => A4 m c (ix2 k l)) ?_))
    exact Fin.ext (congrArg (· + b.val) (if_pos (by omega) : (if 0 + q.val < 256 then 0 else if 0 + q.val < 768 then 1024 else if 0 + q.val < 1024 then 2048 else 3072) = 0).symm)
  by_cases k1 : a.val < 768
  · obtain ⟨q, rfl⟩ := strip 512 256 (by decide) a (by omega) (by omega)
    refine (result1 m c q b).trans (Finset.sum_congr rfl fun k _ => congrArg₂ (· * ·) (entry_u1 m c k q).symm (congrArg (fun l : Fin 4096 => A4 m c (ix2 k l)) ?_))
    exact Fin.ext (congrArg (· + b.val) ((if_neg (by omega)).trans (if_pos (by omega)) : (if 256 + q.val < 256 then 0 else if 256 + q.val < 768 then 1024 else if 256 + q.val < 1024 then 2048 else 3072) = 1024).symm)
  by_cases k2 : a.val < 1024
  · obtain ⟨q, rfl⟩ := strip 256 768 (by decide) a (by omega) (by omega)
    refine (result2 m c q b).trans (Finset.sum_congr rfl fun k _ => congrArg₂ (· * ·) (entry_u2 m c k q).symm (congrArg (fun l : Fin 4096 => A4 m c (ix2 k l)) ?_))
    exact Fin.ext (congrArg (· + b.val) ((if_neg (by omega)).trans ((if_neg (by omega)).trans (if_pos (by omega))) : (if 768 + q.val < 256 then 0 else if 768 + q.val < 768 then 1024 else if 768 + q.val < 1024 then 2048 else 3072) = 2048).symm)
  obtain ⟨q, rfl⟩ := strip 256 1024 (by decide) a (by omega) (by omega)
  refine (result3 m c q b).trans (Finset.sum_congr rfl fun k _ => congrArg₂ (· * ·) (entry_u3 m c k q).symm (congrArg (fun l : Fin 4096 => A4 m c (ix2 k l)) ?_))
  exact Fin.ext (congrArg (· + b.val) ((if_neg (by omega)).trans ((if_neg (by omega)).trans (if_neg (by omega))) : (if 1024 + q.val < 256 then 0 else if 1024 + q.val < 768 then 1024 else if 1024 + q.val < 1024 then 2048 else 3072) = 3072).symm)

set_option maxHeartbeats 1600000 in
theorem final_2 :
    (dats m 0 c).arrAt 2 (cfgs 0).N = Cert.Reference5Ideal.Read.val_main_v21 (F := Ideal) (A0 m c) (A1 m c) (A2 m c) (A3 m c) (A4 m c) := by
  refine (dats m 0 c).arrAt_eq_of_covers 2 _ (by decide +kernel) fun t hf y => ?_
  blk_simp; rw [after0_2]
  have h : t.val % 3 = 2 := (flush0_2 t).mp hf
  obtain ⟨a, b, rfl⟩ := ix2_of y
  refine (block_at m c t h (ix2 a b)).trans ((result_at m c (ix2 a b)).symm.trans ?_)
  blk_ext [idx_val t]

end Cert.Kernel5Ideal.Value
-- ==== Proof.Run6.lean ====
/-
  The reference's run with its results named.
-/
module

public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Reference6Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
        = Read.val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (Read.val_main_v4_eq _ _), (h c).2⟩)
    (Value.run m ρ)

end Cert.Reference6Ideal
-- ==== Proof.Final6.lean ====
/-
  The gradient of the output projection's weights: the sixth kernel's array is the sixth reference's result.
-/
module

public import proofs.«01_k».proof.Proof.Thirds
public import proofs.«01_k».proof.Proof.Gen.Kernel6Ideal.Value
public import proofs.«01_k».proof.Proof.Gen.Reference6Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel6Ideal.Value

open Cert.Kernel6Ideal Cert.Kernel6Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference6Ideal.S4224x1024 .f32 := m ((c : Thread nD τ).loc main_arg0)
/-- Argument 1 of the program. -/
abbrev A1 (c : Dev nD) : FVec Ideal Cert.Reference6Ideal.S4224x1024 .f32 := m ((c : Thread nD τ).loc main_arg1)

/-- The column of the gradient that output column `j` reads. -/
def col (j : Fin 1024) : Fin 1024 := j

/-- The terms of the sum that output element `i` is. -/
def term (c : Dev nD) (i : S1024x1024.Idx) (k : Fin 4224) : EReal := A0 m c (ix2 k (i 0)) * A1 m c (ix2 k (col (i 1)))

theorem entry_B (c : Dev nD) (r : Fin 4224) (j : Fin 1024) : V m c main_v1 (ix2 r j) = A1 m c (ix2 r (col j)) := by
  entry_read
  pointwise [col]

theorem idx_val : ∀ t : Fin cfg0.N, win0_0.index t = ![t.val % 3, t.val / 3] ∧ win0_1.index t = ![t.val % 3, 0]
    ∧ win0_2.index t = ![t.val / 3, 0] :=
  (by decide +kernel : ∀ t : Fin grid0.N, _)

section
variable (c : Dev nD) (t : Fin cfg0.N)

theorem points : t.val < 6 := lt_of_lt_of_eq t.isLt N_0

/-- The element of the whole array that element `j` of point `t`'s block is. -/
def loc (j : S512x1024.Idx) : S1024x1024.Idx :=
  ix2 ⟨(t.val / 3) * 512 + (j 0).val, by have h0 : (j 0).val < 512 := (j 0).isLt; have := points t; omega⟩
    ⟨(0) * 1024 + (j 1).val, by have h0 : (j 1).val < 1024 := (j 1).isLt; have := points t; omega⟩

theorem loc_prev (h : ¬t.val % 3 = 0) (j : S512x1024.Idx) : loc ⟨t.val - 1, by omega⟩ j = loc t j := by
  have e : (t.val - 1) / 3 = t.val / 3 := by omega
  simp only [loc, e]

/-- The row of the whole array that row `k` of point `t`'s blocks is. -/
def row (k : Fin 1408) : Fin 4224 := ⟨t.val % 3 * 1408 + k.val, by omega⟩

theorem entry_A (r : Fin 4224) (j : Fin 1024) : V m c main_v0 (ix2 r j) = A0 m c (ix2 r j) := by
  entry_read
  pointwise []

theorem blk0 (k : Fin 1408) (a : Fin 512) (b : Fin 1024) :
    iblk m c 0 t (ix2 k a) = A0 m c (ix2 (row t k) (loc t (ix2 a b) 0)) := by
  refine Eq.trans ?_ (entry_A m c (row t k) _)
  blk_ext [iblk, idx_val t, row, loc]

theorem blk1 (k : Fin 1408) (a : Fin 512) (b : Fin 1024) :
    iblk m c 1 t (ix2 k b) = A1 m c (ix2 (row t k) (col (loc t (ix2 a b) 1))) := by
  refine Eq.trans ?_ (entry_B m c (row t k) _)
  blk_ext [iblk, idx_val t, row, loc]

theorem pay_at (x : Vec Ideal S1408x512 .bf16) (y : Vec Ideal S1408x1024 .bf16) (a : Fin 512) (b : Fin 1024) :
    k0_pay1 x y (ix2 a b) = ∑ k, x (ix2 k a) * y (ix2 k b) := by
  pointwise [k0_pay1]

theorem pay_blk (a : Fin 512) (b : Fin 1024) :
    k0_pay1 (iblk m c 0 t) (iblk m c 1 t) (ix2 a b) = third (term m c (loc t (ix2 a b))) ⟨t.val % 3, Nat.mod_lt _ (by decide)⟩ := by
  refine (pay_at ..).trans (Finset.sum_congr rfl fun k _ => ?_)
  exact congrArg₂ (· * ·) (blk0 m c t k a b) (blk1 m c t k a b)

theorem first (h : t.val % 3 = 0) (j : S512x1024.Idx) :
    (outsAt0 m c t.val t.isLt).2 j = third (term m c (loc t j)) ⟨t.val % 3, Nat.mod_lt _ (by decide)⟩ := by
  rw [outsAt0_A m c t h (by omega) (by omega)]; dsimp only; frame_out
  obtain ⟨a, b, rfl⟩ := ix2_of j
  refine Eq.trans ?_ (pay_blk m c t a b)
  pointwise [k0_pay2]

theorem pay3_at (acc : Vec Ideal S512x1024 .f32) (a : Fin 512) (b : Fin 1024) :
    k0_pay3 (iblk m c 0 t) (iblk m c 1 t) acc (ix2 a b)
      = acc (ix2 a b) + third (term m c (loc t (ix2 a b))) ⟨t.val % 3, Nat.mod_lt _ (by decide)⟩ := by
  rw [← pay_blk]
  pointwise [k0_pay3]

theorem step (h : ¬t.val % 3 = 0) (j : S512x1024.Idx) :
    (outsAt0 m c t.val t.isLt).2 j
      = (outsAt0 m c (t.val - 1) (Nat.lt_of_le_of_lt (Nat.sub_le _ _) t.isLt)).2 j
        + third (term m c (loc t j)) ⟨t.val % 3, Nat.mod_lt _ (by decide)⟩ := by
  obtain ⟨a, b, rfl⟩ := ix2_of j
  by_cases h2 : t.val % 3 = 2
  · rw [outsAt0_C m c t h (by omega) h2]; dsimp only; frame_out
    exact (pay3_at m c t _ a b).trans (congrArg (· + _) (congrFun (Memref.IsWhole.read_unread _ _) _))
  · rw [outsAt0_B m c t h (by omega) h2]; dsimp only; frame_out
    exact (pay3_at m c t _ a b).trans (congrArg (· + _) (congrFun (Memref.IsWhole.read_unread _ _) _))

theorem out_last (h : t.val % 3 = 2) (j : S512x1024.Idx) :
    (outsAt0 m c t.val t.isLt).1 j = (outsAt0 m c t.val t.isLt).2 j := by
  obtain ⟨a, b, rfl⟩ := ix2_of j
  rw [outsAt0_C m c t (by omega) (by omega) h]; dsimp only; frame_out
  pointwise [k0_pay4]

theorem block_at (h : t.val % 3 = 2) (j : S512x1024.Idx) :
    (outsAt0 m c t.val t.isLt).1 j = ∑ k, term m c (loc t j) k := by
  have e1 := step m c ⟨t.val - 1, by omega⟩ (show ¬(t.val - 1) % 3 = 0 by omega) j
  have e0 := first m c ⟨t.val - 1 - 1, by omega⟩ (show (t.val - 1 - 1) % 3 = 0 by omega) j
  have l1 := loc_prev t (by omega) j
  have l0 := loc_prev ⟨t.val - 1, by omega⟩ (show ¬(t.val - 1) % 3 = 0 by omega) j
  rw [out_last m c t h, step m c t (by omega), ← thirds]
  refine congrArg₂ (· + ·) (e1.trans (congrArg₂ (· + ·) (e0.trans ?_) ?_)) ?_
  · rw [l0, l1]; exact congrArg _ (Fin.ext (show (t.val - 1 - 1) % 3 = 0 by omega))
  · rw [l1]; exact congrArg _ (Fin.ext (show (t.val - 1) % 3 = 1 by omega))
  · exact congrArg _ (Fin.ext h)

end

theorem result_at (c : Dev nD) (i : S1024x1024.Idx) :
    Cert.Reference6Ideal.Read.val_main_v4 (F := Ideal) (A0 m c) (A1 m c) i = ∑ k, term m c i k := by
  obtain ⟨a, b, rfl⟩ := ix2_of i
  pointwise [Cert.Reference6Ideal.Read.val_main_v4, Cert.Reference6Ideal.Read.val_main_v3, Cert.Reference6Ideal.Read.val_main_v2]
  exact Finset.sum_congr rfl fun k _ => mul_comm _ _

set_option maxHeartbeats 1600000 in
theorem final_2 (c : Dev nD) :
    (dats m 0 c).arrAt 2 (cfgs 0).N = Cert.Reference6Ideal.Read.val_main_v4 (F := Ideal) (A0 m c) (A1 m c) := by
  refine (dats m 0 c).arrAt_eq_of_covers 2 _ (by decide +kernel) fun t hf y => ?_
  blk_simp; rw [after0_2]
  have h : t.val % 3 = 2 := (flush0_2 t).mp hf
  obtain ⟨a, b, rfl⟩ := ix2_of y
  refine (block_at m c t h (ix2 a b)).trans ((result_at m c (loc t (ix2 a b))).symm.trans ?_)
  blk_ext [idx_val t, loc]

end Cert.Kernel6Ideal.Value
-- ==== Proof.Run7.lean ====
/-
  The reference's run with its results named.
-/
module

public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Reference7Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = Read.val_main_v8 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (Read.val_main_v8_eq _ _), (h c).2⟩)
    (Value.run m ρ)

end Cert.Reference7Ideal
-- ==== Proof.Final7.lean ====
/-
  The input projection: the seventh kernel's array is the seventh reference's result.
-/
module

public import proofs.«01_k».proof.Proof.Thirds
public import proofs.«01_k».proof.Proof.Gen.Kernel7Ideal.Value
public import proofs.«01_k».proof.Proof.Gen.Reference7Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel7Ideal.Value

open Cert.Kernel7Ideal Cert.Kernel7Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference7Ideal.S4224x1024 .f32 := m ((c : Thread nD τ).loc main_arg0)
/-- Argument 1 of the program. -/
abbrev A1 (c : Dev nD) : FVec Ideal Cert.Reference7Ideal.S1024x7328 .f32 := m ((c : Thread nD τ).loc main_arg1)

theorem entry_h (c : Dev nD) (r : Fin 4224) (j : Fin 1024) : V m c main_v0 (ix2 r j) = A0 m c (ix2 r j) := by
  entry_read
  pointwise []

theorem upto_v8 (c : Dev nD) : StableHlo.upto hostOps0 (fun b => m (c, b)) 11 main_v8 = V m c main_v8 :=
  (StableHlo.upto_last_write (i := 10) [] rfl rfl (by decide) _).trans
  (StableHlo.after_last_write (i := 10) [main_v9] rfl rfl (by decide) _).symm

theorem entry_w (c : Dev nD) (r : Fin 1024) (j : Fin 7424) : V m c main_v9 (ix2 r j) = V m c main_v8 (ix2 r j) := by
  have e := StableHlo.after_last_write (ops := (hostOps0 : List (HloOp τ sig (Elt Ideal)))) (i := 11) (r := main_v9)
    [] rfl rfl (by decide) (fun b => m (c, b))
  rw [StableHlo.unary_result'] at e
  refine (congrFun e _).trans ?_
  exact congrFun (upto_v8 m c) _

theorem src_v1 (c : Dev nD) (r : Fin 1024) (j : Fin 4096) (q : Fin 7328) (hq : q.val = 3232 + j.val) : V m c main_v1 (ix2 r j) = A1 m c (ix2 r q) := by
  rw [show q = ⟨3232 + j.val, by omega⟩ from Fin.ext hq]
  entry_read
  pointwise []

theorem upto_v1 (c : Dev nD) : StableHlo.upto hostOps0 (fun b => m (c, b)) 10 main_v1 = V m c main_v1 :=
  (StableHlo.upto_last_write (i := 1) [main_v2, main_cst, main_v3, main_v4, main_cst_0, main_v5, main_v6, main_v7] rfl rfl (by decide) _).trans
  (StableHlo.after_last_write (i := 1) [main_v2, main_cst, main_v3, main_v4, main_cst_0, main_v5, main_v6, main_v7, main_v8, main_v9] rfl rfl (by decide) _).symm

theorem cat_v1 (c : Dev nD) (r : Fin 1024) (j : Fin 4096) (p : Fin 7424) (hp : p.val = 0 + j.val) (q : Fin 7328) (hq : q.val = 3232 + j.val) :
    V m c main_v8 (ix2 r p) = A1 m c (ix2 r q) := by
  refine Eq.trans ?_ (src_v1 m c r j q hq)
  rw [← upto_v1]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 0) (pre := 0) (s₁ := S1024x4096) (hr := rfl) (i := ix2 r j)
    (x₁ := StableHlo.upto hostOps0 (fun b => m (c, b)) 10 main_v1)
  · rfl
  · rfl
  · intro b hb
    fin_cases b
    · rfl
    · exact absurd rfl hb
  · exact hp.symm
  · show 0 < 7; decide

theorem src_v2 (c : Dev nD) (r : Fin 1024) (j : Fin 384) (q : Fin 7328) (hq : q.val = 512 + j.val) : V m c main_v2 (ix2 r j) = A1 m c (ix2 r q) := by
  rw [show q = ⟨512 + j.val, by omega⟩ from Fin.ext hq]
  entry_read
  pointwise []

theorem upto_v2 (c : Dev nD) : StableHlo.upto hostOps0 (fun b => m (c, b)) 10 main_v2 = V m c main_v2 :=
  (StableHlo.upto_last_write (i := 2) [main_cst, main_v3, main_v4, main_cst_0, main_v5, main_v6, main_v7] rfl rfl (by decide) _).trans
  (StableHlo.after_last_write (i := 2) [main_cst, main_v3, main_v4, main_cst_0, main_v5, main_v6, main_v7, main_v8, main_v9] rfl rfl (by decide) _).symm

theorem cat_v2 (c : Dev nD) (r : Fin 1024) (j : Fin 384) (p : Fin 7424) (hp : p.val = 4096 + j.val) (q : Fin 7328) (hq : q.val = 512 + j.val) :
    V m c main_v8 (ix2 r p) = A1 m c (ix2 r q) := by
  refine Eq.trans ?_ (src_v2 m c r j q hq)
  rw [← upto_v2]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 1) (pre := 4096) (s₁ := S1024x384) (hr := rfl) (i := ix2 r j)
    (x₁ := StableHlo.upto hostOps0 (fun b => m (c, b)) 10 main_v2)
  · rfl
  · rfl
  · intro b hb
    fin_cases b
    · rfl
    · exact absurd rfl hb
  · exact hp.symm
  · show 1 < 7; decide

theorem src_v3 (c : Dev nD) (r : Fin 1024) (j : Fin 64) : V m c main_v3 (ix2 r j) = (0 : EReal) := by
  skip
  entry_read
  pointwise []

theorem upto_v3 (c : Dev nD) : StableHlo.upto hostOps0 (fun b => m (c, b)) 10 main_v3 = V m c main_v3 :=
  (StableHlo.upto_last_write (i := 4) [main_v4, main_cst_0, main_v5, main_v6, main_v7] rfl rfl (by decide) _).trans
  (StableHlo.after_last_write (i := 4) [main_v4, main_cst_0, main_v5, main_v6, main_v7, main_v8, main_v9] rfl rfl (by decide) _).symm

theorem cat_v3 (c : Dev nD) (r : Fin 1024) (j : Fin 64) (p : Fin 7424) (hp : p.val = 4480 + j.val) :
    V m c main_v8 (ix2 r p) = (0 : EReal) := by
  refine Eq.trans ?_ (src_v3 m c r j)
  rw [← upto_v3]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 2) (pre := 4480) (s₁ := S1024x64) (hr := rfl) (i := ix2 r j)
    (x₁ := StableHlo.upto hostOps0 (fun b => m (c, b)) 10 main_v3)
  · rfl
  · rfl
  · intro b hb
    fin_cases b
    · rfl
    · exact absurd rfl hb
  · exact hp.symm
  · show 2 < 7; decide

theorem src_v4 (c : Dev nD) (r : Fin 1024) (j : Fin 32) (q : Fin 7328) (hq : q.val = 896 + j.val) : V m c main_v4 (ix2 r j) = A1 m c (ix2 r q) := by
  rw [show q = ⟨896 + j.val, by omega⟩ from Fin.ext hq]
  entry_read
  pointwise []

theorem upto_v4 (c : Dev nD) : StableHlo.upto hostOps0 (fun b => m (c, b)) 10 main_v4 = V m c main_v4 :=
  (StableHlo.upto_last_write (i := 5) [main_cst_0, main_v5, main_v6, main_v7] rfl rfl (by decide) _).trans
  (StableHlo.after_last_write (i := 5) [main_cst_0, main_v5, main_v6, main_v7, main_v8, main_v9] rfl rfl (by decide) _).symm

theorem cat_v4 (c : Dev nD) (r : Fin 1024) (j : Fin 32) (p : Fin 7424) (hp : p.val = 4544 + j.val) (q : Fin 7328) (hq : q.val = 896 + j.val) :
    V m c main_v8 (ix2 r p) = A1 m c (ix2 r q) := by
  refine Eq.trans ?_ (src_v4 m c r j q hq)
  rw [← upto_v4]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 3) (pre := 4544) (s₁ := S1024x32) (hr := rfl) (i := ix2 r j)
    (x₁ := StableHlo.upto hostOps0 (fun b => m (c, b)) 10 main_v4)
  · rfl
  · rfl
  · intro b hb
    fin_cases b
    · rfl
    · exact absurd rfl hb
  · exact hp.symm
  · show 3 < 7; decide

theorem src_v5 (c : Dev nD) (r : Fin 1024) (j : Fin 32) : V m c main_v5 (ix2 r j) = (0 : EReal) := by
  skip
  entry_read
  pointwise []

theorem upto_v5 (c : Dev nD) : StableHlo.upto hostOps0 (fun b => m (c, b)) 10 main_v5 = V m c main_v5 :=
  (StableHlo.upto_last_write (i := 7) [main_v6, main_v7] rfl rfl (by decide) _).trans
  (StableHlo.after_last_write (i := 7) [main_v6, main_v7, main_v8, main_v9] rfl rfl (by decide) _).symm

theorem cat_v5 (c : Dev nD) (r : Fin 1024) (j : Fin 32) (p : Fin 7424) (hp : p.val = 4576 + j.val) :
    V m c main_v8 (ix2 r p) = (0 : EReal) := by
  refine Eq.trans ?_ (src_v5 m c r j)
  rw [← upto_v5]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 4) (pre := 4576) (s₁ := S1024x32) (hr := rfl) (i := ix2 r j)
    (x₁ := StableHlo.upto hostOps0 (fun b => m (c, b)) 10 main_v5)
  · rfl
  · rfl
  · intro b hb
    fin_cases b
    · rfl
    · exact absurd rfl hb
  · exact hp.symm
  · show 4 < 7; decide

theorem src_v6 (c : Dev nD) (r : Fin 1024) (j : Fin 512) (q : Fin 7328) (hq : q.val = 0 + j.val) : V m c main_v6 (ix2 r j) = A1 m c (ix2 r q) := by
  rw [show q = ⟨0 + j.val, by omega⟩ from Fin.ext hq]
  entry_read
  pointwise []

theorem upto_v6 (c : Dev nD) : StableHlo.upto hostOps0 (fun b => m (c, b)) 10 main_v6 = V m c main_v6 :=
  (StableHlo.upto_last_write (i := 8) [main_v7] rfl rfl (by decide) _).trans
  (StableHlo.after_last_write (i := 8) [main_v7, main_v8, main_v9] rfl rfl (by decide) _).symm

theorem cat_v6 (c : Dev nD) (r : Fin 1024) (j : Fin 512) (p : Fin 7424) (hp : p.val = 4608 + j.val) (q : Fin 7328) (hq : q.val = 0 + j.val) :
    V m c main_v8 (ix2 r p) = A1 m c (ix2 r q) := by
  refine Eq.trans ?_ (src_v6 m c r j q hq)
  rw [← upto_v6]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 5) (pre := 4608) (s₁ := S1024x512) (hr := rfl) (i := ix2 r j)
    (x₁ := StableHlo.upto hostOps0 (fun b => m (c, b)) 10 main_v6)
  · rfl
  · rfl
  · intro b hb
    fin_cases b
    · rfl
    · exact absurd rfl hb
  · exact hp.symm
  · show 5 < 7; decide

theorem src_v7 (c : Dev nD) (r : Fin 1024) (j : Fin 2304) (q : Fin 7328) (hq : q.val = 928 + j.val) : V m c main_v7 (ix2 r j) = A1 m c (ix2 r q) := by
  rw [show q = ⟨928 + j.val, by omega⟩ from Fin.ext hq]
  entry_read
  pointwise []

theorem upto_v7 (c : Dev nD) : StableHlo.upto hostOps0 (fun b => m (c, b)) 10 main_v7 = V m c main_v7 :=
  (StableHlo.upto_last_write (i := 9) [] rfl rfl (by decide) _).trans
  (StableHlo.after_last_write (i := 9) [main_v8, main_v9] rfl rfl (by decide) _).symm

theorem cat_v7 (c : Dev nD) (r : Fin 1024) (j : Fin 2304) (p : Fin 7424) (hp : p.val = 5120 + j.val) (q : Fin 7328) (hq : q.val = 928 + j.val) :
    V m c main_v8 (ix2 r p) = A1 m c (ix2 r q) := by
  refine Eq.trans ?_ (src_v7 m c r j q hq)
  rw [← upto_v7]
  have e := StableHlo.after_last_write (ops := (hostOps0 : List (HloOp τ sig (Elt Ideal)))) (i := 10) (r := main_v8)
    [main_v9] rfl rfl (by decide) (fun b => m (c, b))
  rw [StableHlo.nary_result'] at e
  refine (congrFun e _).trans ?_
  apply concatenate_apply_piece (α := Elt Ideal .f32) (t := S1024x7424) (k := 6) (pre := 5120) (s₁ := S1024x2304) (hr := rfl) (i := ix2 r j)
    (x₁ := StableHlo.upto hostOps0 (fun b => m (c, b)) 10 main_v7)
  · rfl
  · rfl
  · intro b hb
    fin_cases b
    · rfl
    · exact absurd rfl hb
  · exact hp.symm
  · show 6 < 7; decide

/-- The terms of the sum that output element `i` is. -/
def term (c : Dev nD) (i : S4224x7424.Idx) (k : Fin 1024) : EReal :=
  A0 m c (ix2 (i 0) k) * (show EReal from V m c main_v8 (ix2 k (i 1)))

theorem piece_v1 (c : Dev nD) (r : Fin 4224) (j : Fin 4096) (p : Fin 7424) (hp : p.val = 0 + j.val) :
    Cert.Reference7Ideal.Read.val_main_v8 (F := Ideal) (A0 m c) (A1 m c) (ix2 r p) = ∑ k, term m c (ix2 r p) k := by
  refine Eq.trans (b := Cert.Reference7Ideal.Read.val_main_v1 (F := Ideal) (A0 m c) (A1 m c) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      0 (by show 0 < 7; decide) Cert.Reference7Ideal.S4224x4096 (Cert.Reference7Ideal.Read.val_main_v1 (F := Ideal) (A0 m c) (A1 m c)) rfl rfl 0 rfl (ix2 r j) ?_ ?_
    · intro b hb
      fin_cases b
      · rfl
      · exact absurd rfl hb
    · exact hp.symm
  · pointwise [Cert.Reference7Ideal.Read.val_main_v1, Cert.Reference7Ideal.Read.val_main_v0]
    exact Finset.sum_congr rfl fun k _ => congrArg (A0 m c (ix2 r k) * ·) (cat_v1 m c k j p hp _ (by first | rfl | exact (Nat.zero_add _).symm)).symm

theorem piece_v2 (c : Dev nD) (r : Fin 4224) (j : Fin 384) (p : Fin 7424) (hp : p.val = 4096 + j.val) :
    Cert.Reference7Ideal.Read.val_main_v8 (F := Ideal) (A0 m c) (A1 m c) (ix2 r p) = ∑ k, term m c (ix2 r p) k := by
  refine Eq.trans (b := Cert.Reference7Ideal.Read.val_main_v2 (F := Ideal) (A0 m c) (A1 m c) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      1 (by show 1 < 7; decide) Cert.Reference7Ideal.S4224x384 (Cert.Reference7Ideal.Read.val_main_v2 (F := Ideal) (A0 m c) (A1 m c)) rfl rfl 4096 rfl (ix2 r j) ?_ ?_
    · intro b hb
      fin_cases b
      · rfl
      · exact absurd rfl hb
    · exact hp.symm
  · pointwise [Cert.Reference7Ideal.Read.val_main_v2, Cert.Reference7Ideal.Read.val_main_v0]
    exact Finset.sum_congr rfl fun k _ => congrArg (A0 m c (ix2 r k) * ·) (cat_v2 m c k j p hp _ (by first | rfl | exact (Nat.zero_add _).symm)).symm

theorem piece_v3 (c : Dev nD) (r : Fin 4224) (j : Fin 64) (p : Fin 7424) (hp : p.val = 4480 + j.val) :
    Cert.Reference7Ideal.Read.val_main_v8 (F := Ideal) (A0 m c) (A1 m c) (ix2 r p) = ∑ k, term m c (ix2 r p) k := by
  refine Eq.trans (b := Cert.Reference7Ideal.Read.val_main_v3 (F := Ideal) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      2 (by show 2 < 7; decide) Cert.Reference7Ideal.S4224x64 (Cert.Reference7Ideal.Read.val_main_v3 (F := Ideal)) rfl rfl 4480 rfl (ix2 r j) ?_ ?_
    · intro b hb
      fin_cases b
      · rfl
      · exact absurd rfl hb
    · exact hp.symm
  · pointwise [Cert.Reference7Ideal.Read.val_main_v3, Cert.Reference7Ideal.Read.val_main_cst]
    exact (Finset.sum_eq_zero fun k _ => (congrArg (A0 m c (ix2 r k) * ·) (cat_v3 m c k j p hp)).trans (mul_zero _)).symm

theorem piece_v4 (c : Dev nD) (r : Fin 4224) (j : Fin 32) (p : Fin 7424) (hp : p.val = 4544 + j.val) :
    Cert.Reference7Ideal.Read.val_main_v8 (F := Ideal) (A0 m c) (A1 m c) (ix2 r p) = ∑ k, term m c (ix2 r p) k := by
  refine Eq.trans (b := Cert.Reference7Ideal.Read.val_main_v4 (F := Ideal) (A0 m c) (A1 m c) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      3 (by show 3 < 7; decide) Cert.Reference7Ideal.S4224x32 (Cert.Reference7Ideal.Read.val_main_v4 (F := Ideal) (A0 m c) (A1 m c)) rfl rfl 4544 rfl (ix2 r j) ?_ ?_
    · intro b hb
      fin_cases b
      · rfl
      · exact absurd rfl hb
    · exact hp.symm
  · pointwise [Cert.Reference7Ideal.Read.val_main_v4, Cert.Reference7Ideal.Read.val_main_v0]
    exact Finset.sum_congr rfl fun k _ => congrArg (A0 m c (ix2 r k) * ·) (cat_v4 m c k j p hp _ (by first | rfl | exact (Nat.zero_add _).symm)).symm

theorem piece_v5 (c : Dev nD) (r : Fin 4224) (j : Fin 32) (p : Fin 7424) (hp : p.val = 4576 + j.val) :
    Cert.Reference7Ideal.Read.val_main_v8 (F := Ideal) (A0 m c) (A1 m c) (ix2 r p) = ∑ k, term m c (ix2 r p) k := by
  refine Eq.trans (b := Cert.Reference7Ideal.Read.val_main_v5 (F := Ideal) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      4 (by show 4 < 7; decide) Cert.Reference7Ideal.S4224x32 (Cert.Reference7Ideal.Read.val_main_v5 (F := Ideal)) rfl rfl 4576 rfl (ix2 r j) ?_ ?_
    · intro b hb
      fin_cases b
      · rfl
      · exact absurd rfl hb
    · exact hp.symm
  · pointwise [Cert.Reference7Ideal.Read.val_main_v5, Cert.Reference7Ideal.Read.val_main_cst_0]
    exact (Finset.sum_eq_zero fun k _ => (congrArg (A0 m c (ix2 r k) * ·) (cat_v5 m c k j p hp)).trans (mul_zero _)).symm

theorem piece_v6 (c : Dev nD) (r : Fin 4224) (j : Fin 512) (p : Fin 7424) (hp : p.val = 4608 + j.val) :
    Cert.Reference7Ideal.Read.val_main_v8 (F := Ideal) (A0 m c) (A1 m c) (ix2 r p) = ∑ k, term m c (ix2 r p) k := by
  refine Eq.trans (b := Cert.Reference7Ideal.Read.val_main_v6 (F := Ideal) (A0 m c) (A1 m c) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      5 (by show 5 < 7; decide) Cert.Reference7Ideal.S4224x512 (Cert.Reference7Ideal.Read.val_main_v6 (F := Ideal) (A0 m c) (A1 m c)) rfl rfl 4608 rfl (ix2 r j) ?_ ?_
    · intro b hb
      fin_cases b
      · rfl
      · exact absurd rfl hb
    · exact hp.symm
  · pointwise [Cert.Reference7Ideal.Read.val_main_v6, Cert.Reference7Ideal.Read.val_main_v0]
    exact Finset.sum_congr rfl fun k _ => congrArg (A0 m c (ix2 r k) * ·) (cat_v6 m c k j p hp _ (by first | rfl | exact (Nat.zero_add _).symm)).symm

theorem piece_v7 (c : Dev nD) (r : Fin 4224) (j : Fin 2304) (p : Fin 7424) (hp : p.val = 5120 + j.val) :
    Cert.Reference7Ideal.Read.val_main_v8 (F := Ideal) (A0 m c) (A1 m c) (ix2 r p) = ∑ k, term m c (ix2 r p) k := by
  refine Eq.trans (b := Cert.Reference7Ideal.Read.val_main_v7 (F := Ideal) (A0 m c) (A1 m c) (ix2 r j)) ?_ ?_
  · refine concatenate_apply_piece (α := EReal) (t := Cert.Reference7Ideal.S4224x7424) 1 [⟨Cert.Reference7Ideal.S4224x4096, Cert.Reference7Ideal.Read.val_main_v1 (F := Ideal) (A0 m c) (A1 m c)⟩, ⟨Cert.Reference7Ideal.S4224x384, Cert.Reference7Ideal.Read.val_main_v2 (F := Ideal) (A0 m c) (A1 m c)⟩, ⟨Cert.Reference7Ideal.S4224x64, Cert.Reference7Ideal.Read.val_main_v3 (F := Ideal)⟩, ⟨Cert.Reference7Ideal.S4224x32, Cert.Reference7Ideal.Read.val_main_v4 (F := Ideal) (A0 m c) (A1 m c)⟩, ⟨Cert.Reference7Ideal.S4224x32, Cert.Reference7Ideal.Read.val_main_v5 (F := Ideal)⟩, ⟨Cert.Reference7Ideal.S4224x512, Cert.Reference7Ideal.Read.val_main_v6 (F := Ideal) (A0 m c) (A1 m c)⟩, ⟨Cert.Reference7Ideal.S4224x2304, Cert.Reference7Ideal.Read.val_main_v7 (F := Ideal) (A0 m c) (A1 m c)⟩]
      Cert.Reference7Ideal.Facts₀.concatenates_S4224x4096_S4224x384_S4224x64_S4224x32_S4224x32_S4224x512_S4224x2304_S4224x7424_d1 (ix2 r p)
      6 (by show 6 < 7; decide) Cert.Reference7Ideal.S4224x2304 (Cert.Reference7Ideal.Read.val_main_v7 (F := Ideal) (A0 m c) (A1 m c)) rfl rfl 5120 rfl (ix2 r j) ?_ ?_
    · intro b hb
      fin_cases b
      · rfl
      · exact absurd rfl hb
    · exact hp.symm
  · pointwise [Cert.Reference7Ideal.Read.val_main_v7, Cert.Reference7Ideal.Read.val_main_v0]
    exact Finset.sum_congr rfl fun k _ => congrArg (A0 m c (ix2 r k) * ·) (cat_v7 m c k j p hp _ (by first | rfl | exact (Nat.zero_add _).symm)).symm

/-- A column, split at `off`: its distance from there. -/
theorem strip (n off : ℕ) (h : off + n ≤ 7424) (a : Fin 7424) (h0 : off ≤ a.val) (h1 : a.val < off + n) :
    ∃ q : Fin n, a = ⟨off + q.val, Nat.lt_of_lt_of_le (Nat.add_lt_add_left q.isLt off) h⟩ :=
  ⟨⟨a.val - off, by omega⟩, Fin.ext (by dsimp only; omega)⟩

theorem result_at (c : Dev nD) (i : S4224x7424.Idx) :
    Cert.Reference7Ideal.Read.val_main_v8 (F := Ideal) (A0 m c) (A1 m c) i = ∑ k, term m c i k := by
  obtain ⟨r, a, rfl⟩ := ix2_of i
  have ha := a.isLt
  by_cases h0 : a.val < 4096
  · obtain ⟨q, rfl⟩ := strip 4096 0 (by decide) a (by omega) (by omega)
    exact piece_v1 m c r q _ rfl
  by_cases h1 : a.val < 4480
  · obtain ⟨q, rfl⟩ := strip 384 4096 (by decide) a (by omega) (by omega)
    exact piece_v2 m c r q _ rfl
  by_cases h2 : a.val < 4544
  · obtain ⟨q, rfl⟩ := strip 64 4480 (by decide) a (by omega) (by omega)
    exact piece_v3 m c r q _ rfl
  by_cases h3 : a.val < 4576
  · obtain ⟨q, rfl⟩ := strip 32 4544 (by decide) a (by omega) (by omega)
    exact piece_v4 m c r q _ rfl
  by_cases h4 : a.val < 4608
  · obtain ⟨q, rfl⟩ := strip 32 4576 (by decide) a (by omega) (by omega)
    exact piece_v5 m c r q _ rfl
  by_cases h5 : a.val < 5120
  · obtain ⟨q, rfl⟩ := strip 512 4608 (by decide) a (by omega) (by omega)
    exact piece_v6 m c r q _ rfl
  obtain ⟨q, rfl⟩ := strip 2304 5120 (by decide) a (by omega) (by omega)
  exact piece_v7 m c r q _ rfl

theorem idx_val : ∀ t : Fin cfg0.N, win0_0.index t = ![t.val % 11, 0] ∧ win0_1.index t = ![0, t.val / 11]
    ∧ win0_2.index t = ![t.val % 11, t.val / 11] :=
  (by decide +kernel : ∀ t : Fin grid0.N, _)

section
variable (c : Dev nD) (t : Fin cfg0.N)

theorem points : t.val < 22 := lt_of_lt_of_eq t.isLt N_0

/-- The element of the whole array that element `j` of point `t`'s block is. -/
def loc (j : S384x3712.Idx) : S4224x7424.Idx :=
  ix2 ⟨(t.val % 11) * 384 + (j 0).val, by have h0 : (j 0).val < 384 := (j 0).isLt; omega⟩
    ⟨(t.val / 11) * 3712 + (j 1).val, by have h0 : (j 1).val < 3712 := (j 1).isLt; have := points t; omega⟩

theorem blk0 (k : Fin 1024) (a : Fin 384) (b : Fin 3712) :
    iblk m c 0 t (ix2 a k) = A0 m c (ix2 (loc t (ix2 a b) 0) k) := by
  refine Eq.trans ?_ (entry_h m c _ k)
  blk_ext [iblk, idx_val t, loc]

theorem blk1 (k : Fin 1024) (a : Fin 384) (b : Fin 3712) :
    iblk m c 1 t (ix2 k b) = V m c main_v8 (ix2 k (loc t (ix2 a b) 1)) := by
  refine Eq.trans ?_ (entry_w m c k _)
  blk_ext [iblk, idx_val t, loc]

theorem pay_at (x : Vec Ideal S384x1024 .bf16) (y : Vec Ideal S1024x3712 .bf16) (a : Fin 384) (b : Fin 3712) :
    k0_pay1 x y (ix2 a b) = ∑ k, x (ix2 a k) * y (ix2 k b) := by
  pointwise [k0_pay1]

theorem block_at (a : Fin 384) (b : Fin 3712) :
    out0_2 (iblk m c 0 t) (iblk m c 1 t) (ix2 a b) = ∑ k, term m c (loc t (ix2 a b)) k := by
  unfold out0_2
  frame_out
  refine (pay_at ..).trans (Finset.sum_congr rfl fun k _ => ?_)
  exact congrArg₂ (· * ·) (blk0 m c t k a b) (blk1 m c t k a b)

end

set_option maxHeartbeats 1600000 in
theorem final_2 (c : Dev nD) :
    (dats m 0 c).arrAt 2 (cfgs 0).N = Cert.Reference7Ideal.Read.val_main_v8 (F := Ideal) (A0 m c) (A1 m c) := by
  refine (dats m 0 c).arrAt_eq_of_covers 2 _ (by decide +kernel) fun t hf y => ?_
  blk_simp; rw [after0_2]
  obtain ⟨a, b, rfl⟩ := ix2_of y
  refine (block_at m c t a b).trans ((result_at m c (loc t (ix2 a b))).symm.trans ?_)
  blk_ext [idx_val t, loc]

end Cert.Kernel7Ideal.Value
-- ==== Proof.Run8.lean ====
/-
  The reference's run with its results named.
-/
module

public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Reference8Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
        = Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v45)
        = Read.val_main_v45 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v30)
        = Read.val_main_v30 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v59)
        = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c).1.trans (Read.val_main_v44_eq _ _), (h c).2.1.trans (Read.val_main_v45_eq _ _ _ _ _ _ _ _ _ _), (h c).2.2.1.trans (Read.val_main_v30_eq _ _ _ _ _ _ _ _ _ _ _), (h c).2.2.2.1.trans (Read.val_main_v59_eq _ _), (h c).2.2.2.2⟩)
    (Value.run m ρ)

end Cert.Reference8Ideal
-- ==== Proof.Final8.lean ====
/-
  The merge's forward pass: the eighth kernel's arrays are the eighth reference's results.
-/
module

public import proofs.«01_k».proof.Proof.Row
public import proofs.«01_k».proof.Proof.Thirds
public import proofs.«01_k».proof.Proof.Gen.Kernel8Ideal.Value
public import proofs.«01_k».proof.Proof.Gen.Reference8Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Row

open Idealize.ShloMosaic

/-- A branch's share of the merged row at one element: the gate of its logit times its product. -/
def branch {n : ℕ} (z g : EReal) (u v : Fin n → EReal) : EReal := Ideal.logistic (z + g) * ∑ k, u k * v k

/-- The row with the normed product added, at one element. -/
def added {n : ℕ} (x o g : Fin n → EReal) (b : Fin n) : EReal := x b + o b * rs o * g b

/-- The normed row at one element. -/
def normed {n : ℕ} (x g : Fin n → EReal) (b : Fin n) : EReal := x b * rs x * g b

end Cert.Row

namespace Cert.Reference8Ideal.At

open Cert.Reference8Ideal Cert.Reference8Ideal.Read Cert.Row Idealize.ShloMosaic Idealize.ShloMosaic.TcCoe

variable (x0 : FVec Ideal S4224x1024 .f32) (x1 : FVec Ideal S4224x256 .f32) (x2 : FVec Ideal S4224x512 .f32) (x3 : FVec Ideal S4224x256 .f32) (x4 : FVec Ideal S4224x256 .f32) (x5 : FVec Ideal S4224x7328 .f32) (x6 : FVec Ideal S4096 .f32) (x7 : FVec Ideal S256x1024 .f32) (x8 : FVec Ideal S512x1024 .f32) (x9 : FVec Ideal S256x1024 .f32) (x10 : FVec Ideal S256x1024 .f32) (x11 : FVec Ideal S1024x1024 .f32) (x12 : FVec Ideal S1024 .f32) (x13 : FVec Ideal S1024 .f32)

/-- The merged branches, row `a`, column `b`. -/
def mr (a : Fin 4224) (b : Fin 1024) : EReal :=
  branch (x5 (ix2 a ⟨3232 + b.val, by omega⟩)) (x6 (ix1 ⟨0 + b.val, by omega⟩)) (fun k => x1 (ix2 a k)) (fun k => x7 (ix2 k b)) + branch (x5 (ix2 a ⟨4256 + b.val, by omega⟩)) (x6 (ix1 ⟨1024 + b.val, by omega⟩)) (fun k => x2 (ix2 a k)) (fun k => x8 (ix2 k b)) + branch (x5 (ix2 a ⟨5280 + b.val, by omega⟩)) (x6 (ix1 ⟨2048 + b.val, by omega⟩)) (fun k => x3 (ix2 a k)) (fun k => x9 (ix2 k b)) + branch (x5 (ix2 a ⟨6304 + b.val, by omega⟩)) (x6 (ix1 ⟨3072 + b.val, by omega⟩)) (fun k => x4 (ix2 a k)) (fun k => x10 (ix2 k b))

/-- The product of the merged branches. -/
def outr (a : Fin 4224) (b : Fin 1024) : EReal := ∑ k, mr x1 x2 x3 x4 x5 x6 x7 x8 x9 x10 a k * x11 (ix2 k b)

/-- The residual stream after the layer. -/
def newr (a : Fin 4224) (b : Fin 1024) : EReal :=
  added (fun k => x0 (ix2 a k)) (outr x1 x2 x3 x4 x5 x6 x7 x8 x9 x10 x11 a) (fun k => x12 (ix1 k)) b

theorem gate_at (a : Fin 4224) (j : Fin 4096) :
    val_main_v13 (F := Ideal) x5 x6 (ix2 a j) = Ideal.logistic (x5 (ix2 a ⟨3232 + j.val, by omega⟩) + x6 (ix1 j)) := by
  pointwise [val_main_v13, val_main_v12, val_main_v11, val_main_v10, val_main_v9, val_main_v8, val_main_v7, val_main_v6,
    val_main_v5, val_main_v0, val_main_cst, val_main_cst_0]
  try rfl

theorem branch0_at (a : Fin 4224) (b : Fin 1024) :
    val_main_v17 (F := Ideal) x1 x5 x6 x7 (ix2 a b)
      = branch (x5 (ix2 a ⟨3232 + b.val, by omega⟩)) (x6 (ix1 ⟨0 + b.val, by omega⟩)) (fun k => x1 (ix2 a k)) (fun k => x7 (ix2 k b)) := by
  pointwise [val_main_v17, val_main_v16, val_main_v15, val_main_v14, val_main_v1]
  simp only [gate_at]
  unfold branch
  refine congrArg₂ (· * ·) (congrArg Ideal.logistic (congrArg₂ (· + ·) ?_ ?_)) rfl
  · exact congrArg (fun q => x5 (ix2 a q)) (Fin.ext (by dsimp only <;> omega))
  · exact congrArg (fun q => x6 (ix1 q)) (Fin.ext (by dsimp only <;> omega))

theorem branch1_at (a : Fin 4224) (b : Fin 1024) :
    val_main_v20 (F := Ideal) x2 x5 x6 x8 (ix2 a b)
      = branch (x5 (ix2 a ⟨4256 + b.val, by omega⟩)) (x6 (ix1 ⟨1024 + b.val, by omega⟩)) (fun k => x2 (ix2 a k)) (fun k => x8 (ix2 k b)) := by
  pointwise [val_main_v20, val_main_v19, val_main_v18, val_main_v14, val_main_v2]
  simp only [gate_at]
  unfold branch
  refine congrArg₂ (· * ·) (congrArg Ideal.logistic (congrArg₂ (· + ·) ?_ ?_)) rfl
  · exact congrArg (fun q => x5 (ix2 a q)) (Fin.ext (by dsimp only <;> omega))
  · exact congrArg (fun q => x6 (ix1 q)) (Fin.ext (by dsimp only <;> omega))

theorem branch2_at (a : Fin 4224) (b : Fin 1024) :
    val_main_v24 (F := Ideal) x3 x5 x6 x9 (ix2 a b)
      = branch (x5 (ix2 a ⟨5280 + b.val, by omega⟩)) (x6 (ix1 ⟨2048 + b.val, by omega⟩)) (fun k => x3 (ix2 a k)) (fun k => x9 (ix2 k b)) := by
  pointwise [val_main_v24, val_main_v23, val_main_v22, val_main_v14, val_main_v3]
  simp only [gate_at]
  unfold branch
  refine congrArg₂ (· * ·) (congrArg Ideal.logistic (congrArg₂ (· + ·) ?_ ?_)) rfl
  · exact congrArg (fun q => x5 (ix2 a q)) (Fin.ext (by dsimp only <;> omega))
  · exact congrArg (fun q => x6 (ix1 q)) (Fin.ext (by dsimp only <;> omega))

theorem branch3_at (a : Fin 4224) (b : Fin 1024) :
    val_main_v28 (F := Ideal) x4 x5 x6 x10 (ix2 a b)
      = branch (x5 (ix2 a ⟨6304 + b.val, by omega⟩)) (x6 (ix1 ⟨3072 + b.val, by omega⟩)) (fun k => x4 (ix2 a k)) (fun k => x10 (ix2 k b)) := by
  pointwise [val_main_v28, val_main_v27, val_main_v26, val_main_v14, val_main_v4]
  simp only [gate_at]
  unfold branch
  refine congrArg₂ (· * ·) (congrArg Ideal.logistic (congrArg₂ (· + ·) ?_ ?_)) rfl
  · exact congrArg (fun q => x5 (ix2 a q)) (Fin.ext (by dsimp only <;> omega))
  · exact congrArg (fun q => x6 (ix1 q)) (Fin.ext (by dsimp only <;> omega))

theorem m_at (a : Fin 4224) (b : Fin 1024) : val_main_v29 (F := Ideal) x1 x2 x3 x4 x5 x6 x7 x8 x9 x10 (ix2 a b) = mr x1 x2 x3 x4 x5 x6 x7 x8 x9 x10 a b := by
  pointwise [val_main_v29, val_main_v25, val_main_v21]
  simp only [branch0_at, branch1_at, branch2_at, branch3_at]
  rfl

theorem m_bf16_at (a : Fin 4224) (b : Fin 1024) : val_main_v45 (F := Ideal) x1 x2 x3 x4 x5 x6 x7 x8 x9 x10 (ix2 a b) = mr x1 x2 x3 x4 x5 x6 x7 x8 x9 x10 a b := by
  pointwise [val_main_v45]
  exact m_at ..

theorem out_at (a : Fin 4224) (b : Fin 1024) : val_main_v30 (F := Ideal) x1 x2 x3 x4 x5 x6 x7 x8 x9 x10 x11 (ix2 a b) = outr x1 x2 x3 x4 x5 x6 x7 x8 x9 x10 x11 a b := by
  pointwise [val_main_v30]
  simp only [m_at]
  rfl

theorem new_at (a : Fin 4224) (b : Fin 1024) : val_main_v44 (F := Ideal) x0 x1 x2 x3 x4 x5 x6 x7 x8 x9 x10 x11 x12 (ix2 a b) = newr x0 x1 x2 x3 x4 x5 x6 x7 x8 x9 x10 x11 x12 a b := by
  pointwise [val_main_v44, val_main_v43, val_main_v42, val_main_v41, val_main_v40, val_main_v39, val_main_v38, val_main_v37,
    val_main_v36, val_main_v35, val_main_v34, val_main_v33, val_main_v32, val_main_v31, val_main_cst_1, val_main_cst_2, val_main_cst_3]
  simp only [out_at, zero_add]
  rfl

theorem next_at (a : Fin 4224) (b : Fin 1024) :
    val_main_v59 (F := Ideal) x0 x1 x2 x3 x4 x5 x6 x7 x8 x9 x10 x11 x12 x13 (ix2 a b) = normed (newr x0 x1 x2 x3 x4 x5 x6 x7 x8 x9 x10 x11 x12 a) (fun k => x13 (ix1 k)) b := by
  pointwise [val_main_v59, val_main_v58, val_main_v57, val_main_v56, val_main_v55, val_main_v54, val_main_v53, val_main_v52,
    val_main_v51, val_main_v50, val_main_v49, val_main_v48, val_main_v47, val_main_v46, val_main_cst_4, val_main_cst_5, val_main_cst_6]
  simp only [new_at, zero_add]
  rfl

end Cert.Reference8Ideal.At

namespace Cert.Kernel8Ideal.Value

open Cert.Kernel8Ideal Cert.Kernel8Ideal.Gen Cert.Row Idealize.ShloMosaic Idealize.ShloMosaic.TcCoe Idealize.SL.Sem

section
variable (u0 u2 u3 : Vec Ideal S384x256 .bf16) (u1 : Vec Ideal S384x512 .bf16) (w0 w2 w3 : Vec Ideal S256x1024 .bf16) (w1 : Vec Ideal S512x1024 .bf16)
  (z0 z1 z2 z3 : Vec Ideal S384x1024 .f32) (g0 g1 g2 g3 : Vec Ideal S1x1024 .f32)

/-- The merged branches of a block, at one element. -/
def mb (a : Fin 384) (b : Fin 1024) : EReal :=
  branch (z0 (ix2 a b)) (g0 (ix2 0 b)) (fun k => u0 (ix2 a k)) (fun k => w0 (ix2 k b)) + branch (z1 (ix2 a b)) (g1 (ix2 0 b)) (fun k => u1 (ix2 a k)) (fun k => w1 (ix2 k b)) + branch (z2 (ix2 a b)) (g2 (ix2 0 b)) (fun k => u2 (ix2 a k)) (fun k => w2 (ix2 k b)) + branch (z3 (ix2 a b)) (g3 (ix2 0 b)) (fun k => u3 (ix2 a k)) (fun k => w3 (ix2 k b))

theorem pay3_at (a : Fin 384) (b : Fin 1024) :
    k0_pay3 u0 w0 z0 g0 u1 w1 z1 g1 (ix2 a b)
      = branch (z0 (ix2 a b)) (g0 (ix2 0 b)) (fun k => u0 (ix2 a k)) (fun k => w0 (ix2 k b)) + branch (z1 (ix2 a b)) (g1 (ix2 0 b)) (fun k => u1 (ix2 a k)) (fun k => w1 (ix2 k b)) := by
  pointwise [k0_pay3]
  try simp only [zero_add]
  rfl

theorem pay4_at (a : Fin 384) (b : Fin 1024) : k0_pay4 u2 w2 (ix2 a b) = ∑ k, u2 (ix2 a k) * w2 (ix2 k b) := by
  pointwise [k0_pay4]

theorem pay5_at (a : Fin 384) (b : Fin 1024) :
    k0_pay5 (k0_pay3 u0 w0 z0 g0 u1 w1 z1 g1) (k0_pay4 u2 w2) z2 g2 u3 w3 z3 g3 (ix2 a b)
      = mb u0 u2 u3 u1 w0 w2 w3 w1 z0 z1 z2 z3 g0 g1 g2 g3 a b := by
  pointwise [k0_pay5]
  simp only [pay3_at, pay4_at]
  rfl

end

section
variable (s y z2 z3 : FVec Ideal S384x1024 .f32) (g2 g3 : Vec Ideal S1x1024 .f32) (u3 : Vec Ideal S384x256 .bf16) (w3 : Vec Ideal S256x1024 .bf16)
  (wo : Vec Ideal S1024x1024 .bf16) (x : Vec Ideal S384x1024 .f32) (g gn : Vec Ideal S1x1024 .f32)

theorem pay6_at (a : Fin 384) (b : Fin 1024) :
    k0_pay6 s y z2 g2 u3 w3 z3 g3 wo (ix2 a b) = ∑ k, k0_pay5 s y z2 g2 u3 w3 z3 g3 (ix2 a k) * wo (ix2 k b) := by
  pointwise [k0_pay6]

/-- The product of a block's merged branches. -/
abbrev ob (a : Fin 384) (b : Fin 1024) : EReal := k0_pay6 s y z2 g2 u3 w3 z3 g3 wo (ix2 a b)

theorem pay1_at (a : Fin 384) (b : Fin 1024) :
    k0_pay1 (k0_pay6 s y z2 g2 u3 w3 z3 g3 wo) (k0_pay7 s y z2 g2 u3 w3 z3 g3 wo) x g (ix2 a b)
      = added (fun k => x (ix2 a k)) (ob s y z2 z3 g2 g3 u3 w3 wo a) (fun k => g (ix2 0 k)) b := by
  pointwise [k0_pay1, k0_pay7]
  rfl

theorem pay2_at (a : Fin 384) (b : Fin 1024) :
    k0_pay2 (k0_pay6 s y z2 g2 u3 w3 z3 g3 wo) (k0_pay7 s y z2 g2 u3 w3 z3 g3 wo) x g gn (ix2 a b)
      = normed (added (fun k => x (ix2 a k)) (ob s y z2 z3 g2 g3 u3 w3 wo a) (fun k => g (ix2 0 k))) (fun k => gn (ix2 0 k)) b := by
  pointwise [k0_pay2]
  simp only [pay1_at]
  rfl

end

variable (m : (ℓ : Loc nD τ sig) → Buf (Elt Ideal) ℓ)

/-- Argument 0 of the program. -/
abbrev A0 (c : Dev nD) : FVec Ideal Cert.Reference8Ideal.S4224x1024 .f32 := m ((c : Thread nD τ).loc main_arg0)
/-- Argument 1 of the program. -/
abbrev A1 (c : Dev nD) : FVec Ideal Cert.Reference8Ideal.S4224x256 .f32 := m ((c : Thread nD τ).loc main_arg1)
/-- Argument 2 of the program. -/
abbrev A2 (c : Dev nD) : FVec Ideal Cert.Reference8Ideal.S4224x512 .f32 := m ((c : Thread nD τ).loc main_arg2)
/-- Argument 3 of the program. -/
abbrev A3 (c : Dev nD) : FVec Ideal Cert.Reference8Ideal.S4224x256 .f32 := m ((c : Thread nD τ).loc main_arg3)
/-- Argument 4 of the program. -/
abbrev A4 (c : Dev nD) : FVec Ideal Cert.Reference8Ideal.S4224x256 .f32 := m ((c : Thread nD τ).loc main_arg4)
/-- Argument 5 of the program. -/
abbrev A5 (c : Dev nD) : FVec Ideal Cert.Reference8Ideal.S4224x7328 .f32 := m ((c : Thread nD τ).loc main_arg5)
/-- Argument 6 of the program. -/
abbrev A6 (c : Dev nD) : FVec Ideal Cert.Reference8Ideal.S4096 .f32 := m ((c : Thread nD τ).loc main_arg6)
/-- Argument 7 of the program. -/
abbrev A7 (c : Dev nD) : FVec Ideal Cert.Reference8Ideal.S256x1024 .f32 := m ((c : Thread nD τ).loc main_arg7)
/-- Argument 8 of the program. -/
abbrev A8 (c : Dev nD) : FVec Ideal Cert.Reference8Ideal.S512x1024 .f32 := m ((c : Thread nD τ).loc main_arg8)
/-- Argument 9 of the program. -/
abbrev A9 (c : Dev nD) : FVec Ideal Cert.Reference8Ideal.S256x1024 .f32 := m ((c : Thread nD τ).loc main_arg9)
/-- Argument 10 of the program. -/
abbrev A10 (c : Dev nD) : FVec Ideal Cert.Reference8Ideal.S256x1024 .f32 := m ((c : Thread nD τ).loc main_arg10)
/-- Argument 11 of the program. -/
abbrev A11 (c : Dev nD) : FVec Ideal Cert.Reference8Ideal.S1024x1024 .f32 := m ((c : Thread nD τ).loc main_arg11)
/-- Argument 12 of the program. -/
abbrev A12 (c : Dev nD) : FVec Ideal Cert.Reference8Ideal.S1024 .f32 := m ((c : Thread nD τ).loc main_arg12)
/-- Argument 13 of the program. -/
abbrev A13 (c : Dev nD) : FVec Ideal Cert.Reference8Ideal.S1024 .f32 := m ((c : Thread nD τ).loc main_arg13)

theorem idx_val : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The row of the whole array that row `a` of point `t`'s block is. -/
def row (t : Fin cfg0.N) (a : Fin 384) : Fin 4224 :=
  ⟨t.val * 384 + a.val, by have := lt_of_lt_of_eq t.isLt N_0; omega⟩

section
variable (c : Dev nD) (t : Fin cfg0.N)

theorem blk0 (a : Fin 384) (b : Fin 1024) : iblk m c 0 t (ix2 a b) = A0 m c (ix2 (row t a) b) := by
  blk_ext [iblk, V, idx_val t, row]

theorem entry_v12 (j : Fin 4096) : V m c main_v12 (ix2 0 j) = A6 m c (ix1 j) := by
  entry_read
  pointwise []

theorem entry_v13 (a b : Fin 1024) : V m c main_v13 (ix2 a b) = A11 m c (ix2 a b) := by
  entry_read
  pointwise []

theorem entry_v14 (b : Fin 1024) : V m c main_v14 (ix2 0 b) = A12 m c (ix1 b) := by
  entry_read
  pointwise []

theorem entry_v15 (b : Fin 1024) : V m c main_v15 (ix2 0 b) = A13 m c (ix1 b) := by
  entry_read
  pointwise []

theorem entry_v4 (r : Fin 4224) (j : Fin 4096) : V m c main_v4 (ix2 r j) = A5 m c (ix2 r ⟨3232 + j.val, by omega⟩) := by
  entry_read
  pointwise []

theorem upto4 : StableHlo.upto hostOps0 (fun b => m (c, b)) 13 main_v4 = V m c main_v4 :=
  (StableHlo.upto_last_write (i := 4) [main_v5, main_cst, main_v6, main_v7, main_cst_0, main_v8, main_v9, main_v10] rfl rfl (by decide) _).trans
  (StableHlo.after_last_write (i := 4) [main_v5, main_cst, main_v6, main_v7, main_cst_0, main_v8, main_v9, main_v10, main_v11, main_v12, main_v13, main_v14, main_v15] rfl rfl (by decide) _).symm

theorem entry_v11 (r : Fin 4224) (j : Fin 4096) :
    V m c main_v11 (ix2 r ⟨j.val, by omega⟩) = A5 m c (ix2 r ⟨3232 + j.val, by omega⟩) := by
  rw [← entry_v4, ← upto4]
  have e := StableHlo.after_last_write (ops := (hostOps0 : List (HloOp τ sig (Elt Ideal)))) (i := 13) (r := main_v11)
    [main_v12, main_v13, main_v14, main_v15] rfl rfl (by decide) (fun b => m (c, b))
  rw [StableHlo.nary_result'] at e
  refine (congrFun e _).trans ?_
  apply concatenate_apply_piece (α := Elt Ideal .f32) (t := S4224x7424) (k := 0) (pre := 0) (s₁ := S4224x4096) (hr := rfl) (i := ix2 r j)
    (x₁ := StableHlo.upto hostOps0 (fun b => m (c, b)) 13 main_v4)
  · rfl
  · rfl
  · intro b hb
    fin_cases b
    · rfl
    · exact absurd rfl hb
  · exact Nat.zero_add _
  · exact Nat.succ_pos _

theorem blk2 (a : Fin 384) (j : Fin 4096) : X0_2 m c t (ix2 a j) = A5 m c (ix2 (row t a) ⟨3232 + j.val, by omega⟩) := by
  refine Eq.trans ?_ (entry_v11 m c (row t a) j)
  unfold X0_2 Pipeline.Window.fill
  rw [dif_pos (moved0_2 t _)]
  blk_ext [iblk, idx_val t, row]

theorem blk3 (j : Fin 4096) : iblk m c 3 t (ix2 0 j) = A6 m c (ix1 j) := by
  refine Eq.trans ?_ (entry_v12 m c j)
  blk_ext [iblk, idx_val t]

theorem blk5 (a b : Fin 1024) : iblk m c 5 t (ix2 a b) = A11 m c (ix2 a b) := by
  refine Eq.trans ?_ (entry_v13 m c a b)
  blk_ext [iblk, idx_val t]

theorem blk6 (b : Fin 1024) : iblk m c 6 t (ix2 0 b) = A12 m c (ix1 b) := by
  refine Eq.trans ?_ (entry_v14 m c b)
  blk_ext [iblk, idx_val t]

theorem blk7 (b : Fin 1024) : iblk m c 7 t (ix2 0 b) = A13 m c (ix1 b) := by
  refine Eq.trans ?_ (entry_v15 m c b)
  blk_ext [iblk, idx_val t]

theorem entry1_0 (r : Fin 4224) (b : Fin 256) : V m c main_v1 (ix2 r ⟨0 + b.val, by omega⟩) = A1 m c (ix2 r b) := by
  have hb := b.isLt
  entry_read
  pointwise []
  try (repeat (first | rw [dif_neg (by omega)] | rw [dif_pos (by omega)]))
  try exact congrArg (fun q => A1 m c (ix2 r q)) (Fin.ext (by dsimp only; omega))

theorem entry3_0 (a : Fin 256) (b : Fin 1024) : V m c main_v3 (ix2 ⟨0 + a.val, by omega⟩ b) = A7 m c (ix2 a b) := by
  have ha := a.isLt
  entry_read
  pointwise []
  try (repeat (first | rw [dif_neg (by omega)] | rw [dif_pos (by omega)]))
  try exact congrArg (fun q => A7 m c (ix2 q b)) (Fin.ext (by dsimp only; omega))

theorem blk1_0 (a : Fin 384) (b : Fin 256) : iblk m c 1 t (ix2 a ⟨0 + b.val, by omega⟩) = A1 m c (ix2 (row t a) b) := by
  refine Eq.trans ?_ (entry1_0 m c (row t a) b)
  blk_ext [iblk, idx_val t, row]

theorem blk4_0 (a : Fin 256) (b : Fin 1024) : iblk m c 4 t (ix2 ⟨0 + a.val, by omega⟩ b) = A7 m c (ix2 a b) := by
  refine Eq.trans ?_ (entry3_0 m c a b)
  blk_ext [iblk, idx_val t]

abbrev z0 (h : ∀ a : Fin 2, (![0, 0] : Fin 2 → ℕ) a + (![384, 1024] : Fin 2 → ℕ) a ≤ S384x4096.size a) : FVec Ideal S384x1024 .f32 := View.ld (S := S384x4096) (X0_2 m c t) (Rect.unit ![0, 0] ![384, 1024] h)
abbrev b0 (h : ∀ a : Fin 2, (![0, 0] : Fin 2 → ℕ) a + (![1, 1024] : Fin 2 → ℕ) a ≤ S1x4096.size a) : FVec Ideal S1x1024 .f32 := View.ld (S := S1x4096) (iblk m c 3 t) (Rect.unit ![0, 0] ![1, 1024] h)
abbrev u0 (h : ∀ a : Fin 2, (![0, 0] : Fin 2 → ℕ) a + (![384, 256] : Fin 2 → ℕ) a ≤ S384x1280.size a) : FVec Ideal S384x256 .bf16 := View.ld (S := S384x1280) (iblk m c 1 t) (Rect.unit ![0, 0] ![384, 256] h)
abbrev w0 (h : ∀ a : Fin 2, (![0, 0] : Fin 2 → ℕ) a + (![256, 1024] : Fin 2 → ℕ) a ≤ S1280x1024.size a) : FVec Ideal S256x1024 .bf16 := View.ld (S := S1280x1024) (iblk m c 4 t) (Rect.unit ![0, 0] ![256, 1024] h)

theorem z0_at (h) (a : Fin 384) (b : Fin 1024) :
    z0 m c t h (ix2 a b) = A5 m c (ix2 (row t a) ⟨3232 + b.val, by omega⟩) := by
  refine Eq.trans ?_ ((blk2 m c t a ⟨0 + b.val, by omega⟩).trans ?_)
  · exact View.ld_unit_apply_of _ _ _ _ _ _ (fun i => by fin_cases i <;> simp)
  · exact congrArg (fun q => A5 m c (ix2 (row t a) q)) (Fin.ext (by dsimp only; omega))

theorem b0_at (h) (b : Fin 1024) : b0 m c t h (ix2 0 b) = A6 m c (ix1 ⟨0 + b.val, by omega⟩) := by
  refine Eq.trans ?_ (blk3 m c t ⟨0 + b.val, by omega⟩)
  exact View.ld_unit_apply_of _ _ _ _ _ _ (fun i => by fin_cases i <;> simp)

theorem u0_at (h) (a : Fin 384) (b : Fin 256) : u0 m c t h (ix2 a b) = A1 m c (ix2 (row t a) b) := by
  refine Eq.trans ?_ (blk1_0 m c t a b)
  exact View.ld_unit_apply_of _ _ _ _ _ _ (fun i => by fin_cases i <;> simp)

theorem w0_at (h) (a : Fin 256) (b : Fin 1024) : w0 m c t h (ix2 a b) = A7 m c (ix2 a b) := by
  refine Eq.trans ?_ (blk4_0 m c t a b)
  exact View.ld_unit_apply_of _ _ _ _ _ _ (fun i => by fin_cases i <;> simp)

theorem entry1_1 (r : Fin 4224) (b : Fin 512) : V m c main_v1 (ix2 r ⟨256 + b.val, by omega⟩) = A2 m c (ix2 r b) := by
  have hb := b.isLt
  entry_read
  pointwise []
  try (repeat (first | rw [dif_neg (by omega)] | rw [dif_pos (by omega)]))
  try exact congrArg (fun q => A2 m c (ix2 r q)) (Fin.ext (by dsimp only; omega))

theorem entry3_1 (a : Fin 512) (b : Fin 1024) : V m c main_v3 (ix2 ⟨256 + a.val, by omega⟩ b) = A8 m c (ix2 a b) := by
  have ha := a.isLt
  entry_read
  pointwise []
  try (repeat (first | rw [dif_neg (by omega)] | rw [dif_pos (by omega)]))
  try exact congrArg (fun q => A8 m c (ix2 q b)) (Fin.ext (by dsimp only; omega))

theorem blk1_1 (a : Fin 384) (b : Fin 512) : iblk m c 1 t (ix2 a ⟨256 + b.val, by omega⟩) = A2 m c (ix2 (row t a) b) := by
  refine Eq.trans ?_ (entry1_1 m c (row t a) b)
  blk_ext [iblk, idx_val t, row]

theorem blk4_1 (a : Fin 512) (b : Fin 1024) : iblk m c 4 t (ix2 ⟨256 + a.val, by omega⟩ b) = A8 m c (ix2 a b) := by
  refine Eq.trans ?_ (entry3_1 m c a b)
  blk_ext [iblk, idx_val t]

abbrev z1 (h : ∀ a : Fin 2, (![0, 1024] : Fin 2 → ℕ) a + (![384, 1024] : Fin 2 → ℕ) a ≤ S384x4096.size a) : FVec Ideal S384x1024 .f32 := View.ld (S := S384x4096) (X0_2 m c t) (Rect.unit ![0, 1024] ![384, 1024] h)
abbrev b1 (h : ∀ a : Fin 2, (![0, 1024] : Fin 2 → ℕ) a + (![1, 1024] : Fin 2 → ℕ) a ≤ S1x4096.size a) : FVec Ideal S1x1024 .f32 := View.ld (S := S1x4096) (iblk m c 3 t) (Rect.unit ![0, 1024] ![1, 1024] h)
abbrev u1 (h : ∀ a : Fin 2, (![0, 256] : Fin 2 → ℕ) a + (![384, 512] : Fin 2 → ℕ) a ≤ S384x1280.size a) : FVec Ideal S384x512 .bf16 := View.ld (S := S384x1280) (iblk m c 1 t) (Rect.unit ![0, 256] ![384, 512] h)
abbrev w1 (h : ∀ a : Fin 2, (![256, 0] : Fin 2 → ℕ) a + (![512, 1024] : Fin 2 → ℕ) a ≤ S1280x1024.size a) : FVec Ideal S512x1024 .bf16 := View.ld (S := S1280x1024) (iblk m c 4 t) (Rect.unit ![256, 0] ![512, 1024] h)

theorem z1_at (h) (a : Fin 384) (b : Fin 1024) :
    z1 m c t h (ix2 a b) = A5 m c (ix2 (row t a) ⟨4256 + b.val, by omega⟩) := by
  refine Eq.trans ?_ ((blk2 m c t a ⟨1024 + b.val, by omega⟩).trans ?_)
  · exact View.ld_unit_apply_of _ _ _ _ _ _ (fun i => by fin_cases i <;> simp)
  · exact congrArg (fun q => A5 m c (ix2 (row t a) q)) (Fin.ext (by dsimp only; omega))

theorem b1_at (h) (b : Fin 1024) : b1 m c t h (ix2 0 b) = A6 m c (ix1 ⟨1024 + b.val, by omega⟩) := by
  refine Eq.trans ?_ (blk3 m c t ⟨1024 + b.val, by omega⟩)
  exact View.ld_unit_apply_of _ _ _ _ _ _ (fun i => by fin_cases i <;> simp)

theorem u1_at (h) (a : Fin 384) (b : Fin 512) : u1 m c t h (ix2 a b) = A2 m c (ix2 (row t a) b) := by
  refine Eq.trans ?_ (blk1_1 m c t a b)
  exact View.ld_unit_apply_of _ _ _ _ _ _ (fun i => by fin_cases i <;> simp)

theorem w1_at (h) (a : Fin 512) (b : Fin 1024) : w1 m c t h (ix2 a b) = A8 m c (ix2 a b) := by
  refine Eq.trans ?_ (blk4_1 m c t a b)
  exact View.ld_unit_apply_of _ _ _ _ _ _ (fun i => by fin_cases i <;> simp)

theorem entry1_2 (r : Fin 4224) (b : Fin 256) : V m c main_v1 (ix2 r ⟨768 + b.val, by omega⟩) = A3 m c (ix2 r b) := by
  have hb := b.isLt
  entry_read
  pointwise []
  try (repeat (first | rw [dif_neg (by omega)] | rw [dif_pos (by omega)]))
  try exact congrArg (fun q => A3 m c (ix2 r q)) (Fin.ext (by dsimp only; omega))

theorem entry3_2 (a : Fin 256) (b : Fin 1024) : V m c main_v3 (ix2 ⟨768 + a.val, by omega⟩ b) = A9 m c (ix2 a b) := by
  have ha := a.isLt
  entry_read
  pointwise []
  try (repeat (first | rw [dif_neg (by omega)] | rw [dif_pos (by omega)]))
  try exact congrArg (fun q => A9 m c (ix2 q b)) (Fin.ext (by dsimp only; omega))

theorem blk1_2 (a : Fin 384) (b : Fin 256) : iblk m c 1 t (ix2 a ⟨768 + b.val, by omega⟩) = A3 m c (ix2 (row t a) b) := by
  refine Eq.trans ?_ (entry1_2 m c (row t a) b)
  blk_ext [iblk, idx_val t, row]

theorem blk4_2 (a : Fin 256) (b : Fin 1024) : iblk m c 4 t (ix2 ⟨768 + a.val, by omega⟩ b) = A9 m c (ix2 a b) := by
  refine Eq.trans ?_ (entry3_2 m c a b)
  blk_ext [iblk, idx_val t]

abbrev z2 (h : ∀ a : Fin 2, (![0, 2048] : Fin 2 → ℕ) a + (![384, 1024] : Fin 2 → ℕ) a ≤ S384x4096.size a) : FVec Ideal S384x1024 .f32 := View.ld (S := S384x4096) (X0_2 m c t) (Rect.unit ![0, 2048] ![384, 1024] h)
abbrev b2 (h : ∀ a : Fin 2, (![0, 2048] : Fin 2 → ℕ) a + (![1, 1024] : Fin 2 → ℕ) a ≤ S1x4096.size a) : FVec Ideal S1x1024 .f32 := View.ld (S := S1x4096) (iblk m c 3 t) (Rect.unit ![0, 2048] ![1, 1024] h)
abbrev u2 (h : ∀ a : Fin 2, (![0, 768] : Fin 2 → ℕ) a + (![384, 256] : Fin 2 → ℕ) a ≤ S384x1280.size a) : FVec Ideal S384x256 .bf16 := View.ld (S := S384x1280) (iblk m c 1 t) (Rect.unit ![0, 768] ![384, 256] h)
abbrev w2 (h : ∀ a : Fin 2, (![768, 0] : Fin 2 → ℕ) a + (![256, 1024] : Fin 2 → ℕ) a ≤ S1280x1024.size a) : FVec Ideal S256x1024 .bf16 := View.ld (S := S1280x1024) (iblk m c 4 t) (Rect.unit ![768, 0] ![256, 1024] h)

theorem z2_at (h) (a : Fin 384) (b : Fin 1024) :
    z2 m c t h (ix2 a b) = A5 m c (ix2 (row t a) ⟨5280 + b.val, by omega⟩) := by
  refine Eq.trans ?_ ((blk2 m c t a ⟨2048 + b.val, by omega⟩).trans ?_)
  · exact View.ld_unit_apply_of _ _ _ _ _ _ (fun i => by fin_cases i <;> simp)
  · exact congrArg (fun q => A5 m c (ix2 (row t a) q)) (Fin.ext (by dsimp only; omega))

theorem b2_at (h) (b : Fin 1024) : b2 m c t h (ix2 0 b) = A6 m c (ix1 ⟨2048 + b.val, by omega⟩) := by
  refine Eq.trans ?_ (blk3 m c t ⟨2048 + b.val, by omega⟩)
  exact View.ld_unit_apply_of _ _ _ _ _ _ (fun i => by fin_cases i <;> simp)

theorem u2_at (h) (a : Fin 384) (b : Fin 256) : u2 m c t h (ix2 a b) = A3 m c (ix2 (row t a) b) := by
  refine Eq.trans ?_ (blk1_2 m c t a b)
  exact View.ld_unit_apply_of _ _ _ _ _ _ (fun i => by fin_cases i <;> simp)

theorem w2_at (h) (a : Fin 256) (b : Fin 1024) : w2 m c t h (ix2 a b) = A9 m c (ix2 a b) := by
  refine Eq.trans ?_ (blk4_2 m c t a b)
  exact View.ld_unit_apply_of _ _ _ _ _ _ (fun i => by fin_cases i <;> simp)

theorem entry1_3 (r : Fin 4224) (b : Fin 256) : V m c main_v1 (ix2 r ⟨1024 + b.val, by omega⟩) = A4 m c (ix2 r b) := by
  have hb := b.isLt
  entry_read
  pointwise []
  try (repeat (first | rw [dif_neg (by omega)] | rw [dif_pos (by omega)]))
  try exact congrArg (fun q => A4 m c (ix2 r q)) (Fin.ext (by dsimp only; omega))

theorem entry3_3 (a : Fin 256) (b : Fin 1024) : V m c main_v3 (ix2 ⟨1024 + a.val, by omega⟩ b) = A10 m c (ix2 a b) := by
  have ha := a.isLt
  entry_read
  pointwise []
  try (repeat (first | rw [dif_neg (by omega)] | rw [dif_pos (by omega)]))
  try exact congrArg (fun q => A10 m c (ix2 q b)) (Fin.ext (by dsimp only; omega))

theorem blk1_3 (a : Fin 384) (b : Fin 256) : iblk m c 1 t (ix2 a ⟨1024 + b.val, by omega⟩) = A4 m c (ix2 (row t a) b) := by
  refine Eq.trans ?_ (entry1_3 m c (row t a) b)
  blk_ext [iblk, idx_val t, row]

theorem blk4_3 (a : Fin 256) (b : Fin 1024) : iblk m c 4 t (ix2 ⟨1024 + a.val, by omega⟩ b) = A10 m c (ix2 a b) := by
  refine Eq.trans ?_ (entry3_3 m c a b)
  blk_ext [iblk, idx_val t]

abbrev z3 (h : ∀ a : Fin 2, (![0, 3072] : Fin 2 → ℕ) a + (![384, 1024] : Fin 2 → ℕ) a ≤ S384x4096.size a) : FVec Ideal S384x1024 .f32 := View.ld (S := S384x4096) (X0_2 m c t) (Rect.unit ![0, 3072] ![384, 1024] h)
abbrev b3 (h : ∀ a : Fin 2, (![0, 3072] : Fin 2 → ℕ) a + (![1, 1024] : Fin 2 → ℕ) a ≤ S1x4096.size a) : FVec Ideal S1x1024 .f32 := View.ld (S := S1x4096) (iblk m c 3 t) (Rect.unit ![0, 3072] ![1, 1024] h)
abbrev u3 (h : ∀ a : Fin 2, (![0, 1024] : Fin 2 → ℕ) a + (![384, 256] : Fin 2 → ℕ) a ≤ S384x1280.size a) : FVec Ideal S384x256 .bf16 := View.ld (S := S384x1280) (iblk m c 1 t) (Rect.unit ![0, 1024] ![384, 256] h)
abbrev w3 (h : ∀ a : Fin 2, (![1024, 0] : Fin 2 → ℕ) a + (![256, 1024] : Fin 2 → ℕ) a ≤ S1280x1024.size a) : FVec Ideal S256x1024 .bf16 := View.ld (S := S1280x1024) (iblk m c 4 t) (Rect.unit ![1024, 0] ![256, 1024] h)

theorem z3_at (h) (a : Fin 384) (b : Fin 1024) :
    z3 m c t h (ix2 a b) = A5 m c (ix2 (row t a) ⟨6304 + b.val, by omega⟩) := by
  refine Eq.trans ?_ ((blk2 m c t a ⟨3072 + b.val, by omega⟩).trans ?_)
  · exact View.ld_unit_apply_of _ _ _ _ _ _ (fun i => by fin_cases i <;> simp)
  · exact congrArg (fun q => A5 m c (ix2 (row t a) q)) (Fin.ext (by dsimp only; omega))

theorem b3_at (h) (b : Fin 1024) : b3 m c t h (ix2 0 b) = A6 m c (ix1 ⟨3072 + b.val, by omega⟩) := by
  refine Eq.trans ?_ (blk3 m c t ⟨3072 + b.val, by omega⟩)
  exact View.ld_unit_apply_of _ _ _ _ _ _ (fun i => by fin_cases i <;> simp)

theorem u3_at (h) (a : Fin 384) (b : Fin 256) : u3 m c t h (ix2 a b) = A4 m c (ix2 (row t a) b) := by
  refine Eq.trans ?_ (blk1_3 m c t a b)
  exact View.ld_unit_apply_of _ _ _ _ _ _ (fun i => by fin_cases i <;> simp)

theorem w3_at (h) (a : Fin 256) (b : Fin 1024) : w3 m c t h (ix2 a b) = A10 m c (ix2 a b) := by
  refine Eq.trans ?_ (blk4_3 m c t a b)
  exact View.ld_unit_apply_of _ _ _ _ _ _ (fun i => by fin_cases i <;> simp)

theorem m_blk (hz0 hz1 hz2 hz3 hb0 hb1 hb2 hb3 hu0 hu1 hu2 hu3 hw0 hw1 hw2 hw3) (a : Fin 384) (b : Fin 1024) :
    k0_pay5 (F := Ideal) (k0_pay3 (u0 m c t hu0) (w0 m c t hw0) (z0 m c t hz0) (b0 m c t hb0) (u1 m c t hu1) (w1 m c t hw1) (z1 m c t hz1) (b1 m c t hb1)) (k0_pay4 (u2 m c t hu2) (w2 m c t hw2)) (z2 m c t hz2) (b2 m c t hb2) (u3 m c t hu3) (w3 m c t hw3) (z3 m c t hz3) (b3 m c t hb3) (ix2 a b)
      = Cert.Reference8Ideal.At.mr (A1 m c) (A2 m c) (A3 m c) (A4 m c) (A5 m c) (A6 m c) (A7 m c) (A8 m c) (A9 m c) (A10 m c) (row t a) b := by
  refine Eq.trans (pay5_at (u0 m c t hu0) (u2 m c t hu2) (u3 m c t hu3) (u1 m c t hu1) (w0 m c t hw0) (w2 m c t hw2) (w3 m c t hw3) (w1 m c t hw1)
    (z0 m c t hz0) (z1 m c t hz1) (z2 m c t hz2) (z3 m c t hz3) (b0 m c t hb0) (b1 m c t hb1) (b2 m c t hb2) (b3 m c t hb3) a b) ?_
  unfold mb
  simp only [z0_at, z1_at, z2_at, z3_at, b0_at, b1_at, b2_at, b3_at, u0_at, u1_at, u2_at, u3_at, w0_at, w1_at, w2_at, w3_at]
  rfl

theorem o_blk (hz0 hz1 hz2 hz3 hb0 hb1 hb2 hb3 hu0 hu1 hu2 hu3 hw0 hw1 hw2 hw3) (a : Fin 384) (b : Fin 1024) :
    k0_pay6 (k0_pay3 (u0 m c t hu0) (w0 m c t hw0) (z0 m c t hz0) (b0 m c t hb0) (u1 m c t hu1) (w1 m c t hw1) (z1 m c t hz1) (b1 m c t hb1)) (k0_pay4 (u2 m c t hu2) (w2 m c t hw2)) (z2 m c t hz2) (b2 m c t hb2) (u3 m c t hu3) (w3 m c t hw3) (z3 m c t hz3) (b3 m c t hb3) (iblk m c 5 t) (ix2 a b)
      = Cert.Reference8Ideal.At.outr (A1 m c) (A2 m c) (A3 m c) (A4 m c) (A5 m c) (A6 m c) (A7 m c) (A8 m c) (A9 m c) (A10 m c) (A11 m c) (row t a) b := by
  refine (pay6_at ..).trans ?_
  exact Finset.sum_congr rfl fun k _ => congrArg₂ (· * ·) (m_blk m c t hz0 hz1 hz2 hz3 hb0 hb1 hb2 hb3 hu0 hu1 hu2 hu3 hw0 hw1 hw2 hw3 a k) (blk5 m c t k b)

theorem new_blk (hz0 hz1 hz2 hz3 hb0 hb1 hb2 hb3 hu0 hu1 hu2 hu3 hw0 hw1 hw2 hw3) (a : Fin 384) (b : Fin 1024) :
    k0_pay1 (k0_pay6 (k0_pay3 (u0 m c t hu0) (w0 m c t hw0) (z0 m c t hz0) (b0 m c t hb0) (u1 m c t hu1) (w1 m c t hw1) (z1 m c t hz1) (b1 m c t hb1)) (k0_pay4 (u2 m c t hu2) (w2 m c t hw2)) (z2 m c t hz2) (b2 m c t hb2) (u3 m c t hu3) (w3 m c t hw3) (z3 m c t hz3) (b3 m c t hb3) (iblk m c 5 t)) (k0_pay7 (k0_pay3 (u0 m c t hu0) (w0 m c t hw0) (z0 m c t hz0) (b0 m c t hb0) (u1 m c t hu1) (w1 m c t hw1) (z1 m c t hz1) (b1 m c t hb1)) (k0_pay4 (u2 m c t hu2) (w2 m c t hw2)) (z2 m c t hz2) (b2 m c t hb2) (u3 m c t hu3) (w3 m c t hw3) (z3 m c t hz3) (b3 m c t hb3) (iblk m c 5 t)) (iblk m c 0 t) (iblk m c 6 t) (ix2 a b)
      = Cert.Reference8Ideal.At.newr (A0 m c) (A1 m c) (A2 m c) (A3 m c) (A4 m c) (A5 m c) (A6 m c) (A7 m c) (A8 m c) (A9 m c) (A10 m c) (A11 m c) (A12 m c) (row t a) b := by
  refine (pay1_at ..).trans ?_
  unfold Cert.Reference8Ideal.At.newr
  congr 1
  · exact funext fun k => blk0 m c t a k
  · exact funext fun k => o_blk m c t hz0 hz1 hz2 hz3 hb0 hb1 hb2 hb3 hu0 hu1 hu2 hu3 hw0 hw1 hw2 hw3 a k
  · exact funext fun k => blk6 m c t k

theorem next_blk (hz0 hz1 hz2 hz3 hb0 hb1 hb2 hb3 hu0 hu1 hu2 hu3 hw0 hw1 hw2 hw3) (a : Fin 384) (b : Fin 1024) :
    k0_pay2 (k0_pay6 (k0_pay3 (u0 m c t hu0) (w0 m c t hw0) (z0 m c t hz0) (b0 m c t hb0) (u1 m c t hu1) (w1 m c t hw1) (z1 m c t hz1) (b1 m c t hb1)) (k0_pay4 (u2 m c t hu2) (w2 m c t hw2)) (z2 m c t hz2) (b2 m c t hb2) (u3 m c t hu3) (w3 m c t hw3) (z3 m c t hz3) (b3 m c t hb3) (iblk m c 5 t)) (k0_pay7 (k0_pay3 (u0 m c t hu0) (w0 m c t hw0) (z0 m c t hz0) (b0 m c t hb0) (u1 m c t hu1) (w1 m c t hw1) (z1 m c t hz1) (b1 m c t hb1)) (k0_pay4 (u2 m c t hu2) (w2 m c t hw2)) (z2 m c t hz2) (b2 m c t hb2) (u3 m c t hu3) (w3 m c t hw3) (z3 m c t hz3) (b3 m c t hb3) (iblk m c 5 t)) (iblk m c 0 t) (iblk m c 6 t) (iblk m c 7 t) (ix2 a b)
      = normed (Cert.Reference8Ideal.At.newr (A0 m c) (A1 m c) (A2 m c) (A3 m c) (A4 m c) (A5 m c) (A6 m c) (A7 m c) (A8 m c) (A9 m c) (A10 m c) (A11 m c) (A12 m c) (row t a)) (fun k => A13 m c (ix1 k)) b := by
  refine (pay2_at ..).trans ?_
  congr 1
  · exact funext fun k => (pay1_at ..).symm.trans (new_blk m c t hz0 hz1 hz2 hz3 hb0 hb1 hb2 hb3 hu0 hu1 hu2 hu3 hw0 hw1 hw2 hw3 a k)
  · exact funext fun k => blk7 m c t k

end

set_option maxHeartbeats 1600000 in
theorem final_8 (c : Dev nD) :
    (dats m 0 c).arrAt 8 (cfgs 0).N = Cert.Reference8Ideal.Read.val_main_v44 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_covers 8 _ (by decide +kernel) fun t hf y => ?_
  blk_simp; rw [after0_8]
  obtain ⟨a, b, rfl⟩ := ix2_of y
  unfold outsAt0 out0_A_8; dsimp only; frame_out
  refine (new_blk m c t _ _ _ _ _ _ _ _ _ _ _ _ _ _ _ _ a b).trans ((Cert.Reference8Ideal.At.new_at .. : Cert.Reference8Ideal.Read.val_main_v44 (F := Ideal) (A0 m c) (A1 m c) (A2 m c) (A3 m c) (A4 m c) (A5 m c) (A6 m c) (A7 m c) (A8 m c) (A9 m c) (A10 m c) (A11 m c) (A12 m c) (ix2 (row t a) b) = _).symm.trans ?_)
  blk_ext [idx_val t, row]

set_option maxHeartbeats 1600000 in
theorem final_9 (c : Dev nD) :
    (dats m 0 c).arrAt 9 (cfgs 0).N = Cert.Reference8Ideal.Read.val_main_v45 (F := Ideal) (A1 m c) (A2 m c) (A3 m c) (A4 m c) (A5 m c) (A6 m c) (A7 m c) (A8 m c) (A9 m c) (A10 m c) := by
  refine (dats m 0 c).arrAt_eq_of_covers 9 _ (by decide +kernel) fun t hf y => ?_
  blk_simp; rw [after0_9]
  obtain ⟨a, b, rfl⟩ := ix2_of y
  unfold outsAt0 out0_A_9; dsimp only; frame_out
  refine (m_blk m c t _ _ _ _ _ _ _ _ _ _ _ _ _ _ _ _ a b).trans ((Cert.Reference8Ideal.At.m_bf16_at .. : Cert.Reference8Ideal.Read.val_main_v45 (F := Ideal) (A1 m c) (A2 m c) (A3 m c) (A4 m c) (A5 m c) (A6 m c) (A7 m c) (A8 m c) (A9 m c) (A10 m c) (ix2 (row t a) b) = _).symm.trans ?_)
  blk_ext [idx_val t, row]

set_option maxHeartbeats 1600000 in
theorem final_10 (c : Dev nD) :
    (dats m 0 c).arrAt 10 (cfgs 0).N = Cert.Reference8Ideal.Read.val_main_v30 (F := Ideal) (A1 m c) (A2 m c) (A3 m c) (A4 m c) (A5 m c) (A6 m c) (A7 m c) (A8 m c) (A9 m c) (A10 m c) (A11 m c) := by
  refine (dats m 0 c).arrAt_eq_of_covers 10 _ (by decide +kernel) fun t hf y => ?_
  blk_simp; rw [after0_10]
  obtain ⟨a, b, rfl⟩ := ix2_of y
  unfold outsAt0 out0_A_10; dsimp only; frame_out
  refine (o_blk m c t _ _ _ _ _ _ _ _ _ _ _ _ _ _ _ _ a b).trans ((Cert.Reference8Ideal.At.out_at .. : Cert.Reference8Ideal.Read.val_main_v30 (F := Ideal) (A1 m c) (A2 m c) (A3 m c) (A4 m c) (A5 m c) (A6 m c) (A7 m c) (A8 m c) (A9 m c) (A10 m c) (A11 m c) (ix2 (row t a) b) = _).symm.trans ?_)
  blk_ext [idx_val t, row]

set_option maxHeartbeats 1600000 in
theorem final_11 (c : Dev nD) :
    (dats m 0 c).arrAt 11 (cfgs 0).N = Cert.Reference8Ideal.Read.val_main_v59 (F := Ideal) (A0 m c) (A1 m c) (A2 m c) (A3 m c) (A4 m c) (A5 m c) (A6 m c) (A7 m c) (A8 m c) (A9 m c) (A10 m c) (A11 m c) (A12 m c) (A13 m c) := by
  refine (dats m 0 c).arrAt_eq_of_covers 11 _ (by decide +kernel) fun t hf y => ?_
  blk_simp; rw [after0_11]
  obtain ⟨a, b, rfl⟩ := ix2_of y
  unfold outsAt0 out0_A_11; dsimp only; frame_out
  refine (next_blk m c t _ _ _ _ _ _ _ _ _ _ _ _ _ _ _ _ a b).trans ((Cert.Reference8Ideal.At.next_at .. : Cert.Reference8Ideal.Read.val_main_v59 (F := Ideal) (A0 m c) (A1 m c) (A2 m c) (A3 m c) (A4 m c) (A5 m c) (A6 m c) (A7 m c) (A8 m c) (A9 m c) (A10 m c) (A11 m c) (A12 m c) (A13 m c) (ix2 (row t a) b) = _).symm.trans ?_)
  blk_ext [idx_val t, row]

end Cert.Kernel8Ideal.Value
-- ==== Proof.Run9.lean ====
/-
  The reference's run with its results named.
-/
module

public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init

@[expose] public section

noncomputable section

namespace Cert.Reference9Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
        = Read.val_main_v9 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (Read.val_main_v9_eq _ _), (h c).2⟩)
    (Value.run m ρ)

end Cert.Reference9Ideal
-- ==== Proof.Final9.lean ====
/-
  The gradient of the input projection's columns of the attention: the ninth kernel's array is the ninth reference's result.
-/
module

public import proofs.«01_k».proof.Proof.Thirds
public import proofs.«01_k».proof.Proof.Gen.Kernel9Ideal.Value
public import proofs.«01_k».proof.Proof.Gen.Reference9Ideal.Read
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel9Ideal.Value

open Cert.Kernel9Ideal Cert.Kernel9Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference9Ideal.S4224x1024 .f32 := m ((c : Thread nD τ).loc main_arg0)
/-- Argument 1 of the program. -/
abbrev A1 (c : Dev nD) : FVec Ideal Cert.Reference9Ideal.S4224x7328 .f32 := m ((c : Thread nD τ).loc main_arg1)

/-- The packed columns of the projection's gradient: 384 of them, 64 of zeros, 32, and 32 of zeros. -/
def pk (x : Fin 7328 → EReal) (j : Fin 512) : EReal :=
  if h : j.val < 384 then x ⟨512 + j.val, by omega⟩
  else if h : j.val - 384 < 64 then 0
  else if h : j.val - 384 - 64 < 32 then x ⟨896 + (j.val - 384 - 64), by omega⟩
  else 0

theorem upto6_v0 (c : Dev nD) : StableHlo.upto hostOps0 (fun b => m (c, b)) 6 main_v0 = V m c main_v0 :=
  (StableHlo.upto_last_write (i := 0) [main_cst, main_v1, main_v2, main_cst_0, main_v3] rfl rfl (by decide) _).trans
  (StableHlo.after_last_write (i := 0) [main_cst, main_v1, main_v2, main_cst_0, main_v3, main_v4, main_v5, main_v6] rfl rfl (by decide) _).symm

theorem upto6_v1 (c : Dev nD) : StableHlo.upto hostOps0 (fun b => m (c, b)) 6 main_v1 = V m c main_v1 :=
  (StableHlo.upto_last_write (i := 2) [main_v2, main_cst_0, main_v3] rfl rfl (by decide) _).trans
  (StableHlo.after_last_write (i := 2) [main_v2, main_cst_0, main_v3, main_v4, main_v5, main_v6] rfl rfl (by decide) _).symm

theorem upto6_v2 (c : Dev nD) : StableHlo.upto hostOps0 (fun b => m (c, b)) 6 main_v2 = V m c main_v2 :=
  (StableHlo.upto_last_write (i := 3) [main_cst_0, main_v3] rfl rfl (by decide) _).trans
  (StableHlo.after_last_write (i := 3) [main_cst_0, main_v3, main_v4, main_v5, main_v6] rfl rfl (by decide) _).symm

theorem upto6_v3 (c : Dev nD) : StableHlo.upto hostOps0 (fun b => m (c, b)) 6 main_v3 = V m c main_v3 :=
  (StableHlo.upto_last_write (i := 5) [] rfl rfl (by decide) _).trans
  (StableHlo.after_last_write (i := 5) [main_v4, main_v5, main_v6] rfl rfl (by decide) _).symm

theorem eq_v4 (c : Dev nD) : V m c main_v4 = concatenate S4224x512 1 [⟨S4224x384, (V m c main_v0 : FVec Ideal S4224x384 .f32)⟩, ⟨S4224x64, (V m c main_v1 : FVec Ideal S4224x64 .f32)⟩, ⟨S4224x32, (V m c main_v2 : FVec Ideal S4224x32 .f32)⟩, ⟨S4224x32, (V m c main_v3 : FVec Ideal S4224x32 .f32)⟩] concatenates_S4224x384_S4224x64_S4224x32_S4224x32_S4224x512_d1 := by
  have e := StableHlo.after_last_write (ops := (hostOps0 : List (HloOp τ sig (Elt Ideal)))) (i := 6) (r := main_v4)
    [main_v5, main_v6] rfl rfl (by decide) (fun b => m (c, b))
  rw [StableHlo.nary_result'] at e
  refine e.trans ?_
  show concatenate S4224x512 1 [⟨S4224x384, (StableHlo.upto hostOps0 (fun b => m (c, b)) 6 main_v0 : FVec Ideal S4224x384 .f32)⟩, ⟨S4224x64, (StableHlo.upto hostOps0 (fun b => m (c, b)) 6 main_v1 : FVec Ideal S4224x64 .f32)⟩, ⟨S4224x32, (StableHlo.upto hostOps0 (fun b => m (c, b)) 6 main_v2 : FVec Ideal S4224x32 .f32)⟩, ⟨S4224x32, (StableHlo.upto hostOps0 (fun b => m (c, b)) 6 main_v3 : FVec Ideal S4224x32 .f32)⟩] concatenates_S4224x384_S4224x64_S4224x32_S4224x32_S4224x512_d1 = _
  rw [upto6_v0, upto6_v1, upto6_v2, upto6_v3]

theorem src_v0 (c : Dev nD) (r : Fin 4224) (j : Fin 384) : V m c main_v0 (ix2 r j) = A1 m c (ix2 r ⟨512 + j.val, by omega⟩) := by
  entry_read
  pointwise []

theorem src_v1 (c : Dev nD) (r : Fin 4224) (j : Fin 64) : V m c main_v1 (ix2 r j) = (0 : EReal) := by
  entry_read
  pointwise []

theorem src_v2 (c : Dev nD) (r : Fin 4224) (j : Fin 32) : V m c main_v2 (ix2 r j) = A1 m c (ix2 r ⟨896 + j.val, by omega⟩) := by
  entry_read
  pointwise []

theorem src_v3 (c : Dev nD) (r : Fin 4224) (j : Fin 32) : V m c main_v3 (ix2 r j) = (0 : EReal) := by
  entry_read
  pointwise []

theorem entry_v4 (c : Dev nD) (r : Fin 4224) (j : Fin 512) :
    V m c main_v4 (ix2 r j) = pk (fun q => A1 m c (ix2 r q)) j := by
  rw [eq_v4]
  unfold pk
  pointwise []
  refine dite_congr rfl (fun _ => src_v0 m c r _) fun _ => ?_
  refine dite_congr rfl (fun _ => src_v1 m c r _) fun _ => ?_
  exact dite_congr rfl (fun _ => src_v2 m c r _) fun _ => src_v3 m c r _

theorem upto8_v4 (c : Dev nD) : StableHlo.upto hostOps0 (fun b => m (c, b)) 8 main_v4 = V m c main_v4 :=
  (StableHlo.upto_last_write (i := 6) [main_v5] rfl rfl (by decide) _).trans
  (StableHlo.after_last_write (i := 6) [main_v5, main_v6] rfl rfl (by decide) _).symm

theorem entry_B (c : Dev nD) (r : Fin 4224) (j : Fin 512) :
    V m c main_v6 (ix2 r j) = pk (fun q => A1 m c (ix2 r q)) j := by
  have e := StableHlo.after_last_write (ops := (hostOps0 : List (HloOp τ sig (Elt Ideal)))) (i := 8) (r := main_v6)
    [] rfl rfl (by decide) (fun b => m (c, b))
  rw [StableHlo.unary_result'] at e
  refine (congrFun e _).trans ?_
  exact (congrFun (upto8_v4 m c) _).trans (entry_v4 m c r j)

/-- The terms of the sum that output element `i` is. -/
def term (c : Dev nD) (i : S1024x512.Idx) (k : Fin 4224) : EReal := A0 m c (ix2 k (i 0)) * pk (fun q => A1 m c (ix2 k q)) (i 1)

theorem idx_val : ∀ t : Fin cfg0.N, win0_0.index t = ![t.val % 3, 0] ∧ win0_1.index t = ![t.val % 3, 0]
    ∧ win0_2.index t = ![0, 0] :=
  (by decide +kernel : ∀ t : Fin grid0.N, _)

section
variable (c : Dev nD) (t : Fin cfg0.N)

theorem points : t.val < 3 := lt_of_lt_of_eq t.isLt N_0

/-- The element of the whole array that element `j` of point `t`'s block is. -/
def loc (j : S1024x512.Idx) : S1024x512.Idx :=
  ix2 ⟨(0) * 1024 + (j 0).val, by have h0 : (j 0).val < 1024 := (j 0).isLt; have := points t; omega⟩
    ⟨(0) * 512 + (j 1).val, by have h0 : (j 1).val < 512 := (j 1).isLt; have := points t; omega⟩

theorem loc_prev (h : ¬t.val % 3 = 0) (j : S1024x512.Idx) : loc ⟨t.val - 1, by omega⟩ j = loc t j := by
  have e : (t.val - 1) / 3 = t.val / 3 := by omega
  simp only [loc, e]

/-- The row of the whole array that row `k` of point `t`'s blocks is. -/
def row (k : Fin 1408) : Fin 4224 := ⟨t.val % 3 * 1408 + k.val, by omega⟩

theorem entry_A (r : Fin 4224) (j : Fin 1024) : V m c main_v5 (ix2 r j) = A0 m c (ix2 r j) := by
  entry_read
  pointwise []

theorem blk0 (k : Fin 1408) (a : Fin 1024) (b : Fin 512) :
    iblk m c 0 t (ix2 k a) = A0 m c (ix2 (row t k) (loc t (ix2 a b) 0)) := by
  refine Eq.trans ?_ (entry_A m c (row t k) _)
  blk_ext [iblk, idx_val t, row, loc]

theorem blk1 (k : Fin 1408) (a : Fin 1024) (b : Fin 512) :
    iblk m c 1 t (ix2 k b) = pk (fun q => A1 m c (ix2 (row t k) q)) (loc t (ix2 a b) 1) := by
  refine Eq.trans ?_ (entry_B m c (row t k) _)
  blk_ext [iblk, idx_val t, row, loc]

theorem pay_at (x : Vec Ideal S1408x1024 .bf16) (y : Vec Ideal S1408x512 .bf16) (a : Fin 1024) (b : Fin 512) :
    k0_pay1 x y (ix2 a b) = ∑ k, x (ix2 k a) * y (ix2 k b) := by
  pointwise [k0_pay1]

theorem pay_blk (a : Fin 1024) (b : Fin 512) :
    k0_pay1 (iblk m c 0 t) (iblk m c 1 t) (ix2 a b) = third (term m c (loc t (ix2 a b))) ⟨t.val % 3, Nat.mod_lt _ (by decide)⟩ := by
  refine (pay_at ..).trans (Finset.sum_congr rfl fun k _ => ?_)
  exact congrArg₂ (· * ·) (blk0 m c t k a b) (blk1 m c t k a b)

theorem first (h : t.val % 3 = 0) (j : S1024x512.Idx) :
    (outsAt0 m c t.val t.isLt).2 j = third (term m c (loc t j)) ⟨t.val % 3, Nat.mod_lt _ (by decide)⟩ := by
  rw [outsAt0_A m c t h (by have := points t; omega) (by omega)]; dsimp only; frame_out
  obtain ⟨a, b, rfl⟩ := ix2_of j
  refine Eq.trans ?_ (pay_blk m c t a b)
  pointwise [k0_pay2]

theorem pay3_at (acc : Vec Ideal S1024x512 .f32) (a : Fin 1024) (b : Fin 512) :
    k0_pay3 (iblk m c 0 t) (iblk m c 1 t) acc (ix2 a b)
      = acc (ix2 a b) + third (term m c (loc t (ix2 a b))) ⟨t.val % 3, Nat.mod_lt _ (by decide)⟩ := by
  rw [← pay_blk]
  pointwise [k0_pay3]

theorem step (h : ¬t.val % 3 = 0) (j : S1024x512.Idx) :
    (outsAt0 m c t.val t.isLt).2 j
      = (outsAt0 m c (t.val - 1) (Nat.lt_of_le_of_lt (Nat.sub_le _ _) t.isLt)).2 j
        + third (term m c (loc t j)) ⟨t.val % 3, Nat.mod_lt _ (by decide)⟩ := by
  obtain ⟨a, b, rfl⟩ := ix2_of j
  by_cases h2 : t.val % 3 = 2
  · rw [outsAt0_C m c t h (by omega) h2]; dsimp only; frame_out
    exact (pay3_at m c t _ a b).trans (congrArg (· + _) (congrFun (Memref.IsWhole.read_unread _ _) _))
  · rw [outsAt0_B m c t h (by omega) h2]; dsimp only; frame_out
    exact (pay3_at m c t _ a b).trans (congrArg (· + _) (congrFun (Memref.IsWhole.read_unread _ _) _))

theorem out_last (h : t.val % 3 = 2) (j : S1024x512.Idx) :
    (outsAt0 m c t.val t.isLt).1 j = (outsAt0 m c t.val t.isLt).2 j := by
  obtain ⟨a, b, rfl⟩ := ix2_of j
  rw [outsAt0_C m c t (by omega) (by omega) h]; dsimp only; frame_out
  pointwise [k0_pay4]

theorem block_at (h : t.val % 3 = 2) (j : S1024x512.Idx) :
    (outsAt0 m c t.val t.isLt).1 j = ∑ k, term m c (loc t j) k := by
  have e1 := step m c ⟨t.val - 1, by omega⟩ (show ¬(t.val - 1) % 3 = 0 by omega) j
  have e0 := first m c ⟨t.val - 1 - 1, by omega⟩ (show (t.val - 1 - 1) % 3 = 0 by omega) j
  have l1 := loc_prev t (by omega) j
  have l0 := loc_prev ⟨t.val - 1, by omega⟩ (show ¬(t.val - 1) % 3 = 0 by omega) j
  rw [out_last m c t h, step m c t (by omega), ← thirds]
  refine congrArg₂ (· + ·) (e1.trans (congrArg₂ (· + ·) (e0.trans ?_) ?_)) ?_
  · rw [l0, l1]; exact congrArg _ (Fin.ext (show (t.val - 1 - 1) % 3 = 0 by omega))
  · rw [l1]; exact congrArg _ (Fin.ext (show (t.val - 1) % 3 = 1 by omega))
  · exact congrArg _ (Fin.ext h)

end

theorem result_at (c : Dev nD) (i : S1024x512.Idx) :
    Cert.Reference9Ideal.Read.val_main_v9 (F := Ideal) (A0 m c) (A1 m c) i = ∑ k, term m c i k := by
  obtain ⟨a, b, rfl⟩ := ix2_of i
  unfold term pk
  pointwise [Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_cst_0, Cert.Reference9Ideal.Read.val_main_cst_1]
  split
  · exact Finset.sum_congr rfl fun k _ => mul_comm _ _
  split
  · simp
  split
  · exact Finset.sum_congr rfl fun k _ => mul_comm _ _
  · simp

set_option maxHeartbeats 1600000 in
theorem final_2 (c : Dev nD) :
    (dats m 0 c).arrAt 2 (cfgs 0).N = Cert.Reference9Ideal.Read.val_main_v9 (F := Ideal) (A0 m c) (A1 m c) := by
  refine (dats m 0 c).arrAt_eq_of_covers 2 _ (by decide +kernel) fun t hf y => ?_
  blk_simp; rw [after0_2]
  have h : t.val % 3 = 2 := (flush0_2 t).mp hf
  obtain ⟨a, b, rfl⟩ := ix2_of y
  refine (block_at m c t h (ix2 a b)).trans ((result_at m c (loc t (ix2 a b))).symm.trans ?_)
  blk_ext [idx_val t, loc]

end Cert.Kernel9Ideal.Value
-- ==== Proof.Run10.lean ====
/-
  The reference's run with its results named.
-/
module

public import proofs.«01_k».proof.Proof.Gen.Reference10Ideal
public import proofs.«01_k».proof.Proof.Gen.Reference10Ideal.Run
public import proofs.«01_k».proof.Proof.Gen.Reference10Ideal.Read
public import Idealize.ShloMosaic.Adequacy
public import Idealize.ShloMosaic.Init

@[expose] public section

noncomputable section

namespace Cert.Reference10Ideal

open Idealize.ShloMosaic Idealize.ShloMosaic.TcCoe Idealize.SL.Sem

/-- The reference's run, its results named. -/
theorem named_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68)
        = Read.val_main_v68 (F := Ideal) (m ((c.tc : Thread nD τ).loc main_arg0)) (m ((c.tc : Thread nD τ).loc main_arg1))
      ∧ r.2.mem ((c.tc : Thread nD τ).loc main_v69)
        = Read.val_main_v69 (F := Ideal) (m ((c.tc : Thread nD τ).loc main_arg0)) (m ((c.tc : Thread nD τ).loc main_arg2))
      ∧ r.2.mem ((c.tc : Thread nD τ).loc main_v72)
        = Read.val_main_v72 (F := Ideal) (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6))
      ∧ r.2.mem ((c.tc : Thread nD τ).loc main_v75)
        = Read.val_main_v75 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v77)
        = Read.val_main_v77 (F := Ideal) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c).1.trans (Read.val_main_v68_eq _ _), (h c).2.1.trans (Read.val_main_v69_eq _ _), (h c).2.2.1.trans (Read.val_main_v72_eq _ _), (h c).2.2.2.1.trans (Read.val_main_v75_eq _ _ _ _ _), (h c).2.2.2.2.1.trans (Read.val_main_v77_eq _ _ _), (h c).2.2.2.2.2⟩)
    (Value.run m ρ)

end Cert.Reference10Ideal
-- ==== Proof.Ref10.lean ====
/-
  The attention's projections: the reference's rows, read at an element.
-/
module

public import proofs.«01_k».proof.Proof.Row
public import proofs.«01_k».proof.Proof.Thirds
public import proofs.«01_k».proof.Proof.Gen.Reference10Ideal.Read
public import Idealize.ShloMosaic.Lib.Claim
public import Idealize.ShloMosaic.Lib.Pointwise

@[expose] public section

set_option maxRecDepth 16384

noncomputable section

namespace Cert.Row

open Idealize.ShloMosaic

/-- The reciprocal root of a row's mean of squares plus the small constant; `c` is the row's length. -/
def hrs {n : ℕ} (c : EReal) (x : Fin n → EReal) : EReal := Ideal.rsqrt (Ideal.div (∑ k, x k * x k) c + eps)

/-- The normed row at one element. -/
def hnorm {n : ℕ} (c : EReal) (x g : Fin n → EReal) (b : Fin n) : EReal := x b * hrs c x * g b

/-- The row length 256. -/
abbrev c256 : EReal := Ideal.ofBits FTy.f32 1132462080#32
/-- The row length 128. -/
abbrev c128 : EReal := Ideal.ofBits FTy.f32 1124073472#32
/-- The scale of the queries. -/
abbrev qscale : EReal := Ideal.ofBits FTy.f32 1041680192#32

/-- The rotation of 32 columns by 16 angles. -/
def turn (u : Fin 32 → EReal) (cs sn : Fin 16 → EReal) (j : Fin 32) : EReal :=
  if h : j.val < 16 then u ⟨j.val, by omega⟩ * cs ⟨j.val, h⟩ - u ⟨16 + j.val, by omega⟩ * sn ⟨j.val, h⟩
  else u ⟨j.val - 16, by omega⟩ * sn ⟨j.val - 16, by omega⟩ + u ⟨16 + (j.val - 16), by omega⟩ * cs ⟨j.val - 16, by omega⟩

/-- A head's 128 columns: 64 plain ones, 32 rotated ones, zeros. -/
def lanes (a : Fin 64 → EReal) (u : Fin 32 → EReal) (l : Fin 128) : EReal :=
  if h : l.val < 96 then (if h' : l.val < 64 then a ⟨l.val, h'⟩ else u ⟨l.val - 64, by omega⟩) else 0

end Cert.Row

namespace Cert.Reference10Ideal.At

open Cert.Reference10Ideal Cert.Reference10Ideal.Read Cert.Row Idealize.ShloMosaic Idealize.ShloMosaic.TcCoe

variable (x0 : FVec Ideal S4224x7328 .f32) (x1 : FVec Ideal S256 .f32) (x2 : FVec Ideal S128 .f32) (x3 : FVec Ideal S256x768 .f32)
  (x4 : FVec Ideal S128x1024 .f32) (x5 x6 : FVec Ideal S4224x16 .f32)

/-- The normed latent of the queries. -/
def qn (r : Fin 4224) (k : Fin 256) : EReal := hnorm c256 (fun k => x0 (ix2 r ⟨512 + k.val, by omega⟩)) (fun k => x1 (ix1 k)) k

/-- The normed latent of the keys and values. -/
def kn (r : Fin 4224) (k : Fin 128) : EReal := hnorm c128 (fun k => x0 (ix2 r ⟨768 + k.val, by omega⟩)) (fun k => x2 (ix1 k)) k

/-- The queries before the rotation. -/
def qr (r : Fin 4224) (p : Fin 768) : EReal := ∑ k, qn x0 x1 r k * x3 (ix2 k p)

/-- The keys and values before the rotation. -/
def kr (r : Fin 4224) (p : Fin 1024) : EReal := ∑ k, kn x0 x2 r k * x4 (ix2 k p)

/-- The angles' cosines or sines of a row. -/
abbrev ang (x : FVec Ideal S4224x16 .f32) (r : Fin 4224) (j : Fin 16) : EReal := x (ix2 r j)

/-- A head of the queries. -/
def qh (r : Fin 4224) (h : Fin 8) (l : Fin 128) : EReal :=
  if hl : l.val < 96 then (if h' : l.val < 64 then qr x0 x1 x3 r ⟨h.val * 96 + l.val, by omega⟩ else
    turn (fun j => qr x0 x1 x3 r ⟨h.val * 96 + (64 + j.val), by omega⟩) (ang x5 r) (ang x6 r) ⟨l.val - 64, by omega⟩) * qscale else 0

/-- A head of the keys. -/
def kh (r : Fin 4224) (h : Fin 8) (l : Fin 128) : EReal :=
  lanes (fun k => kr x0 x2 x4 r ⟨h.val * 128 + k.val, by omega⟩)
    (turn (fun j => x0 (ix2 r ⟨896 + j.val, by omega⟩)) (ang x5 r) (ang x6 r)) l

/-- A head of the values. -/
def vh (r : Fin 4224) (h : Fin 8) (l : Fin 64) : EReal := kr x0 x2 x4 r ⟨h.val * 128 + (64 + l.val), by omega⟩

theorem qn_at (r : Fin 4224) (k : Fin 256) : val_main_v13 (F := Ideal) x0 x1 (ix2 r k) = qn x0 x1 r k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  try simp only [zero_add]
  rfl

theorem kn_at (r : Fin 4224) (k : Fin 128) : val_main_v27 (F := Ideal) x0 x2 (ix2 r k) = kn x0 x2 r k := by
  pointwise [val_main_v27, val_main_v26, val_main_v25, val_main_v24, val_main_v23, val_main_v22, val_main_v21, val_main_v20, val_main_v19,
    val_main_v18, val_main_v17, val_main_v16, val_main_v15, val_main_v14, val_main_cst_2, val_main_cst_3, val_main_cst_4]
  try simp only [zero_add]
  rfl

theorem qn16_at (r : Fin 4224) (k : Fin 256) : val_main_v68 (F := Ideal) x0 x1 (ix2 r k) = qn x0 x1 r k := by
  pointwise [val_main_v68]
  exact qn_at ..

theorem kn16_at (r : Fin 4224) (k : Fin 128) : val_main_v69 (F := Ideal) x0 x2 (ix2 r k) = kn x0 x2 r k := by
  pointwise [val_main_v69]
  exact kn_at ..

theorem qr_at (r : Fin 4224) (p : Fin 768) : val_main_v28 (F := Ideal) x0 x1 x3 (ix2 r p) = qr x0 x1 x3 r p := by
  pointwise [val_main_v28]
  simp only [qn_at]
  rfl

theorem kr_at (r : Fin 4224) (p : Fin 1024) : val_main_v47 (F := Ideal) x0 x2 x4 (ix2 r p) = kr x0 x2 x4 r p := by
  pointwise [val_main_v47]
  simp only [kn_at]
  rfl

theorem q3_at (r : Fin 4224) (h : Fin 8) (l : Fin 96) : val_main_v29 (F := Ideal) x0 x1 x3 (ix3 r h l) = qr x0 x1 x3 r ⟨h.val * 96 + l.val, by omega⟩ := by
  rw [← qr_at]
  pointwise [val_main_v29]

theorem k3_at (r : Fin 4224) (h : Fin 8) (l : Fin 128) : val_main_v48 (F := Ideal) x0 x2 x4 (ix3 r h l) = kr x0 x2 x4 r ⟨h.val * 128 + l.val, by omega⟩ := by
  rw [← kr_at]
  pointwise [val_main_v48]

theorem q46_at (r : Fin 4224) (h : Fin 8) (j : Fin 32) : val_main_v46 (F := Ideal) x0 x1 x3 x5 x6 (ix3 r h j)
    = turn (fun j => qr x0 x1 x3 r ⟨h.val * 96 + (64 + j.val), by omega⟩) (ang x5 r) (ang x6 r) j := by
  pointwise [val_main_v46, val_main_v45, val_main_v44, val_main_v43, val_main_v42, val_main_v41, val_main_v40, val_main_v39, val_main_v38,
    val_main_v37, val_main_v36, val_main_v35, val_main_v34, val_main_v33, val_main_v32, val_main_v31]
  simp only [q3_at]
  rfl

theorem k60_at (r : Fin 4224) (j : Fin 32) : val_main_v60 (F := Ideal) x0 x5 x6 (ix2 r j)
    = turn (fun j => x0 (ix2 r ⟨896 + j.val, by omega⟩)) (ang x5 r) (ang x6 r) j := by
  pointwise [val_main_v60, val_main_v59, val_main_v58, val_main_v57, val_main_v56, val_main_v55, val_main_v54, val_main_v53, val_main_v52,
    val_main_v51]
  rfl

theorem q70_at (r : Fin 4224) (h : Fin 8) (l : Fin 128) : val_main_v70 (F := Ideal) x0 x1 x3 x5 x6 (ix3 r h l) = qh x0 x1 x3 x5 x6 r h l := by
  pointwise [val_main_v70, val_main_v66, val_main_v65, val_main_v64, val_main_v67, val_main_v30, val_main_cst_5, val_main_cst_6]
  simp only [q3_at, q46_at]
  rfl

theorem k73_at (r : Fin 4224) (h : Fin 8) (l : Fin 128) : val_main_v73 (F := Ideal) x0 x2 x4 x5 x6 (ix3 r h l) = kh x0 x2 x4 x5 x6 r h l := by
  pointwise [val_main_v73, val_main_v63, val_main_v62, val_main_v61, val_main_v67, val_main_v49, val_main_cst_6]
  simp only [k3_at, k60_at]
  rfl

theorem q72_at (r : Fin 4224) (h : Fin 8) (l : Fin 128) : val_main_v72 (F := Ideal) x0 x1 x3 x5 x6 (ix2 r ⟨h.val * 128 + l.val, by omega⟩)
    = qh x0 x1 x3 x5 x6 r h l := by
  rw [← q70_at]
  pointwise [val_main_v72, val_main_v71]

theorem k75_at (r : Fin 4224) (h : Fin 8) (l : Fin 128) : val_main_v75 (F := Ideal) x0 x2 x4 x5 x6 (ix2 r ⟨h.val * 128 + l.val, by omega⟩)
    = kh x0 x2 x4 x5 x6 r h l := by
  rw [← k73_at]
  pointwise [val_main_v75, val_main_v74]

theorem v77_at (r : Fin 4224) (h : Fin 8) (l : Fin 64) : val_main_v77 (F := Ideal) x0 x2 x4 (ix2 r ⟨h.val * 64 + l.val, by omega⟩)
    = vh x0 x2 x4 r h l := by
  pointwise [val_main_v77, val_main_v76, val_main_v50]
  simp only [k3_at]
  rfl

end Cert.Reference10Ideal.At
-- ==== Proof.Spin10.lean ====
/-
  The attention's projections: turning a head's row by the three tables is the reference's rotation of its 32 columns.
-/
module

public import proofs.«01_k».proof.Proof.Ref10

@[expose] public section

noncomputable section

namespace Cert.Row

open Idealize.ShloMosaic

/-- The first table's row. -/
def tabc (cs : Fin 16 → EReal) (l : Fin 128) : EReal :=
  if h : l.val < 64 then 1 else if h : l.val - 64 < 16 then cs ⟨l.val - 64, by omega⟩ else
    if h : l.val - 64 - 16 < 16 then cs ⟨l.val - 64 - 16, by omega⟩ else 1

/-- The second table's row. -/
def tabs (sn : Fin 16 → EReal) (l : Fin 128) : EReal :=
  if h : l.val < 64 then 0 else if h : l.val - 64 < 16 then 0 else
    if h : l.val - 64 - 16 < 16 then sn ⟨l.val - 64 - 16, by omega⟩ else 0

/-- The third table's row. -/
def tabm (sn : Fin 16 → EReal) (l : Fin 128) : EReal :=
  if h : l.val < 64 then 0 else if h : l.val - 64 < 16 then -sn ⟨l.val - 64, by omega⟩ else
    if h : l.val - 64 - 16 < 16 then 0 else 0

/-- The row the kernel's block of the projections' inputs reads. -/
def zrow (z : Fin 7328 → EReal) (l : Fin 512) : EReal :=
  if h : l.val < 384 then z ⟨512 + l.val, by omega⟩ else if h : l.val - 384 < 64 then 0 else
    if h : l.val - 384 - 64 < 32 then z ⟨896 + (l.val - 384 - 64), by omega⟩ else 0

/-- A head's row turned by the three tables' rows. -/
def spin (t c s1 s2 : Fin 128 → EReal) (l : Fin 128) : EReal :=
  t l * c l + t ⟨(l.val + 112) % 128, by omega⟩ * s1 l + t ⟨(l.val + 16) % 128, by omega⟩ * s2 l

theorem spin_eq (t : Fin 128 → EReal) (cs sn : Fin 16 → EReal) (ht : ∀ l : Fin 128, 96 ≤ l.val → t l = 0) (l : Fin 128) :
    spin t (tabc cs) (tabs sn) (tabm sn) l
      = lanes (fun k => t ⟨k.val, by omega⟩) (turn (fun j => t ⟨64 + j.val, by omega⟩) cs sn) l := by
  have hl := l.isLt
  have at_eq : ∀ (i j : Fin 128), i.val = j.val → t i = t j := fun i j h => congrArg t (Fin.ext h)
  unfold spin tabc tabs tabm lanes
  by_cases h1 : l.val < 64
  · simp only [dif_pos h1, dif_pos (show l.val < 96 by omega), mul_zero, add_zero, mul_one]
  simp only [dif_neg h1]
  by_cases h2 : l.val - 64 < 16
  · simp only [dif_pos h2, dif_pos (show l.val < 96 by omega), mul_zero, add_zero]
    unfold turn
    rw [dif_pos h2, sub_eq_add_neg, mul_neg]
    refine congrArg₂ (· + ·) ?_ (congrArg Neg.neg ?_)
    · exact congrArg₂ (· * ·) (at_eq _ _ (by dsimp only; omega)) rfl
    · exact congrArg₂ (· * ·) (at_eq _ _ (by dsimp only; omega)) rfl
  simp only [dif_neg h2]
  by_cases h3 : l.val - 64 - 16 < 16
  · simp only [dif_pos h3, dif_pos (show l.val < 96 by omega), mul_zero, add_zero]
    unfold turn
    rw [dif_neg h2, add_comm]
    refine congrArg₂ (· + ·) ?_ ?_
    · exact congrArg₂ (· * ·) (at_eq _ _ (by dsimp only; omega)) rfl
    · exact congrArg₂ (· * ·) (at_eq _ _ (by dsimp only; omega)) rfl
  · simp only [dif_neg h3, dif_neg (show ¬l.val < 96 by omega), mul_zero, add_zero, mul_one]
    exact ht l (by omega)

end Cert.Row
-- ==== Proof.Host10.lean ====
/-
  The attention's projections: what the host hands the tenth kernel.
-/
module

public import proofs.«01_k».proof.Proof.Spin10
public import proofs.«01_k».proof.Proof.Gen.Kernel10Ideal.Value
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel10Ideal.Value

open Cert.Kernel10Ideal Cert.Kernel10Ideal.Gen Cert.Row Idealize.ShloMosaic Idealize.ShloMosaic.TcCoe Idealize.SL.Sem

variable (m : (ℓ : Loc nD τ sig) → Buf (Elt Ideal) ℓ)

/-- Argument 0 of the program. -/
abbrev A0 (c : Dev nD) : FVec Ideal Cert.Reference10Ideal.S4224x7328 .f32 := m ((c : Thread nD τ).loc main_arg0)
/-- Argument 1 of the program. -/
abbrev A1 (c : Dev nD) : FVec Ideal Cert.Reference10Ideal.S256 .f32 := m ((c : Thread nD τ).loc main_arg1)
/-- Argument 2 of the program. -/
abbrev A2 (c : Dev nD) : FVec Ideal Cert.Reference10Ideal.S128 .f32 := m ((c : Thread nD τ).loc main_arg2)
/-- Argument 3 of the program. -/
abbrev A3 (c : Dev nD) : FVec Ideal Cert.Reference10Ideal.S256x768 .f32 := m ((c : Thread nD τ).loc main_arg3)
/-- Argument 4 of the program. -/
abbrev A4 (c : Dev nD) : FVec Ideal Cert.Reference10Ideal.S128x1024 .f32 := m ((c : Thread nD τ).loc main_arg4)
/-- Argument 5 of the program. -/
abbrev A5 (c : Dev nD) : FVec Ideal Cert.Reference10Ideal.S4224x16 .f32 := m ((c : Thread nD τ).loc main_arg5)
/-- Argument 6 of the program. -/
abbrev A6 (c : Dev nD) : FVec Ideal Cert.Reference10Ideal.S4224x16 .f32 := m ((c : Thread nD τ).loc main_arg6)

theorem src_v0 (c : Dev nD) (r : Fin 4224) (j : Fin 64) : V m c main_v0 (ix2 r j) = (1 : EReal) := by
  simp only [V, hostOps0, hostOps0_1, hostOps0_2, hostOps0_3, hostOps0_4, List.flatten_cons, List.flatten_nil, List.append_nil, List.cons_append, List.nil_append]
  entry_read
  pointwise []

theorem src_v1 (c : Dev nD) (r : Fin 4224) (j : Fin 64) : V m c main_v1 (ix2 r j) = (0 : EReal) := by
  simp only [V, hostOps0, hostOps0_1, hostOps0_2, hostOps0_3, hostOps0_4, List.flatten_cons, List.flatten_nil, List.append_nil, List.cons_append, List.nil_append]
  entry_read
  pointwise []

theorem src_v2 (c : Dev nD) (r : Fin 4224) (j : Fin 16) : V m c main_v2 (ix2 r j) = (0 : EReal) := by
  simp only [V, hostOps0, hostOps0_1, hostOps0_2, hostOps0_3, hostOps0_4, List.flatten_cons, List.flatten_nil, List.append_nil, List.cons_append, List.nil_append]
  entry_read
  pointwise []

theorem src_v3 (c : Dev nD) (r : Fin 4224) (j : Fin 32) : V m c main_v3 (ix2 r j) = (0 : EReal) := by
  simp only [V, hostOps0, hostOps0_1, hostOps0_2, hostOps0_3, hostOps0_4, List.flatten_cons, List.flatten_nil, List.append_nil, List.cons_append, List.nil_append]
  entry_read
  pointwise []

theorem src_v4 (c : Dev nD) (r : Fin 4224) (j : Fin 32) : V m c main_v4 (ix2 r j) = (1 : EReal) := by
  simp only [V, hostOps0, hostOps0_1, hostOps0_2, hostOps0_3, hostOps0_4, List.flatten_cons, List.flatten_nil, List.append_nil, List.cons_append, List.nil_append]
  entry_read
  pointwise []

theorem src_v7 (c : Dev nD) (r : Fin 4224) (j : Fin 16) : V m c main_v7 (ix2 r j) = -A6 m c (ix2 r j) := by
  simp only [V, hostOps0, hostOps0_1, hostOps0_2, hostOps0_3, hostOps0_4, List.flatten_cons, List.flatten_nil, List.append_nil, List.cons_append, List.nil_append]
  entry_read
  pointwise []

theorem src_v17 (c : Dev nD) (r : Fin 4224) (j : Fin 384) : V m c main_v17 (ix2 r j) = A0 m c (ix2 r ⟨512 + j.val, by omega⟩) := by
  simp only [V, hostOps0, hostOps0_1, hostOps0_2, hostOps0_3, hostOps0_4, List.flatten_cons, List.flatten_nil, List.append_nil, List.cons_append, List.nil_append]
  entry_read
  pointwise []

theorem src_v18 (c : Dev nD) (r : Fin 4224) (j : Fin 64) : V m c main_v18 (ix2 r j) = (0 : EReal) := by
  simp only [V, hostOps0, hostOps0_1, hostOps0_2, hostOps0_3, hostOps0_4, List.flatten_cons, List.flatten_nil, List.append_nil, List.cons_append, List.nil_append]
  entry_read
  pointwise []

theorem src_v19 (c : Dev nD) (r : Fin 4224) (j : Fin 32) : V m c main_v19 (ix2 r j) = A0 m c (ix2 r ⟨896 + j.val, by omega⟩) := by
  simp only [V, hostOps0, hostOps0_1, hostOps0_2, hostOps0_3, hostOps0_4, List.flatten_cons, List.flatten_nil, List.append_nil, List.cons_append, List.nil_append]
  entry_read
  pointwise []

theorem src_v20 (c : Dev nD) (r : Fin 4224) (j : Fin 32) : V m c main_v20 (ix2 r j) = (0 : EReal) := by
  simp only [V, hostOps0, hostOps0_1, hostOps0_2, hostOps0_3, hostOps0_4, List.flatten_cons, List.flatten_nil, List.append_nil, List.cons_append, List.nil_append]
  entry_read
  pointwise []

theorem src_v24 (c : Dev nD) (j : Fin 256) : V m c main_v24 (ix2 0 j) = A1 m c (ix1 j) := by
  simp only [V, hostOps0, hostOps0_1, hostOps0_2, hostOps0_3, hostOps0_4, List.flatten_cons, List.flatten_nil, List.append_nil, List.cons_append, List.nil_append]
  entry_read
  pointwise []

theorem src_v25 (c : Dev nD) (j : Fin 128) : V m c main_v25 (ix2 0 j) = A2 m c (ix1 j) := by
  simp only [V, hostOps0, hostOps0_1, hostOps0_2, hostOps0_3, hostOps0_4, List.flatten_cons, List.flatten_nil, List.append_nil, List.cons_append, List.nil_append]
  entry_read
  pointwise []

theorem src_arg5 (c : Dev nD) (r : Fin 4224) (j : Fin 16) : V m c main_arg5 (ix2 r j) = A5 m c (ix2 r j) := congrFun (V_main_arg5 m c) _

theorem src_arg6 (c : Dev nD) (r : Fin 4224) (j : Fin 16) : V m c main_arg6 (ix2 r j) = A6 m c (ix2 r j) := congrFun (V_main_arg6 m c) _

/-- The host's operations before the region. -/
abbrev host : List (HloOp τ sig (Elt Ideal)) := List.flatten [hostOps0, hostOps0_1, hostOps0_2, hostOps0_3, hostOps0_4]

theorem upto10_v0 (c : Dev nD) : StableHlo.upto host (fun b => m (c, b)) 10 main_v0 = V m c main_v0 :=
  (StableHlo.upto_last_write (i := 1) [main_cst_0, main_v1, main_cst_1, main_v2, main_cst_2, main_v3, main_cst_3, main_v4] rfl rfl (by decide) _).trans
  (StableHlo.after_last_write (i := 1) [main_cst_0, main_v1, main_cst_1, main_v2, main_cst_2, main_v3, main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto10_arg5 (c : Dev nD) : StableHlo.upto host (fun b => m (c, b)) 10 main_arg5 = V m c main_arg5 :=
  (StableHlo.upto_unwritten [main_cst, main_v0, main_cst_0, main_v1, main_cst_1, main_v2, main_cst_2, main_v3, main_cst_3, main_v4] rfl (by decide) _).trans
  (V_main_arg5 m c).symm

theorem upto10_v4 (c : Dev nD) : StableHlo.upto host (fun b => m (c, b)) 10 main_v4 = V m c main_v4 :=
  (StableHlo.upto_last_write (i := 9) [] rfl rfl (by decide) _).trans
  (StableHlo.after_last_write (i := 9) [main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem eq_v5 (c : Dev nD) : V m c main_v5 = concatenate S4224x128 1 [⟨S4224x64, (V m c main_v0 : FVec Ideal S4224x64 .f32)⟩, ⟨S4224x16, (V m c main_arg5 : FVec Ideal S4224x16 .f32)⟩, ⟨S4224x16, (V m c main_arg5 : FVec Ideal S4224x16 .f32)⟩, ⟨S4224x32, (V m c main_v4 : FVec Ideal S4224x32 .f32)⟩] concatenates_S4224x64_S4224x16_S4224x16_S4224x32_S4224x128_d1 := by
  have e := StableHlo.after_last_write (ops := (host : List (HloOp τ sig (Elt Ideal)))) (i := 10) (r := main_v5)
    [main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) (fun b => m (c, b))
  rw [StableHlo.nary_result'] at e
  refine e.trans ?_
  show concatenate S4224x128 1 [⟨S4224x64, (StableHlo.upto host (fun b => m (c, b)) 10 main_v0 : FVec Ideal S4224x64 .f32)⟩, ⟨S4224x16, (StableHlo.upto host (fun b => m (c, b)) 10 main_arg5 : FVec Ideal S4224x16 .f32)⟩, ⟨S4224x16, (StableHlo.upto host (fun b => m (c, b)) 10 main_arg5 : FVec Ideal S4224x16 .f32)⟩, ⟨S4224x32, (StableHlo.upto host (fun b => m (c, b)) 10 main_v4 : FVec Ideal S4224x32 .f32)⟩] concatenates_S4224x64_S4224x16_S4224x16_S4224x32_S4224x128_d1 = _
  rw [upto10_v0, upto10_arg5, upto10_v4]

theorem upto11_v1 (c : Dev nD) : StableHlo.upto host (fun b => m (c, b)) 11 main_v1 = V m c main_v1 :=
  (StableHlo.upto_last_write (i := 3) [main_cst_1, main_v2, main_cst_2, main_v3, main_cst_3, main_v4, main_v5] rfl rfl (by decide) _).trans
  (StableHlo.after_last_write (i := 3) [main_cst_1, main_v2, main_cst_2, main_v3, main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto11_v2 (c : Dev nD) : StableHlo.upto host (fun b => m (c, b)) 11 main_v2 = V m c main_v2 :=
  (StableHlo.upto_last_write (i := 5) [main_cst_2, main_v3, main_cst_3, main_v4, main_v5] rfl rfl (by decide) _).trans
  (StableHlo.after_last_write (i := 5) [main_cst_2, main_v3, main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto11_arg6 (c : Dev nD) : StableHlo.upto host (fun b => m (c, b)) 11 main_arg6 = V m c main_arg6 :=
  (StableHlo.upto_unwritten [main_cst, main_v0, main_cst_0, main_v1, main_cst_1, main_v2, main_cst_2, main_v3, main_cst_3, main_v4, main_v5] rfl (by decide) _).trans
  (V_main_arg6 m c).symm

theorem upto11_v3 (c : Dev nD) : StableHlo.upto host (fun b => m (c, b)) 11 main_v3 = V m c main_v3 :=
  (StableHlo.upto_last_write (i := 7) [main_cst_3, main_v4, main_v5] rfl rfl (by decide) _).trans
  (StableHlo.after_last_write (i := 7) [main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem eq_v6 (c : Dev nD) : V m c main_v6 = concatenate S4224x128 1 [⟨S4224x64, (V m c main_v1 : FVec Ideal S4224x64 .f32)⟩, ⟨S4224x16, (V m c main_v2 : FVec Ideal S4224x16 .f32)⟩, ⟨S4224x16, (V m c main_arg6 : FVec Ideal S4224x16 .f32)⟩, ⟨S4224x32, (V m c main_v3 : FVec Ideal S4224x32 .f32)⟩] concatenates_S4224x64_S4224x16_S4224x16_S4224x32_S4224x128_d1 := by
  have e := StableHlo.after_last_write (ops := (host : List (HloOp τ sig (Elt Ideal)))) (i := 11) (r := main_v6)
    [main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) (fun b => m (c, b))
  rw [StableHlo.nary_result'] at e
  refine e.trans ?_
  show concatenate S4224x128 1 [⟨S4224x64, (StableHlo.upto host (fun b => m (c, b)) 11 main_v1 : FVec Ideal S4224x64 .f32)⟩, ⟨S4224x16, (StableHlo.upto host (fun b => m (c, b)) 11 main_v2 : FVec Ideal S4224x16 .f32)⟩, ⟨S4224x16, (StableHlo.upto host (fun b => m (c, b)) 11 main_arg6 : FVec Ideal S4224x16 .f32)⟩, ⟨S4224x32, (StableHlo.upto host (fun b => m (c, b)) 11 main_v3 : FVec Ideal S4224x32 .f32)⟩] concatenates_S4224x64_S4224x16_S4224x16_S4224x32_S4224x128_d1 = _
  rw [upto11_v1, upto11_v2, upto11_arg6, upto11_v3]

theorem upto13_v1 (c : Dev nD) : StableHlo.upto host (fun b => m (c, b)) 13 main_v1 = V m c main_v1 :=
  (StableHlo.upto_last_write (i := 3) [main_cst_1, main_v2, main_cst_2, main_v3, main_cst_3, main_v4, main_v5, main_v6, main_v7] rfl rfl (by decide) _).trans
  (StableHlo.after_last_write (i := 3) [main_cst_1, main_v2, main_cst_2, main_v3, main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto13_v7 (c : Dev nD) : StableHlo.upto host (fun b => m (c, b)) 13 main_v7 = V m c main_v7 :=
  (StableHlo.upto_last_write (i := 12) [] rfl rfl (by decide) _).trans
  (StableHlo.after_last_write (i := 12) [main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto13_v2 (c : Dev nD) : StableHlo.upto host (fun b => m (c, b)) 13 main_v2 = V m c main_v2 :=
  (StableHlo.upto_last_write (i := 5) [main_cst_2, main_v3, main_cst_3, main_v4, main_v5, main_v6, main_v7] rfl rfl (by decide) _).trans
  (StableHlo.after_last_write (i := 5) [main_cst_2, main_v3, main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto13_v3 (c : Dev nD) : StableHlo.upto host (fun b => m (c, b)) 13 main_v3 = V m c main_v3 :=
  (StableHlo.upto_last_write (i := 7) [main_cst_3, main_v4, main_v5, main_v6, main_v7] rfl rfl (by decide) _).trans
  (StableHlo.after_last_write (i := 7) [main_cst_3, main_v4, main_v5, main_v6, main_v7, main_v8, main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem eq_v8 (c : Dev nD) : V m c main_v8 = concatenate S4224x128 1 [⟨S4224x64, (V m c main_v1 : FVec Ideal S4224x64 .f32)⟩, ⟨S4224x16, (V m c main_v7 : FVec Ideal S4224x16 .f32)⟩, ⟨S4224x16, (V m c main_v2 : FVec Ideal S4224x16 .f32)⟩, ⟨S4224x32, (V m c main_v3 : FVec Ideal S4224x32 .f32)⟩] concatenates_S4224x64_S4224x16_S4224x16_S4224x32_S4224x128_d1 := by
  have e := StableHlo.after_last_write (ops := (host : List (HloOp τ sig (Elt Ideal)))) (i := 13) (r := main_v8)
    [main_v9, main_v10, main_c, main_call0_v0, main_v11, main_v12, main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) (fun b => m (c, b))
  rw [StableHlo.nary_result'] at e
  refine e.trans ?_
  show concatenate S4224x128 1 [⟨S4224x64, (StableHlo.upto host (fun b => m (c, b)) 13 main_v1 : FVec Ideal S4224x64 .f32)⟩, ⟨S4224x16, (StableHlo.upto host (fun b => m (c, b)) 13 main_v7 : FVec Ideal S4224x16 .f32)⟩, ⟨S4224x16, (StableHlo.upto host (fun b => m (c, b)) 13 main_v2 : FVec Ideal S4224x16 .f32)⟩, ⟨S4224x32, (StableHlo.upto host (fun b => m (c, b)) 13 main_v3 : FVec Ideal S4224x32 .f32)⟩] concatenates_S4224x64_S4224x16_S4224x16_S4224x32_S4224x128_d1 = _
  rw [upto13_v1, upto13_v7, upto13_v2, upto13_v3]

theorem upto22_v12 (c : Dev nD) : StableHlo.upto host (fun b => m (c, b)) 22 main_v12 = V m c main_v12 :=
  (StableHlo.upto_last_write (i := 19) [main_v13, main_v14] rfl rfl (by decide) _).trans
  (StableHlo.after_last_write (i := 19) [main_v13, main_v14, main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem upto22_v14 (c : Dev nD) : StableHlo.upto host (fun b => m (c, b)) 22 main_v14 = V m c main_v14 :=
  (StableHlo.upto_last_write (i := 21) [] rfl rfl (by decide) _).trans
  (StableHlo.after_last_write (i := 21) [main_v15, main_v16, main_v17, main_cst_4, main_v18, main_v19, main_cst_5, main_v20, main_v21, main_v22, main_v23, main_v24, main_v25, main_v26, main_c_6, main_call1_v0, main_v27, main_v28, main_v29, main_v30] rfl rfl (by decide) _).symm

theorem eq_v15 (c : Dev nD) : V m c main_v15 = concatenate S128x1536 1 [⟨S128x1024, (V m c main_v12 : FVec Ideal S128x1024 .f32)⟩, ⟨S128x512, (V m c main_v14 : FVec Ideal S128x512 .f32)⟩] concatenates_S128x1024_S128x512_S128x1536_d1 := by
  have e := StableHlo.after_last_write (ops := (host : List (HloOp τ sig (Elt Ideal)))) (i := 22) (r := main_v15)
    [main_v16, main_v17, main_cst_4, main_v18, main_v19, main_cst_5, main_v20, main_v21, main_v22, main_v23, main_v24, main_v25, main_v26, main_c_6, main_call1_v0, main_v27, main_v28, main_v29, main_v30] rfl rfl (by decide) (fun b => m (c, b))
  rw [StableHlo.binary_result'] at e
  refine e.trans ?_
  show concatenate S128x1536 1 [⟨S128x1024, (StableHlo.upto host (fun b => m (c, b)) 22 main_v12 : FVec Ideal S128x1024 .f32)⟩, ⟨S128x512, (StableHlo.upto host (fun b => m (c, b)) 22 main_v14 : FVec Ideal S128x512 .f32)⟩] concatenates_S128x1024_S128x512_S128x1536_d1 = _
  rw [upto22_v12, upto22_v14]

theorem upto32_v16 (c : Dev nD) : StableHlo.upto host (fun b => m (c, b)) 32 main_v16 = V m c main_v16 :=
  (StableHlo.upto_last_write (i := 23) [main_v17, main_cst_4, main_v18, main_v19, main_cst_5, main_v20, main_v21, main_v22] rfl rfl (by decide) _).trans
  (StableHlo.after_last_write (i := 23) [main_v17, main_cst_4, main_v18, main_v19, main_cst_5, main_v20, main_v21, main_v22, main_v23, main_v24, main_v25, main_v26, main_c_6, main_call1_v0, main_v27, main_v28, main_v29, main_v30] rfl rfl (by decide) _).symm

theorem upto32_v17 (c : Dev nD) : StableHlo.upto host (fun b => m (c, b)) 32 main_v17 = V m c main_v17 :=
  (StableHlo.upto_last_write (i := 24) [main_cst_4, main_v18, main_v19, main_cst_5, main_v20, main_v21, main_v22] rfl rfl (by decide) _).trans
  (StableHlo.after_last_write (i := 24) [main_cst_4, main_v18, main_v19, main_cst_5, main_v20, main_v21, main_v22, main_v23, main_v24, main_v25, main_v26, main_c_6, main_call1_v0, main_v27, main_v28, main_v29, main_v30] rfl rfl (by decide) _).symm

theorem upto32_v18 (c : Dev nD) : StableHlo.upto host (fun b => m (c, b)) 32 main_v18 = V m c main_v18 :=
  (StableHlo.upto_last_write (i := 26) [main_v19, main_cst_5, main_v20, main_v21, main_v22] rfl rfl (by decide) _).trans
  (StableHlo.after_last_write (i := 26) [main_v19, main_cst_5, main_v20, main_v21, main_v22, main_v23, main_v24, main_v25, main_v26, main_c_6, main_call1_v0, main_v27, main_v28, main_v29, main_v30] rfl rfl (by decide) _).symm

theorem upto32_v19 (c : Dev nD) : StableHlo.upto host (fun b => m (c, b)) 32 main_v19 = V m c main_v19 :=
  (StableHlo.upto_last_write (i := 27) [main_cst_5, main_v20, main_v21, main_v22] rfl rfl (by decide) _).trans
  (StableHlo.after_last_write (i := 27) [main_cst_5, main_v20, main_v21, main_v22, main_v23, main_v24, main_v25, main_v26, main_c_6, main_call1_v0, main_v27, main_v28, main_v29, main_v30] rfl rfl (by decide) _).symm

theorem upto32_v20 (c : Dev nD) : StableHlo.upto host (fun b => m (c, b)) 32 main_v20 = V m c main_v20 :=
  (StableHlo.upto_last_write (i := 29) [main_v21, main_v22] rfl rfl (by decide) _).trans
  (StableHlo.after_last_write (i := 29) [main_v21, main_v22, main_v23, main_v24, main_v25, main_v26, main_c_6, main_call1_v0, main_v27, main_v28, main_v29, main_v30] rfl rfl (by decide) _).symm

theorem upto32_v21 (c : Dev nD) : StableHlo.upto host (fun b => m (c, b)) 32 main_v21 = V m c main_v21 :=
  (StableHlo.upto_last_write (i := 30) [main_v22] rfl rfl (by decide) _).trans
  (StableHlo.after_last_write (i := 30) [main_v22, main_v23, main_v24, main_v25, main_v26, main_c_6, main_call1_v0, main_v27, main_v28, main_v29, main_v30] rfl rfl (by decide) _).symm

theorem upto32_v22 (c : Dev nD) : StableHlo.upto host (fun b => m (c, b)) 32 main_v22 = V m c main_v22 :=
  (StableHlo.upto_last_write (i := 31) [] rfl rfl (by decide) _).trans
  (StableHlo.after_last_write (i := 31) [main_v23, main_v24, main_v25, main_v26, main_c_6, main_call1_v0, main_v27, main_v28, main_v29, main_v30] rfl rfl (by decide) _).symm

theorem eq_v23 (c : Dev nD) : V m c main_v23 = concatenate S4224x7424 1 [⟨S4224x4096, (V m c main_v16 : FVec Ideal S4224x4096 .f32)⟩, ⟨S4224x384, (V m c main_v17 : FVec Ideal S4224x384 .f32)⟩, ⟨S4224x64, (V m c main_v18 : FVec Ideal S4224x64 .f32)⟩, ⟨S4224x32, (V m c main_v19 : FVec Ideal S4224x32 .f32)⟩, ⟨S4224x32, (V m c main_v20 : FVec Ideal S4224x32 .f32)⟩, ⟨S4224x512, (V m c main_v21 : FVec Ideal S4224x512 .f32)⟩, ⟨S4224x2304, (V m c main_v22 : FVec Ideal S4224x2304 .f32)⟩] concatenates_S4224x4096_S4224x384_S4224x64_S4224x32_S4224x32_S4224x512_S4224x2304_S4224x7424_d1 := by
  have e := StableHlo.after_last_write (ops := (host : List (HloOp τ sig (Elt Ideal)))) (i := 32) (r := main_v23)
    [main_v24, main_v25, main_v26, main_c_6, main_call1_v0, main_v27, main_v28, main_v29, main_v30] rfl rfl (by decide) (fun b => m (c, b))
  rw [StableHlo.nary_result'] at e
  refine e.trans ?_
  show concatenate S4224x7424 1 [⟨S4224x4096, (StableHlo.upto host (fun b => m (c, b)) 32 main_v16 : FVec Ideal S4224x4096 .f32)⟩, ⟨S4224x384, (StableHlo.upto host (fun b => m (c, b)) 32 main_v17 : FVec Ideal S4224x384 .f32)⟩, ⟨S4224x64, (StableHlo.upto host (fun b => m (c, b)) 32 main_v18 : FVec Ideal S4224x64 .f32)⟩, ⟨S4224x32, (StableHlo.upto host (fun b => m (c, b)) 32 main_v19 : FVec Ideal S4224x32 .f32)⟩, ⟨S4224x32, (StableHlo.upto host (fun b => m (c, b)) 32 main_v20 : FVec Ideal S4224x32 .f32)⟩, ⟨S4224x512, (StableHlo.upto host (fun b => m (c, b)) 32 main_v21 : FVec Ideal S4224x512 .f32)⟩, ⟨S4224x2304, (StableHlo.upto host (fun b => m (c, b)) 32 main_v22 : FVec Ideal S4224x2304 .f32)⟩] concatenates_S4224x4096_S4224x384_S4224x64_S4224x32_S4224x32_S4224x512_S4224x2304_S4224x7424_d1 = _
  rw [upto32_v16, upto32_v17, upto32_v18, upto32_v19, upto32_v20, upto32_v21, upto32_v22]

theorem entry_v5 (c : Dev nD) (r : Fin 4224) (l : Fin 128) : V m c main_v5 (ix2 r l) = tabc (fun j => A5 m c (ix2 r j)) l := by
  rw [eq_v5]
  unfold tabc
  pointwise []
  refine dite_congr rfl (fun _ => src_v0 m c r _) fun _ => ?_
  refine dite_congr rfl (fun _ => src_arg5 m c r _) fun _ => ?_
  exact dite_congr rfl (fun _ => src_arg5 m c r _) fun _ => src_v4 m c r _

theorem entry_v6 (c : Dev nD) (r : Fin 4224) (l : Fin 128) : V m c main_v6 (ix2 r l) = tabs (fun j => A6 m c (ix2 r j)) l := by
  rw [eq_v6]
  unfold tabs
  pointwise []
  refine dite_congr rfl (fun _ => src_v1 m c r _) fun _ => ?_
  refine dite_congr rfl (fun _ => src_v2 m c r _) fun _ => ?_
  exact dite_congr rfl (fun _ => src_arg6 m c r _) fun _ => src_v3 m c r _

theorem entry_v8 (c : Dev nD) (r : Fin 4224) (l : Fin 128) : V m c main_v8 (ix2 r l) = tabm (fun j => A6 m c (ix2 r j)) l := by
  rw [eq_v8]
  unfold tabm
  pointwise []
  refine dite_congr rfl (fun _ => src_v1 m c r _) fun _ => ?_
  refine dite_congr rfl (fun _ => src_v7 m c r _) fun _ => ?_
  exact dite_congr rfl (fun _ => src_v2 m c r _) fun _ => src_v3 m c r _

theorem entry_v23 (c : Dev nD) (r : Fin 4224) (l : Fin 512) : V m c main_v23 (ix2 r ⟨4096 + l.val, by omega⟩) = zrow (fun q => A0 m c (ix2 r q)) l := by
  rw [eq_v23]
  unfold zrow
  pointwise []
  refine dite_congr rfl (fun _ => src_v17 m c r _) fun _ => ?_
  refine dite_congr rfl (fun _ => src_v18 m c r _) fun _ => ?_
  refine dite_congr rfl (fun _ => src_v19 m c r _) fun _ => ?_
  rw [dif_pos (by omega)]
  exact src_v20 m c r _

/-- The integer zero as a number. -/
theorem zero_int : (FloatOps.sitofp FTy.f32 (0#32) : Ideal .f32) = (0 : EReal) := by
  show ((((0#32 : BitVec 32).toInt : ℝ)) : EReal) = 0
  simp

theorem src_v12 (c : Dev nD) (k : Fin 128) (h : Fin 8) (l : Fin 128) : V m c main_v12 (ix2 k ⟨h.val * 128 + l.val, by omega⟩)
    = if hl : l.val < 64 then A4 m c (ix2 k ⟨h.val * 128 + l.val, by omega⟩) else 0 := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise []
  exact dite_congr rfl (fun _ => rfl) fun _ => zero_int

theorem src_v14 (c : Dev nD) (k : Fin 128) (h : Fin 8) (l : Fin 64) : V m c main_v14 (ix2 k ⟨h.val * 64 + l.val, by omega⟩)
    = A4 m c (ix2 k ⟨h.val * 128 + (64 + l.val), by omega⟩) := by
  simp only [V, hostOps0, hostOps0_1, hostOps0_2, hostOps0_3, hostOps0_4, List.flatten_cons, List.flatten_nil, List.append_nil, List.cons_append, List.nil_append]
  entry_read
  pointwise []

theorem src_v28 (c : Dev nD) (k : Fin 256) (h : Fin 8) (l : Fin 128) : V m c main_v28 (ix2 k ⟨h.val * 128 + l.val, by omega⟩)
    = if hl : l.val < 96 then A3 m c (ix2 k ⟨h.val * 96 + l.val, by omega⟩) else 0 := by
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise []
  exact dite_congr rfl (fun _ => rfl) fun _ => zero_int

theorem upto41_v15 (c : Dev nD) : StableHlo.upto host (fun b => m (c, b)) 41 main_v15 = V m c main_v15 :=
  (StableHlo.upto_last_write (i := 22) [main_v16, main_v17, main_cst_4, main_v18, main_v19, main_cst_5, main_v20, main_v21, main_v22, main_v23, main_v24, main_v25, main_v26, main_c_6, main_call1_v0, main_v27, main_v28, main_v29] rfl rfl (by decide) _).trans
  (StableHlo.after_last_write (i := 22) [main_v16, main_v17, main_cst_4, main_v18, main_v19, main_cst_5, main_v20, main_v21, main_v22, main_v23, main_v24, main_v25, main_v26, main_c_6, main_call1_v0, main_v27, main_v28, main_v29, main_v30] rfl rfl (by decide) _).symm

theorem upto40_v28 (c : Dev nD) : StableHlo.upto host (fun b => m (c, b)) 40 main_v28 = V m c main_v28 :=
  (StableHlo.upto_last_write (i := 39) [] rfl rfl (by decide) _).trans
  (StableHlo.after_last_write (i := 39) [main_v29, main_v30] rfl rfl (by decide) _).symm

theorem entry_v29 (c : Dev nD) (k : Fin 256) (h : Fin 8) (l : Fin 128) : V m c main_v29 (ix2 k ⟨h.val * 128 + l.val, by omega⟩)
    = if hl : l.val < 96 then A3 m c (ix2 k ⟨h.val * 96 + l.val, by omega⟩) else 0 := by
  have e := StableHlo.after_last_write (ops := (host : List (HloOp τ sig (Elt Ideal)))) (i := 40) (r := main_v29)
    [main_v30] rfl rfl (by decide) (fun b => m (c, b))
  rw [StableHlo.unary_result'] at e
  refine (congrFun e _).trans ?_
  exact (congrFun (upto40_v28 m c) _).trans (src_v28 m c k h l)

theorem eq_v30 (c : Dev nD) (k : Fin 128) (p : Fin 1536) : V m c main_v30 (ix2 k p) = V m c main_v15 (ix2 k p) := by
  have e := StableHlo.after_last_write (ops := (host : List (HloOp τ sig (Elt Ideal)))) (i := 41) (r := main_v30)
    [] rfl rfl (by decide) (fun b => m (c, b))
  rw [StableHlo.unary_result'] at e
  refine (congrFun e _).trans ?_
  exact congrFun (upto41_v15 m c) _

theorem entry_v30k (c : Dev nD) (k : Fin 128) (h : Fin 8) (l : Fin 128) : V m c main_v30 (ix2 k ⟨h.val * 128 + l.val, by omega⟩)
    = if hl : l.val < 64 then A4 m c (ix2 k ⟨h.val * 128 + l.val, by omega⟩) else 0 := by
  refine (eq_v30 m c _ _).trans ?_
  rw [eq_v15, ← src_v12]
  pointwise []
  exact dif_pos (by omega)

theorem entry_v30v (c : Dev nD) (k : Fin 128) (h : Fin 8) (l : Fin 64) : V m c main_v30 (ix2 k ⟨1024 + (h.val * 64 + l.val), by omega⟩)
    = A4 m c (ix2 k ⟨h.val * 128 + (64 + l.val), by omega⟩) := by
  refine (eq_v30 m c _ _).trans ?_
  rw [eq_v15, ← src_v14]
  pointwise []

end Cert.Kernel10Ideal.Value
-- ==== Proof.Tile10.lean ====
/-
  The attention's projections: what the tenth kernel's body computes, at an element.
-/
module

public import proofs.«01_k».proof.Proof.Spin10
public import proofs.«01_k».proof.Proof.Gen.Kernel10Ideal.Skeleton
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel10Ideal.Value

open Cert.Kernel10Ideal Cert.Kernel10Ideal.Gen Cert.Row Idealize.ShloMosaic Idealize.ShloMosaic.TcCoe Idealize.SL.Sem

theorem zero_cols {n : ℕ} (l : ℕ) (hn : (0 : Fin 8).val * 128 + l < n) :
    (⟨(0 : Fin 8).val * 128 + l, hn⟩ : Fin n) = ⟨l, lt_of_le_of_lt (Nat.le_add_left _ _) hn⟩ := Fin.ext (by simp)

section
variable (v1 v3 v5 : FVec Ideal S384x128 .f32) (x : FVec Ideal S384x256 .bf16) (wq : Vec Ideal S256x1024 .bf16)
  (n : FVec Ideal S384x128 .f32) (wk : Vec Ideal S128x1536 .bf16) (z : Vec Ideal S384x128 .f32)
  (x0 : Vec Ideal S384x256 .f32) (g0 : Vec Ideal S1x256 .f32) (x1 : Vec Ideal S384x128 .f32) (g1 : Vec Ideal S1x128 .f32)

theorem pay1_at (a : Fin 384) (l : Fin 128) : k0_pay1 z (ix2 a l) = z (ix2 a l) := by
  pointwise [k0_pay1]

theorem pay2_at (a : Fin 384) (l : Fin 128) : k0_pay2 z (ix2 a l) = z (ix2 a l) := by
  pointwise [k0_pay2]

theorem pay3_at (a : Fin 384) (l : Fin 128) : k0_pay3 z (ix2 a l) = z (ix2 a l) := by
  pointwise [k0_pay3]

theorem pay4_at (a : Fin 384) (b : Fin 256) : k0_pay4 x0 g0 (ix2 a b) = hnorm c256 (fun k => x0 (ix2 a k)) (fun k => g0 (ix2 0 k)) b := by
  pointwise [k0_pay4]
  rfl

theorem pay5_at (a : Fin 384) (b : Fin 128) : k0_pay5 x1 g1 (ix2 a b) = hnorm c128 (fun k => x1 (ix2 a k)) (fun k => g1 (ix2 0 k)) b := by
  pointwise [k0_pay5]
  rfl

theorem pay6_at (a : Fin 384) (b : Fin 128) : k0_pay6 n (ix2 a b) = n (ix2 a b) := by
  pointwise [k0_pay6]

theorem pay7_at (a : Fin 384) (l : Fin 128) : k0_pay7 v1 v3 v5 z (ix2 a l)
    = spin (fun l => z (ix2 a l)) (fun l => v1 (ix2 a l)) (fun l => v3 (ix2 a l)) (fun l => v5 (ix2 a l)) l := by
  pointwise [k0_pay7]
  rfl

theorem pay8_at (a : Fin 384) (p : Fin 1024) : k0_pay8 x wq (ix2 a p) = ∑ k, x (ix2 a k) * wq (ix2 k p) := by
  pointwise [k0_pay8]

theorem pay9_at (a : Fin 384) (p : Fin 1536) : k0_pay9 n wk (ix2 a p) = ∑ k, n (ix2 a k) * wk (ix2 k p) := by
  pointwise [k0_pay9, k0_pay6]

theorem pay28_at (a : Fin 384) (p : Fin 512) : k0_pay28 (k0_pay9 n wk) (ix2 a p) = k0_pay9 n wk (ix2 a ⟨1024 + p.val, by omega⟩) := by
  pointwise [k0_pay28]

/-- A head of the queries' block, at one element. -/
def qb (a : Fin 384) (h : Fin 8) (l : Fin 128) : EReal :=
  spin (fun l => k0_pay8 x wq (ix2 a ⟨h.val * 128 + l.val, by omega⟩)) (fun l => v1 (ix2 a l)) (fun l => v3 (ix2 a l)) (fun l => v5 (ix2 a l)) l * qscale

/-- A head of the keys' block, at one element. -/
def kb (a : Fin 384) (h : Fin 8) (l : Fin 128) : EReal :=
  k0_pay9 n wk (ix2 a ⟨h.val * 128 + l.val, by omega⟩) + k0_pay7 v1 v3 v5 z (ix2 a l)

theorem q0_at (a : Fin 384) (l : Fin 128) : k0_pay10 v1 v3 v5 x wq (ix2 a l) = qb v1 v3 v5 x wq a 0 l := by
  pointwise [k0_pay10]
  unfold qb spin
  simp only [zero_cols]
  rfl

theorem k0_at (a : Fin 384) (l : Fin 128) : k0_pay11 v1 v3 v5 n z wk (ix2 a l) = kb v1 v3 v5 n wk z a 0 l := by
  pointwise [k0_pay11]
  unfold kb
  simp only [zero_cols]

theorem q1_at (a : Fin 384) (l : Fin 128) : k0_pay13 v1 v3 v5 (k0_pay12 x wq) (ix2 a l) = qb v1 v3 v5 x wq a 1 l := by
  pointwise [k0_pay13, k0_pay12]
  unfold qb spin
  rfl

theorem k1_at (a : Fin 384) (l : Fin 128) : k0_pay14 (k0_pay7 v1 v3 v5 z) (k0_pay9 n wk) (ix2 a l) = kb v1 v3 v5 n wk z a 1 l := by
  pointwise [k0_pay14]
  unfold kb
  rfl

theorem q2_at (a : Fin 384) (l : Fin 128) : k0_pay15 v1 v3 v5 (k0_pay8 x wq) (ix2 a l) = qb v1 v3 v5 x wq a 2 l := by
  pointwise [k0_pay15]
  unfold qb spin
  rfl

theorem k2_at (a : Fin 384) (l : Fin 128) : k0_pay16 (k0_pay7 v1 v3 v5 z) (k0_pay9 n wk) (ix2 a l) = kb v1 v3 v5 n wk z a 2 l := by
  pointwise [k0_pay16]
  unfold kb
  rfl

theorem q3_at (a : Fin 384) (l : Fin 128) : k0_pay18 (k0_pay17 v1 v3 v5 (k0_pay8 x wq)) qscale (ix2 a l) = qb v1 v3 v5 x wq a 3 l := by
  pointwise [k0_pay18, k0_pay17]
  unfold qb spin
  rfl

theorem k3_at (a : Fin 384) (l : Fin 128) : k0_pay19 (k0_pay7 v1 v3 v5 z) (k0_pay9 n wk) (ix2 a l) = kb v1 v3 v5 n wk z a 3 l := by
  pointwise [k0_pay19]
  unfold kb
  rfl

theorem q4_at (a : Fin 384) (l : Fin 128) : k0_pay20 v1 v3 v5 (k0_pay8 x wq) (ix2 a l) = qb v1 v3 v5 x wq a 4 l := by
  pointwise [k0_pay20]
  unfold qb spin
  rfl

theorem k4_at (a : Fin 384) (l : Fin 128) : k0_pay21 (k0_pay7 v1 v3 v5 z) (k0_pay9 n wk) (ix2 a l) = kb v1 v3 v5 n wk z a 4 l := by
  pointwise [k0_pay21]
  unfold kb
  rfl

theorem q5_at (a : Fin 384) (l : Fin 128) : k0_pay22 v1 v3 v5 (k0_pay8 x wq) (ix2 a l) = qb v1 v3 v5 x wq a 5 l := by
  pointwise [k0_pay22]
  unfold qb spin
  rfl

theorem k5_at (a : Fin 384) (l : Fin 128) : k0_pay23 (k0_pay7 v1 v3 v5 z) (k0_pay9 n wk) (ix2 a l) = kb v1 v3 v5 n wk z a 5 l := by
  pointwise [k0_pay23]
  unfold kb
  rfl

theorem q6_at (a : Fin 384) (l : Fin 128) : k0_pay24 v1 v3 v5 (k0_pay8 x wq) (ix2 a l) = qb v1 v3 v5 x wq a 6 l := by
  pointwise [k0_pay24]
  unfold qb spin
  rfl

theorem k6_at (a : Fin 384) (l : Fin 128) : k0_pay25 (k0_pay7 v1 v3 v5 z) (k0_pay9 n wk) (ix2 a l) = kb v1 v3 v5 n wk z a 6 l := by
  pointwise [k0_pay25]
  unfold kb
  rfl

theorem q7_at (a : Fin 384) (l : Fin 128) : k0_pay26 v1 v3 v5 (k0_pay8 x wq) (ix2 a l) = qb v1 v3 v5 x wq a 7 l := by
  pointwise [k0_pay26]
  unfold qb spin
  rfl

theorem k7_at (a : Fin 384) (l : Fin 128) : k0_pay27 (k0_pay7 v1 v3 v5 z) (k0_pay9 n wk) (ix2 a l) = kb v1 v3 v5 n wk z a 7 l := by
  pointwise [k0_pay27]
  unfold kb
  rfl

end

end Cert.Kernel10Ideal.Value
-- ==== Proof.Blk10.lean ====
/-
  The attention's projections: the tenth kernel's arrays are the tenth reference's results.
-/
module

public import proofs.«01_k».proof.Proof.Spin10
public import proofs.«01_k».proof.Proof.Gen.Kernel10Ideal.Value
public import proofs.«01_k».proof.Proof.Host10
public import proofs.«01_k».proof.Proof.Tile10
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel10Ideal.Value

open Cert.Kernel10Ideal Cert.Kernel10Ideal.Gen Cert.Row Idealize.ShloMosaic Idealize.ShloMosaic.TcCoe Idealize.SL.Sem

variable (m : (ℓ : Loc nD τ sig) → Buf (Elt Ideal) ℓ)

theorem idx_val : ∀ t : Fin cfg0.N, win0_0.index t = ![t.val, 8] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The row of the whole array that row `a` of point `t`'s block is. -/
def row (t : Fin cfg0.N) (a : Fin 384) : Fin 4224 :=
  ⟨t.val * 384 + a.val, by have := lt_of_lt_of_eq t.isLt N_0; omega⟩

section
variable (c : Dev nD) (t : Fin cfg0.N)

/-- A row of the projections' inputs. -/
abbrev zr (r : Fin 4224) (q : Fin 7328) : EReal := A0 m c (ix2 r q)

theorem blk0 (a : Fin 384) (l : Fin 512) : X0_0 m c t (ix2 a l) = zrow (zr m c (row t a)) l := by
  refine Eq.trans ?_ (entry_v23 m c (row t a) l)
  unfold X0_0 Pipeline.Window.fill
  rw [dif_pos (moved0_0 t _)]
  blk_ext [iblk, idx_val t, row]

theorem blk1 (j : Fin 256) : iblk m c 1 t (ix2 0 j) = A1 m c (ix1 j) := by
  refine Eq.trans ?_ (src_v24 m c j)
  blk_ext [iblk, idx_val t]

theorem blk2 (j : Fin 128) : iblk m c 2 t (ix2 0 j) = A2 m c (ix1 j) := by
  refine Eq.trans ?_ (src_v25 m c j)
  blk_ext [iblk, idx_val t]

theorem blk3 (k : Fin 256) (p : Fin 1024) : iblk m c 3 t (ix2 k p) = V m c main_v29 (ix2 k p) := by
  blk_ext [iblk, idx_val t]

theorem blk4 (k : Fin 128) (p : Fin 1536) : iblk m c 4 t (ix2 k p) = V m c main_v30 (ix2 k p) := by
  blk_ext [iblk, idx_val t]

theorem blk5 (a : Fin 384) (l : Fin 128) : iblk m c 5 t (ix2 a l) = tabc (fun j => A5 m c (ix2 (row t a) j)) l := by
  refine Eq.trans ?_ (entry_v5 m c (row t a) l)
  blk_ext [iblk, idx_val t, row]

theorem blk6 (a : Fin 384) (l : Fin 128) : iblk m c 6 t (ix2 a l) = tabs (fun j => A6 m c (ix2 (row t a) j)) l := by
  refine Eq.trans ?_ (entry_v6 m c (row t a) l)
  blk_ext [iblk, idx_val t, row]

theorem blk7 (a : Fin 384) (l : Fin 128) : iblk m c 7 t (ix2 a l) = tabm (fun j => A6 m c (ix2 (row t a) j)) l := by
  refine Eq.trans ?_ (entry_v8 m c (row t a) l)
  blk_ext [iblk, idx_val t, row]

abbrev zq (h : ∀ a : Fin 2, (![0, 0] : Fin 2 → ℕ) a + (![384, 256] : Fin 2 → ℕ) a ≤ S384x512.size a) : FVec Ideal S384x256 .f32 := View.ld (S := S384x512) (X0_0 m c t) (Rect.unit ![0, 0] ![384, 256] h)
abbrev zk (h : ∀ a : Fin 2, (![0, 256] : Fin 2 → ℕ) a + (![384, 128] : Fin 2 → ℕ) a ≤ S384x512.size a) : FVec Ideal S384x128 .f32 := View.ld (S := S384x512) (X0_0 m c t) (Rect.unit ![0, 256] ![384, 128] h)
abbrev zp (h : ∀ a : Fin 2, (![0, 384] : Fin 2 → ℕ) a + (![384, 128] : Fin 2 → ℕ) a ≤ S384x512.size a) : FVec Ideal S384x128 .f32 := View.ld (S := S384x512) (X0_0 m c t) (Rect.unit ![0, 384] ![384, 128] h)

theorem zq_at (h) (a : Fin 384) (b : Fin 256) : zq m c t h (ix2 a b) = zr m c (row t a) ⟨512 + b.val, by omega⟩ := by
  refine Eq.trans ?_ ((blk0 m c t a ⟨b.val, by omega⟩).trans ?_)
  · exact View.ld_unit_apply_of _ _ _ _ _ _ (fun i => by fin_cases i <;> simp)
  · exact dif_pos (show b.val < 384 by omega)

theorem zk_at (h) (a : Fin 384) (b : Fin 128) : zk m c t h (ix2 a b) = zr m c (row t a) ⟨768 + b.val, by omega⟩ := by
  refine Eq.trans ?_ ((blk0 m c t a ⟨256 + b.val, by omega⟩).trans ?_)
  · exact View.ld_unit_apply_of _ _ _ _ _ _ (fun i => by fin_cases i <;> simp)
  · exact (dif_pos (show 256 + b.val < 384 by omega)).trans (congrArg (zr m c (row t a)) (Fin.ext (by dsimp only; omega)))

/-- The row the rotation of the keys reads. -/
def ropein (z : Fin 7328 → EReal) (l : Fin 128) : EReal :=
  if h : 64 ≤ l.val ∧ l.val < 96 then z ⟨896 + (l.val - 64), by omega⟩ else 0

theorem zp_at (h) (a : Fin 384) (b : Fin 128) : zp m c t h (ix2 a b) = ropein (zr m c (row t a)) b := by
  refine Eq.trans ?_ ((blk0 m c t a ⟨384 + b.val, by omega⟩).trans ?_)
  · exact View.ld_unit_apply_of _ _ _ _ _ _ (fun i => by fin_cases i <;> simp)
  · unfold zrow ropein
    rw [dif_neg (show ¬384 + b.val < 384 by omega)]
    by_cases h1 : b.val < 64
    · rw [dif_pos (show 384 + b.val - 384 < 64 by omega), dif_neg (by omega)]
    · rw [dif_neg (show ¬384 + b.val - 384 < 64 by omega)]
      by_cases h2 : b.val < 96
      · rw [dif_pos (show 384 + b.val - 384 - 64 < 32 by omega), dif_pos ⟨by omega, h2⟩]
        exact congrArg (zr m c (row t a)) (Fin.ext (by dsimp only; omega))
      · rw [dif_neg (show ¬384 + b.val - 384 - 64 < 32 by omega), dif_neg (by omega)]

open Cert.Reference10Ideal.At

theorem qn_blk (h) (a : Fin 384) (k : Fin 256) : k0_pay4 (zq m c t h) (iblk m c 1 t) (ix2 a k) = qn (A0 m c) (A1 m c) (row t a) k := by
  refine (pay4_at ..).trans ?_
  unfold qn
  exact congrArg₂ (fun x g => hnorm c256 x g k) (funext fun k => zq_at m c t h a k) (funext fun k => blk1 m c t k)

theorem kn_blk (h) (a : Fin 384) (k : Fin 128) : k0_pay5 (zk m c t h) (iblk m c 2 t) (ix2 a k) = kn (A0 m c) (A2 m c) (row t a) k := by
  refine (pay5_at ..).trans ?_
  unfold kn
  exact congrArg₂ (fun x g => hnorm c128 x g k) (funext fun k => zk_at m c t h a k) (funext fun k => blk2 m c t k)

/-- The queries' padded head before the rotation. -/
def qpad (r : Fin 4224) (h : Fin 8) (l : Fin 128) : EReal :=
  if hl : l.val < 96 then qr (A0 m c) (A1 m c) (A3 m c) r ⟨h.val * 96 + l.val, by omega⟩ else 0

theorem q_raw (hz) (a : Fin 384) (h : Fin 8) (l : Fin 128) :
    k0_pay8 (k0_pay4 (zq m c t hz) (iblk m c 1 t)) (iblk m c 3 t) (ix2 a ⟨h.val * 128 + l.val, by omega⟩) = qpad m c (row t a) h l := by
  refine (pay8_at ..).trans ?_
  unfold qpad
  by_cases hl : l.val < 96
  · rw [dif_pos hl]
    refine Finset.sum_congr rfl fun k _ => congrArg₂ (· * ·) (qn_blk m c t hz a k) ?_
    exact (blk3 m c t k _).trans ((entry_v29 m c k h l).trans (dif_pos hl))
  · rw [dif_neg hl]
    refine Finset.sum_eq_zero fun k _ => ?_
    rw [blk3, entry_v29, dif_neg hl, mul_zero]

theorem k_raw (hz) (a : Fin 384) (h : Fin 8) (l : Fin 128) :
    k0_pay9 (k0_pay5 (zk m c t hz) (iblk m c 2 t)) (iblk m c 4 t) (ix2 a ⟨h.val * 128 + l.val, by omega⟩)
      = if hl : l.val < 64 then kr (A0 m c) (A2 m c) (A4 m c) (row t a) ⟨h.val * 128 + l.val, by omega⟩ else 0 := by
  refine (pay9_at ..).trans ?_
  by_cases hl : l.val < 64
  · rw [dif_pos hl]
    refine Finset.sum_congr rfl fun k _ => congrArg₂ (· * ·) (kn_blk m c t hz a k) ?_
    exact (blk4 m c t k _).trans ((entry_v30k m c k h l).trans (dif_pos hl))
  · rw [dif_neg hl]
    refine Finset.sum_eq_zero fun k _ => ?_
    rw [blk4, entry_v30k, dif_neg hl, mul_zero]

theorem v_raw (hz) (a : Fin 384) (h : Fin 8) (l : Fin 64) :
    k0_pay9 (k0_pay5 (zk m c t hz) (iblk m c 2 t)) (iblk m c 4 t) (ix2 a ⟨1024 + (h.val * 64 + l.val), by omega⟩)
      = vh (A0 m c) (A2 m c) (A4 m c) (row t a) h l := by
  refine (pay9_at ..).trans ?_
  unfold vh kr
  refine Finset.sum_congr rfl fun k _ => congrArg₂ (· * ·) (kn_blk m c t hz a k) ?_
  exact (blk4 m c t k _).trans (entry_v30v m c k h l)

theorem tabs_blk (a : Fin 384) (s : Fin 128 → EReal) (l : Fin 128) :
    spin s (fun l => k0_pay1 (iblk m c 5 t) (ix2 a l)) (fun l => k0_pay2 (iblk m c 6 t) (ix2 a l)) (fun l => k0_pay3 (iblk m c 7 t) (ix2 a l)) l
      = spin s (tabc (ang (A5 m c) (row t a))) (tabs (ang (A6 m c) (row t a))) (tabm (ang (A6 m c) (row t a))) l := by
  rw [show (fun l => k0_pay1 (iblk m c 5 t) (ix2 a l)) = tabc (ang (A5 m c) (row t a)) from funext fun l => (pay1_at ..).trans (blk5 m c t a l),
    show (fun l => k0_pay2 (iblk m c 6 t) (ix2 a l)) = tabs (ang (A6 m c) (row t a)) from funext fun l => (pay2_at ..).trans (blk6 m c t a l),
    show (fun l => k0_pay3 (iblk m c 7 t) (ix2 a l)) = tabm (ang (A6 m c) (row t a)) from funext fun l => (pay3_at ..).trans (blk7 m c t a l)]

theorem qb_blk (hz) (a : Fin 384) (h : Fin 8) (l : Fin 128) :
    qb (k0_pay1 (iblk m c 5 t)) (k0_pay2 (iblk m c 6 t)) (k0_pay3 (iblk m c 7 t)) (k0_pay4 (zq m c t hz) (iblk m c 1 t)) (iblk m c 3 t) a h l
      = qh (A0 m c) (A1 m c) (A3 m c) (A5 m c) (A6 m c) (row t a) h l := by
  unfold qb
  rw [tabs_blk, show (fun l : Fin 128 => k0_pay8 (k0_pay4 (zq m c t hz) (iblk m c 1 t)) (iblk m c 3 t) (ix2 a ⟨h.val * 128 + l.val, by omega⟩))
    = qpad m c (row t a) h from funext fun l => q_raw m c t hz a h l, spin_eq _ _ _ (fun l hl => dif_neg (by omega))]
  unfold lanes qh
  by_cases h1 : l.val < 96
  · rw [dif_pos h1, dif_pos h1]
    refine congrArg (· * qscale) ?_
    refine dite_congr rfl (fun h2 => dif_pos h1) fun h2 => ?_
    refine congrArg (fun u => turn u (ang (A5 m c) (row t a)) (ang (A6 m c) (row t a)) ⟨l.val - 64, by omega⟩) (funext fun j => ?_)
    exact dif_pos (show 64 + j.val < 96 by omega)
  · rw [dif_neg h1, dif_neg h1, zero_mul]

theorem kb_blk (hz hp) (a : Fin 384) (h : Fin 8) (l : Fin 128) :
    kb (k0_pay1 (iblk m c 5 t)) (k0_pay2 (iblk m c 6 t)) (k0_pay3 (iblk m c 7 t)) (k0_pay5 (zk m c t hz) (iblk m c 2 t)) (iblk m c 4 t) (zp m c t hp) a h l
      = kh (A0 m c) (A2 m c) (A4 m c) (A5 m c) (A6 m c) (row t a) h l := by
  unfold kb
  rw [k_raw, pay7_at, tabs_blk, show (fun l : Fin 128 => zp m c t hp (ix2 a l)) = ropein (zr m c (row t a)) from funext fun l => zp_at m c t hp a l,
    spin_eq _ _ _ (fun l hl => dif_neg (by omega))]
  unfold lanes kh lanes
  by_cases h1 : l.val < 96
  · rw [dif_pos h1, dif_pos h1]
    by_cases h2 : l.val < 64
    · rw [dif_pos h2, dif_pos h2, dif_pos h2]
      refine (congrArg (_ + ·) (?_ : ropein (zr m c (row t a)) ⟨l.val, by omega⟩ = 0)).trans (add_zero _)
      exact dif_neg (by dsimp only; omega)
    · rw [dif_neg h2, dif_neg h2, dif_neg h2, zero_add]
      refine congrArg (fun u => turn u (ang (A5 m c) (row t a)) (ang (A6 m c) (row t a)) ⟨l.val - 64, by omega⟩) (funext fun j => ?_)
      refine (dif_pos (show 64 ≤ 64 + j.val ∧ 64 + j.val < 96 by omega)).trans ?_
      exact congrArg (zr m c (row t a)) (Fin.ext (by dsimp only; omega))
  · rw [dif_neg h1, dif_neg h1, dif_neg (by omega), add_zero]

end

end Cert.Kernel10Ideal.Value
-- ==== Proof.Final10.lean ====
/-
  The attention's projections: the tenth kernel's arrays are the tenth reference's results.
-/
module

public import proofs.«01_k».proof.Proof.Spin10
public import proofs.«01_k».proof.Proof.Gen.Kernel10Ideal.Value
public import proofs.«01_k».proof.Proof.Blk10
public import Idealize.ShloMosaic.Lib.Pipeline.ValueKit
public import Idealize.ShloMosaic.Lib.Claim
public import Idealize.ShloMosaic.Lib.Pointwise
public import Idealize.ShloMosaic.Lib.StableHlo.RunRead

@[expose] public section

set_option maxRecDepth 16384

noncomputable section

namespace Cert.Kernel10Ideal.Value

open Cert.Kernel10Ideal Cert.Kernel10Ideal.Gen Cert.Row Idealize.ShloMosaic Idealize.ShloMosaic.TcCoe Idealize.SL.Sem

variable (m : (ℓ : Loc nD τ sig) → Buf (Elt Ideal) ℓ)

section
variable (c : Dev nD) (t : Fin cfg0.N)

open Cert.Reference10Ideal.At

theorem q0_blk (hz) (x : S384x128.Idx) : k0_pay10 (k0_pay1 (iblk m c 5 t)) (k0_pay2 (iblk m c 6 t)) (k0_pay3 (iblk m c 7 t)) (k0_pay4 (zq m c t hz) (iblk m c 1 t)) (iblk m c 3 t) x
    = Cert.Reference10Ideal.Read.val_main_v72 (F := Ideal) (A0 m c) (A1 m c) (A3 m c) (A5 m c) (A6 m c) (ix2 (row t (x 0)) ⟨0 + (x 1).val, by have : (x 1).val < 128 := (x 1).isLt; omega⟩) := by
  obtain ⟨a, l, rfl⟩ := ix2_of x
  refine (q0_at ..).trans ((qb_blk m c t hz a 0 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k0_blk (hz hp) (x : S384x128.Idx) : k0_pay11 (k0_pay1 (iblk m c 5 t)) (k0_pay2 (iblk m c 6 t)) (k0_pay3 (iblk m c 7 t)) (k0_pay5 (zk m c t hz) (iblk m c 2 t)) (zp m c t hp) (iblk m c 4 t) x
    = Cert.Reference10Ideal.Read.val_main_v75 (F := Ideal) (A0 m c) (A2 m c) (A4 m c) (A5 m c) (A6 m c) (ix2 (row t (x 0)) ⟨0 + (x 1).val, by have : (x 1).val < 128 := (x 1).isLt; omega⟩) := by
  obtain ⟨a, l, rfl⟩ := ix2_of x
  refine (k0_at ..).trans ((kb_blk m c t hz hp a 0 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q1_blk (hz) (x : S384x128.Idx) : k0_pay13 (k0_pay1 (iblk m c 5 t)) (k0_pay2 (iblk m c 6 t)) (k0_pay3 (iblk m c 7 t)) (k0_pay12 (k0_pay4 (zq m c t hz) (iblk m c 1 t)) (iblk m c 3 t)) x
    = Cert.Reference10Ideal.Read.val_main_v72 (F := Ideal) (A0 m c) (A1 m c) (A3 m c) (A5 m c) (A6 m c) (ix2 (row t (x 0)) ⟨128 + (x 1).val, by have : (x 1).val < 128 := (x 1).isLt; omega⟩) := by
  obtain ⟨a, l, rfl⟩ := ix2_of x
  refine (q1_at ..).trans ((qb_blk m c t hz a 1 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k1_blk (hz hp) (x : S384x128.Idx) : k0_pay14 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨128 + (x 1).val, by have : (x 1).val < 128 := (x 1).isLt; omega⟩) := by
  obtain ⟨a, l, rfl⟩ := ix2_of x
  refine (k1_at ..).trans ((kb_blk m c t hz hp a 1 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q2_blk (hz) (x : S384x128.Idx) : k0_pay15 (k0_pay1 (iblk m c 5 t)) (k0_pay2 (iblk m c 6 t)) (k0_pay3 (iblk m c 7 t)) (k0_pay8 (k0_pay4 (zq m c t hz) (iblk m c 1 t)) (iblk m c 3 t)) x
    = Cert.Reference10Ideal.Read.val_main_v72 (F := Ideal) (A0 m c) (A1 m c) (A3 m c) (A5 m c) (A6 m c) (ix2 (row t (x 0)) ⟨256 + (x 1).val, by have : (x 1).val < 128 := (x 1).isLt; omega⟩) := by
  obtain ⟨a, l, rfl⟩ := ix2_of x
  refine (q2_at ..).trans ((qb_blk m c t hz a 2 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k2_blk (hz hp) (x : S384x128.Idx) : k0_pay16 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨256 + (x 1).val, by have : (x 1).val < 128 := (x 1).isLt; omega⟩) := by
  obtain ⟨a, l, rfl⟩ := ix2_of x
  refine (k2_at ..).trans ((kb_blk m c t hz hp a 2 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q3_blk (hz) (x : S384x128.Idx) : k0_pay18 (k0_pay17 (k0_pay1 (iblk m c 5 t)) (k0_pay2 (iblk m c 6 t)) (k0_pay3 (iblk m c 7 t)) (k0_pay8 (k0_pay4 (zq m c t hz) (iblk m c 1 t)) (iblk m c 3 t))) qscale x
    = Cert.Reference10Ideal.Read.val_main_v72 (F := Ideal) (A0 m c) (A1 m c) (A3 m c) (A5 m c) (A6 m c) (ix2 (row t (x 0)) ⟨384 + (x 1).val, by have : (x 1).val < 128 := (x 1).isLt; omega⟩) := by
  obtain ⟨a, l, rfl⟩ := ix2_of x
  refine (q3_at ..).trans ((qb_blk m c t hz a 3 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k3_blk (hz hp) (x : S384x128.Idx) : k0_pay19 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨384 + (x 1).val, by have : (x 1).val < 128 := (x 1).isLt; omega⟩) := by
  obtain ⟨a, l, rfl⟩ := ix2_of x
  refine (k3_at ..).trans ((kb_blk m c t hz hp a 3 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q4_blk (hz) (x : S384x128.Idx) : k0_pay20 (k0_pay1 (iblk m c 5 t)) (k0_pay2 (iblk m c 6 t)) (k0_pay3 (iblk m c 7 t)) (k0_pay8 (k0_pay4 (zq m c t hz) (iblk m c 1 t)) (iblk m c 3 t)) x
    = Cert.Reference10Ideal.Read.val_main_v72 (F := Ideal) (A0 m c) (A1 m c) (A3 m c) (A5 m c) (A6 m c) (ix2 (row t (x 0)) ⟨512 + (x 1).val, by have : (x 1).val < 128 := (x 1).isLt; omega⟩) := by
  obtain ⟨a, l, rfl⟩ := ix2_of x
  refine (q4_at ..).trans ((qb_blk m c t hz a 4 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k4_blk (hz hp) (x : S384x128.Idx) : k0_pay21 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨512 + (x 1).val, by have : (x 1).val < 128 := (x 1).isLt; omega⟩) := by
  obtain ⟨a, l, rfl⟩ := ix2_of x
  refine (k4_at ..).trans ((kb_blk m c t hz hp a 4 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q5_blk (hz) (x : S384x128.Idx) : k0_pay22 (k0_pay1 (iblk m c 5 t)) (k0_pay2 (iblk m c 6 t)) (k0_pay3 (iblk m c 7 t)) (k0_pay8 (k0_pay4 (zq m c t hz) (iblk m c 1 t)) (iblk m c 3 t)) x
    = Cert.Reference10Ideal.Read.val_main_v72 (F := Ideal) (A0 m c) (A1 m c) (A3 m c) (A5 m c) (A6 m c) (ix2 (row t (x 0)) ⟨640 + (x 1).val, by have : (x 1).val < 128 := (x 1).isLt; omega⟩) := by
  obtain ⟨a, l, rfl⟩ := ix2_of x
  refine (q5_at ..).trans ((qb_blk m c t hz a 5 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k5_blk (hz hp) (x : S384x128.Idx) : k0_pay23 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨640 + (x 1).val, by have : (x 1).val < 128 := (x 1).isLt; omega⟩) := by
  obtain ⟨a, l, rfl⟩ := ix2_of x
  refine (k5_at ..).trans ((kb_blk m c t hz hp a 5 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q6_blk (hz) (x : S384x128.Idx) : k0_pay24 (k0_pay1 (iblk m c 5 t)) (k0_pay2 (iblk m c 6 t)) (k0_pay3 (iblk m c 7 t)) (k0_pay8 (k0_pay4 (zq m c t hz) (iblk m c 1 t)) (iblk m c 3 t)) x
    = Cert.Reference10Ideal.Read.val_main_v72 (F := Ideal) (A0 m c) (A1 m c) (A3 m c) (A5 m c) (A6 m c) (ix2 (row t (x 0)) ⟨768 + (x 1).val, by have : (x 1).val < 128 := (x 1).isLt; omega⟩) := by
  obtain ⟨a, l, rfl⟩ := ix2_of x
  refine (q6_at ..).trans ((qb_blk m c t hz a 6 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k6_blk (hz hp) (x : S384x128.Idx) : k0_pay25 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨768 + (x 1).val, by have : (x 1).val < 128 := (x 1).isLt; omega⟩) := by
  obtain ⟨a, l, rfl⟩ := ix2_of x
  refine (k6_at ..).trans ((kb_blk m c t hz hp a 6 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem q7_blk (hz) (x : S384x128.Idx) : k0_pay26 (k0_pay1 (iblk m c 5 t)) (k0_pay2 (iblk m c 6 t)) (k0_pay3 (iblk m c 7 t)) (k0_pay8 (k0_pay4 (zq m c t hz) (iblk m c 1 t)) (iblk m c 3 t)) x
    = Cert.Reference10Ideal.Read.val_main_v72 (F := Ideal) (A0 m c) (A1 m c) (A3 m c) (A5 m c) (A6 m c) (ix2 (row t (x 0)) ⟨896 + (x 1).val, by have : (x 1).val < 128 := (x 1).isLt; omega⟩) := by
  obtain ⟨a, l, rfl⟩ := ix2_of x
  refine (q7_at ..).trans ((qb_blk m c t hz a 7 l).trans ((q72_at ..).symm.trans ?_))
  exact congrArg (fun q => Cert.Reference10Ideal.Read.val_main_v72 (F := Ideal) (A0 m c) (A1 m c) (A3 m c) (A5 m c) (A6 m c) (ix2 (row t a) q)) (Fin.ext (by simp))

theorem k7_blk (hz hp) (x : S384x128.Idx) : k0_pay27 (k0_pay7 (k0_pay1 (iblk m c 5 t)) (k0_pay2 (iblk m c 6 t)) (k0_pay3 (iblk m c 7 t)) (zp m c t hp)) (k0_pay9 (k0_pay5 (zk m c t hz) (iblk m c 2 t)) (iblk m c 4 t)) x
    = Cert.Reference10Ideal.Read.val_main_v75 (F := Ideal) (A0 m c) (A2 m c) (A4 m c) (A5 m c) (A6 m c) (ix2 (row t (x 0)) ⟨896 + (x 1).val, by have : (x 1).val < 128 := (x 1).isLt; omega⟩) := by
  obtain ⟨a, l, rfl⟩ := ix2_of x
  refine (k7_at ..).trans ((kb_blk m c t hz hp a 7 l).trans ((k75_at ..).symm.trans ?_))
  exact congrArg (fun q => Cert.Reference10Ideal.Read.val_main_v75 (F := Ideal) (A0 m c) (A2 m c) (A4 m c) (A5 m c) (A6 m c) (ix2 (row t a) q)) (Fin.ext (by simp))

theorem v_blk (hz) (a : Fin 384) (p : Fin 512) : k0_pay28 (k0_pay9 (k0_pay5 (zk m c t hz) (iblk m c 2 t)) (iblk m c 4 t)) (ix2 a p) = Cert.Reference10Ideal.Read.val_main_v77 (F := Ideal) (A0 m c) (A2 m c) (A4 m c) (ix2 (row t a) p) := by
  obtain ⟨h, l, e⟩ : ∃ (h : Fin 8) (l : Fin 64), p = ⟨h.val * 64 + l.val, by omega⟩ :=
    ⟨⟨p.val / 64, by omega⟩, ⟨p.val % 64, by omega⟩, Fin.ext (by dsimp only; omega)⟩
  subst e
  exact (pay28_at ..).trans ((v_raw m c t hz a h l).trans (v77_at ..).symm)

theorem kn16_blk (hz) (a : Fin 384) (k : Fin 128) : k0_pay6 (k0_pay5 (zk m c t hz) (iblk m c 2 t)) (ix2 a k) = kn (A0 m c) (A2 m c) (row t a) k :=
  (pay6_at ..).trans (kn_blk m c t hz a k)

end

set_option maxHeartbeats 1600000 in
theorem final_8 (c : Dev nD) :
    (dats m 0 c).arrAt 8 (cfgs 0).N = Cert.Reference10Ideal.Read.val_main_v68 (F := Ideal) (A0 m c) (A1 m c) := by
  refine (dats m 0 c).arrAt_eq_of_covers 8 _ (by decide +kernel) fun t hf y => ?_
  blk_simp; rw [after0_8]
  obtain ⟨a, b, rfl⟩ := ix2_of y
  unfold outsAt0 out0_A_8; dsimp only; frame_out
  refine (qn_blk m c t _ a b).trans ((Cert.Reference10Ideal.At.qn16_at .. : Cert.Reference10Ideal.Read.val_main_v68 (F := Ideal) (A0 m c) (A1 m c) (ix2 (row t a) b) = _).symm.trans ?_)
  blk_ext [idx_val t, row]

set_option maxHeartbeats 1600000 in
theorem final_9 (c : Dev nD) :
    (dats m 0 c).arrAt 9 (cfgs 0).N = Cert.Reference10Ideal.Read.val_main_v69 (F := Ideal) (A0 m c) (A2 m c) := by
  refine (dats m 0 c).arrAt_eq_of_covers 9 _ (by decide +kernel) fun t hf y => ?_
  blk_simp; rw [after0_9]
  obtain ⟨a, b, rfl⟩ := ix2_of y
  unfold outsAt0 out0_A_9; dsimp only; frame_out
  refine (kn16_blk m c t _ a b).trans ((Cert.Reference10Ideal.At.kn16_at .. : Cert.Reference10Ideal.Read.val_main_v69 (F := Ideal) (A0 m c) (A2 m c) (ix2 (row t a) b) = _).symm.trans ?_)
  blk_ext [idx_val t, row]

set_option maxHeartbeats 1600000 in
theorem final_10 (c : Dev nD) :
    (dats m 0 c).arrAt 10 (cfgs 0).N = Cert.Reference10Ideal.Read.val_main_v72 (F := Ideal) (A0 m c) (A1 m c) (A3 m c) (A5 m c) (A6 m c) := by
  refine (dats m 0 c).arrAt_eq_of_covers 10 _ (by decide +kernel) fun t hf y => ?_
  blk_simp; rw [after0_10]
  unfold outsAt0 out0_A_10; dsimp only; frame_out
  canon_tiles x h0
  · exact (q7_blk m c t _ x).trans (by blk_ext [idx_val t, row])
  · exact (q6_blk m c t _ x).trans (by blk_ext [idx_val t, row])
  · exact (q5_blk m c t _ x).trans (by blk_ext [idx_val t, row])
  · exact (q4_blk m c t _ x).trans (by blk_ext [idx_val t, row])
  · exact (q3_blk m c t _ x).trans (by blk_ext [idx_val t, row])
  · exact (q2_blk m c t _ x).trans (by blk_ext [idx_val t, row])
  · exact (q1_blk m c t _ x).trans (by blk_ext [idx_val t, row])
  · exact (q0_blk m c t _ x).trans (by blk_ext [idx_val t, row])

set_option maxHeartbeats 1600000 in
theorem final_11 (c : Dev nD) :
    (dats m 0 c).arrAt 11 (cfgs 0).N = Cert.Reference10Ideal.Read.val_main_v75 (F := Ideal) (A0 m c) (A2 m c) (A4 m c) (A5 m c) (A6 m c) := by
  refine (dats m 0 c).arrAt_eq_of_covers 11 _ (by decide +kernel) fun t hf y => ?_
  blk_simp; rw [after0_11]
  unfold outsAt0 out0_A_11; dsimp only; frame_out
  canon_tiles x h0
  · exact (k7_blk m c t _ _ x).trans (by blk_ext [idx_val t, row])
  · exact (k6_blk m c t _ _ x).trans (by blk_ext [idx_val t, row])
  · exact (k5_blk m c t _ _ x).trans (by blk_ext [idx_val t, row])
  · exact (k4_blk m c t _ _ x).trans (by blk_ext [idx_val t, row])
  · exact (k3_blk m c t _ _ x).trans (by blk_ext [idx_val t, row])
  · exact (k2_blk m c t _ _ x).trans (by blk_ext [idx_val t, row])
  · exact (k1_blk m c t _ _ x).trans (by blk_ext [idx_val t, row])
  · exact (k0_blk m c t _ _ x).trans (by blk_ext [idx_val t, row])

set_option maxHeartbeats 1600000 in
theorem final_12 (c : Dev nD) :
    (dats m 0 c).arrAt 12 (cfgs 0).N = Cert.Reference10Ideal.Read.val_main_v77 (F := Ideal) (A0 m c) (A2 m c) (A4 m c) := by
  refine (dats m 0 c).arrAt_eq_of_covers 12 _ (by decide +kernel) fun t hf y => ?_
  blk_simp; rw [after0_12]
  obtain ⟨a, b, rfl⟩ := ix2_of y
  unfold outsAt0 out0_A_12; dsimp only; frame_out
  refine (v_blk m c t _ a b).trans ?_
  blk_ext [idx_val t, row]

end Cert.Kernel10Ideal.Value
-- ==== Proof.lean ====
/-
  The proof of `Cert.Claim` (proofs.«01_k».proof.Defs): the frames, and the values of each call.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Run1
public import proofs.«01_k».proof.Proof.Sums
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Run2
public import proofs.«01_k».proof.Proof.Final2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Run3
public import proofs.«01_k».proof.Proof.Final3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Run4
public import proofs.«01_k».proof.Proof.Final4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Run5
public import proofs.«01_k».proof.Proof.Final5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Run6
public import proofs.«01_k».proof.Proof.Final6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Run7
public import proofs.«01_k».proof.Proof.Final7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Run8
public import proofs.«01_k».proof.Proof.Final8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Run9
public import proofs.«01_k».proof.Proof.Final9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Run10
public import proofs.«01_k».proof.Proof.Final10
public import Idealize.ShloMosaic.Adequacy
public import Idealize.ShloMosaic.Init

@[expose] public section

noncomputable section

namespace Cert.Proof

open Idealize.ShloMosaic Idealize.ShloMosaic.TcCoe Idealize.SL.Sem

/-- The reference terminates, leaves its arguments as they were, and has no semaphores. -/
theorem reference_frame : Cert.quiescent_ReferenceIdeal := fun m ρ _ =>
  (θ_run Cert.ReferenceIdeal.defs _ _).mono
    (fun r h => ⟨fun c => (h c).2.2.2.2.2.2, sem_eq_zero_of_no_sems (by decide) r.2⟩) (Cert.ReferenceIdeal.named_run m ρ)

set_option maxHeartbeats 1600000 in
/-- The merge's six arrays are the reference's six results. -/
theorem merge_values : Cert.algebraic_KernelIdeal_ReferenceIdeal := by
  pair_intro
  · run_from Cert.KernelIdeal.Gen.run_main m g
  · run_from Cert.ReferenceIdeal.named_run m' g'
    · exact (Cert.KernelIdeal.Value.final_8 m c).symm
    · exact (Cert.KernelIdeal.Value.final_9 m c).symm
    · exact (Cert.KernelIdeal.Value.final_10 m c).symm
    · exact (Cert.KernelIdeal.Value.final_11 m c).symm
    · exact (Cert.KernelIdeal.Value.final_12 m c).symm
    · exact (Cert.KernelIdeal.Value.final_13 m c).symm

/-- The reference terminates, leaves its arguments as they were, and has no semaphores. -/
theorem reference2_frame : Cert.quiescent_Reference2Ideal := fun m ρ _ =>
  (θ_run Cert.Reference2Ideal.defs _ _).mono
    (fun r h => ⟨fun c => (h c).2.2, sem_eq_zero_of_no_sems (by decide) r.2⟩) (Cert.Reference2Ideal.named_run m ρ)

set_option maxHeartbeats 1600000 in
/-- The projection's gradient's two arrays are the reference's two results. -/
theorem dh_values : Cert.algebraic_Kernel2Ideal_Reference2Ideal := by
  pair_intro
  · run_from Cert.Kernel2Ideal.Gen.run_main m g
  · run_from Cert.Reference2Ideal.named_run m' g'
    · exact (Cert.Kernel2Ideal.Value.final_7 m c).symm
    · exact (Cert.Kernel2Ideal.Value.final_8 m c).symm

/-- The reference terminates, leaves its arguments as they were, and has no semaphores. -/
theorem reference3_frame : Cert.quiescent_Reference3Ideal := fun m ρ _ =>
  (θ_run Cert.Reference3Ideal.defs _ _).mono
    (fun r h => ⟨fun c => (h c).2, sem_eq_zero_of_no_sems (by decide) r.2⟩) (Cert.Reference3Ideal.named_run m ρ)

set_option maxHeartbeats 1600000 in
/-- The gradient of the projection's gate columns is the reference's result. -/
theorem gate_weight_values : Cert.algebraic_Kernel3Ideal_Reference3Ideal := by
  pair_intro
  · run_from Cert.Kernel3Ideal.Gen.run_main m g
  · run_from Cert.Reference3Ideal.named_run m' g'
    exact (Cert.Kernel3Ideal.Value.final_2 m c).symm

/-- The reference terminates, leaves its arguments as they were, and has no semaphores. -/
theorem reference4_frame : Cert.quiescent_Reference4Ideal := fun m ρ _ =>
  (θ_run Cert.Reference4Ideal.defs _ _).mono
    (fun r h => ⟨fun c => (h c).2, sem_eq_zero_of_no_sems (by decide) r.2⟩) (Cert.Reference4Ideal.named_run m ρ)

set_option maxHeartbeats 1600000 in
/-- The gradient of the projection's state columns is the reference's result. -/
theorem state_weight_values : Cert.algebraic_Kernel4Ideal_Reference4Ideal := by
  pair_intro
  · run_from Cert.Kernel4Ideal.Gen.run_main m g
  · run_from Cert.Reference4Ideal.named_run m' g'
    exact (Cert.Kernel4Ideal.Value.final_2 m c).symm

/-- The reference terminates, leaves its arguments as they were, and has no semaphores. -/
theorem reference5_frame : Cert.quiescent_Reference5Ideal := fun m ρ _ =>
  (θ_run Cert.Reference5Ideal.defs _ _).mono
    (fun r h => ⟨fun c => (h c).2, sem_eq_zero_of_no_sems (by decide) r.2⟩) (Cert.Reference5Ideal.named_run m ρ)

set_option maxHeartbeats 1600000 in
/-- The gradient of the branches' output weights is the reference's result. -/
theorem branch_weight_values : Cert.algebraic_Kernel5Ideal_Reference5Ideal := by
  pair_intro
  · run_from Cert.Kernel5Ideal.Gen.run_main m g
  · run_from Cert.Reference5Ideal.named_run m' g'
    exact (Cert.Kernel5Ideal.Value.final_2 m c).symm

/-- The reference terminates, leaves its arguments as they were, and has no semaphores. -/
theorem reference6_frame : Cert.quiescent_Reference6Ideal := fun m ρ _ =>
  (θ_run Cert.Reference6Ideal.defs _ _).mono
    (fun r h => ⟨fun c => (h c).2, sem_eq_zero_of_no_sems (by decide) r.2⟩) (Cert.Reference6Ideal.named_run m ρ)

set_option maxHeartbeats 1600000 in
/-- The gradient of the output projection's weights is the reference's result. -/
theorem output_weight_values : Cert.algebraic_Kernel6Ideal_Reference6Ideal := by
  pair_intro
  · run_from Cert.Kernel6Ideal.Gen.run_main m g
  · run_from Cert.Reference6Ideal.named_run m' g'
    exact (Cert.Kernel6Ideal.Value.final_2 m c).symm

/-- The reference terminates, leaves its arguments as they were, and has no semaphores. -/
theorem reference7_frame : Cert.quiescent_Reference7Ideal := fun m ρ _ =>
  (θ_run Cert.Reference7Ideal.defs _ _).mono
    (fun r h => ⟨fun c => (h c).2, sem_eq_zero_of_no_sems (by decide) r.2⟩) (Cert.Reference7Ideal.named_run m ρ)

set_option maxHeartbeats 1600000 in
/-- The input projection's array is the reference's result. -/
theorem projection_values : Cert.algebraic_Kernel7Ideal_Reference7Ideal := by
  pair_intro
  · run_from Cert.Kernel7Ideal.Gen.run_main m g
  · run_from Cert.Reference7Ideal.named_run m' g'
    exact (Cert.Kernel7Ideal.Value.final_2 m c).symm

/-- The reference terminates, leaves its arguments as they were, and has no semaphores. -/
theorem reference8_frame : Cert.quiescent_Reference8Ideal := fun m ρ _ =>
  (θ_run Cert.Reference8Ideal.defs _ _).mono
    (fun r h => ⟨fun c => (h c).2.2.2.2, sem_eq_zero_of_no_sems (by decide) r.2⟩) (Cert.Reference8Ideal.named_run m ρ)

set_option maxHeartbeats 1600000 in
/-- The forward merge's four arrays are the reference's four results. -/
theorem merge_forward_values : Cert.algebraic_Kernel8Ideal_Reference8Ideal := by
  pair_intro
  · run_from Cert.Kernel8Ideal.Gen.run_main m g
  · run_from Cert.Reference8Ideal.named_run m' g'
    · exact (Cert.Kernel8Ideal.Value.final_8 m c).symm
    · exact (Cert.Kernel8Ideal.Value.final_9 m c).symm
    · exact (Cert.Kernel8Ideal.Value.final_10 m c).symm
    · exact (Cert.Kernel8Ideal.Value.final_11 m c).symm

/-- The reference terminates, leaves its arguments as they were, and has no semaphores. -/
theorem reference9_frame : Cert.quiescent_Reference9Ideal := fun m ρ _ =>
  (θ_run Cert.Reference9Ideal.defs _ _).mono
    (fun r h => ⟨fun c => (h c).2, sem_eq_zero_of_no_sems (by decide) r.2⟩) (Cert.Reference9Ideal.named_run m ρ)

set_option maxHeartbeats 1600000 in
/-- The gradient of the projection's attention columns is the reference's result. -/
theorem attention_weight_values : Cert.algebraic_Kernel9Ideal_Reference9Ideal := by
  pair_intro
  · run_from Cert.Kernel9Ideal.Gen.run_main m g
  · run_from Cert.Reference9Ideal.named_run m' g'
    exact (Cert.Kernel9Ideal.Value.final_2 m c).symm

/-- The reference terminates, leaves its arguments as they were, and has no semaphores. -/
theorem reference10_frame : Cert.quiescent_Reference10Ideal := fun m ρ _ =>
  (θ_run Cert.Reference10Ideal.defs _ _).mono
    (fun r h => ⟨fun c => (h c).2.2.2.2.2, sem_eq_zero_of_no_sems (by decide) r.2⟩) (Cert.Reference10Ideal.named_run m ρ)

set_option maxHeartbeats 1600000 in
/-- The attention's projections' five arrays are the reference's five results. -/
theorem attention_projection_values : Cert.algebraic_Kernel10Ideal_Reference10Ideal := by
  pair_intro
  · run_from Cert.Kernel10Ideal.Gen.run_main m g
    all_goals first | exact Cert.Kernel10Ideal.Gen.V_main_arg0 m c | exact Cert.Kernel10Ideal.Gen.V_main_arg1 m c | exact Cert.Kernel10Ideal.Gen.V_main_arg2 m c | exact Cert.Kernel10Ideal.Gen.V_main_arg3 m c | exact Cert.Kernel10Ideal.Gen.V_main_arg4 m c | exact Cert.Kernel10Ideal.Gen.V_main_arg5 m c | exact Cert.Kernel10Ideal.Gen.V_main_arg6 m c
  · run_from Cert.Reference10Ideal.named_run m' g'
    · exact (Cert.Kernel10Ideal.Value.final_8 m c).symm
    · exact (Cert.Kernel10Ideal.Value.final_9 m c).symm
    · exact (Cert.Kernel10Ideal.Value.final_10 m c).symm
    · exact (Cert.Kernel10Ideal.Value.final_11 m c).symm
    · exact (Cert.Kernel10Ideal.Value.final_12 m c).symm
    all_goals first | exact Cert.Kernel10Ideal.Gen.V_main_arg0 m c | exact Cert.Kernel10Ideal.Gen.V_main_arg1 m c | exact Cert.Kernel10Ideal.Gen.V_main_arg2 m c | exact Cert.Kernel10Ideal.Gen.V_main_arg3 m c | exact Cert.Kernel10Ideal.Gen.V_main_arg4 m c | exact Cert.Kernel10Ideal.Gen.V_main_arg5 m c | exact Cert.Kernel10Ideal.Gen.V_main_arg6 m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  fun m ρ _ => Cert.Kernel.Gen.frame m ρ,
  fun m ρ _ => Cert.KernelIdeal.Gen.frame m ρ,
  reference_frame,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  trivial, merge_values,
  trivial, dh_values,
  trivial, gate_weight_values,
  trivial, state_weight_values,
  trivial, branch_weight_values,
  trivial, output_weight_values,
  trivial, projection_values,
  trivial, merge_forward_values,
  trivial, attention_weight_values,
  trivial, attention_projection_values⟩

end Cert.Proof

end
